-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "score_scale_log2e" .f32 0x3E38AA3B#32 (((Real.sqrt 64)⁻¹ * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4x3x16x64 : Shape := ⟨4, ![4, 3, 16, 64]⟩
abbrev S4x3x1x64 : Shape := ⟨4, ![4, 3, 1, 64]⟩
abbrev S4x131072x1x64 : Shape := ⟨4, ![4, 131072, 1, 64]⟩
abbrev S4x131072x1 : Shape := ⟨3, ![4, 131072, 1]⟩
abbrev S4 : Shape := ⟨1, ![4]⟩
abbrev S_ : Shape := ⟨0, ![]⟩
abbrev S4x3x1 : Shape := ⟨3, ![4, 3, 1]⟩

class Facts : Prop where
  bitsLt_bf16_f32 : FTy.bits .bf16 < FTy.bits .f32
  reducesTo_S4x3x1x64_S4x3x1_d3 : S4x3x1x64.ReducesTo [3] S4x3x1
  h_S_ : 0 < S_.numel
  bcast_S_S4x3x1 : S_.BroadcastsInDim S4x3x1 (![] : Fin 0 → Fin S4x3x1.rank)
  reducesTo_S4x3x1_S_d0_1_2 : S4x3x1.ReducesTo [0, 1, 2] S_

variable [Facts]

def fn_part1 {F : FTy → Type} [FloatOps F] (main_v13 : IVec S_ 1) (main_v16 : FVec F S4x3x1 .f32) : IVec S_ 1 :=
  let main_cst_5 : FVec F S_ .f32 := constant S_ .f32 0x3B124925#32
  let main_v17 : FVec F S4x3x1 .f32 := broadcastInDim S4x3x1 ![] bcast_S_S4x3x1 main_cst_5
  let main_v18 : FVec F S4x3x1 .f32 := mulf main_v16 main_v17
  let main_cst_6 : FVec F S_ .f32 := constant S_ .f32 0x00800000#32
  let main_v19 : FVec F S4x3x1 .f32 := broadcastInDim S4x3x1 ![] bcast_S_S4x3x1 main_cst_6
  let main_v20 : IVec S4x3x1 1 := cmpf .oge main_v18 main_v19
  let main_cst_7 : FVec F S_ .f32 := constant S_ .f32 0x7F7F0000#32
  let main_v21 : FVec F S4x3x1 .f32 := broadcastInDim S4x3x1 ![] bcast_S_S4x3x1 main_cst_7
  let main_v22 : IVec S4x3x1 1 := cmpf .ole main_v16 main_v21
  let main_v23 : IVec S4x3x1 1 := andi main_v20 main_v22
  let main_cst_8 : FVec F S_ .f32 := constant S_ .f32 0x00000000#32
  let main_v24 : FVec F S4x3x1 .f32 := broadcastInDim S4x3x1 ![] bcast_S_S4x3x1 main_cst_8
  let main_v25 : IVec S4x3x1 1 := cmpf .oeq main_v16 main_v24
  let main_v26 : IVec S4x3x1 1 := ori main_v25 main_v23
  let main_c_9 : IVec S_ 1 := constantI S_ 1 1#1
  let main_v27 : IVec S_ 1 := (fun x v => Host.reduce IntOp.andi x v reducesTo_S4x3x1_S_d0_1_2 h_S_) main_v26 main_c_9
  let main_v28 : IVec S_ 1 := andi main_v13 main_v27
  main_v28

def fn {F : FTy → Type} [FloatOps F] (main_arg0 : FVec F S4x3x16x64 .bf16) (main_arg1 : FVec F S4x3x1x64 .bf16) (main_arg2 : FVec F S4x3x1x64 .bf16) (main_arg3 : FVec F S4x131072x1x64 .fp8e4m3) (main_arg4 : FVec F S4x131072x1x64 .fp8e4m3) (main_arg5 : FVec F S4x131072x1 .f32) (main_arg6 : FVec F S4x131072x1 .f32) (main_arg7 : IVec S4 32) : IVec S_ 1 :=
  let main_v0 : FVec F S4x3x1x64 .f32 := (extf .f32 · bitsLt_bf16_f32) main_arg1
  let main_v1 : FVec F S4x3x1x64 .f32 := Host.absf main_v0
  let main_cst : FVec F S_ .f32 := constant S_ .f32 0xFF800000#32
  let main_v2 : FVec F S4x3x1 .f32 := (fun x v => Host.reduce FloatOps.maximumf x v reducesTo_S4x3x1x64_S4x3x1_d3 h_S_) main_v1 main_cst
  let main_cst_0 : FVec F S_ .f32 := constant S_ .f32 0x3B124925#32
  let main_v3 : FVec F S4x3x1 .f32 := broadcastInDim S4x3x1 ![] bcast_S_S4x3x1 main_cst_0
  let main_v4 : FVec F S4x3x1 .f32 := mulf main_v2 main_v3
  let main_cst_1 : FVec F S_ .f32 := constant S_ .f32 0x00800000#32
  let main_v5 : FVec F S4x3x1 .f32 := broadcastInDim S4x3x1 ![] bcast_S_S4x3x1 main_cst_1
  let main_v6 : IVec S4x3x1 1 := cmpf .oge main_v4 main_v5
  let main_cst_2 : FVec F S_ .f32 := constant S_ .f32 0x7F7F0000#32
  let main_v7 : FVec F S4x3x1 .f32 := broadcastInDim S4x3x1 ![] bcast_S_S4x3x1 main_cst_2
  let main_v8 : IVec S4x3x1 1 := cmpf .ole main_v2 main_v7
  let main_v9 : IVec S4x3x1 1 := andi main_v6 main_v8
  let main_cst_3 : FVec F S_ .f32 := constant S_ .f32 0x00000000#32
  let main_v10 : FVec F S4x3x1 .f32 := broadcastInDim S4x3x1 ![] bcast_S_S4x3x1 main_cst_3
  let main_v11 : IVec S4x3x1 1 := cmpf .oeq main_v2 main_v10
  let main_v12 : IVec S4x3x1 1 := ori main_v11 main_v9
  let main_c : IVec S_ 1 := constantI S_ 1 1#1
  let main_v13 : IVec S_ 1 := (fun x v => Host.reduce IntOp.andi x v reducesTo_S4x3x1_S_d0_1_2 h_S_) main_v12 main_c
  let main_v14 : FVec F S4x3x1x64 .f32 := (extf .f32 · bitsLt_bf16_f32) main_arg2
  let main_v15 : FVec F S4x3x1x64 .f32 := Host.absf main_v14
  let main_cst_4 : FVec F S_ .f32 := constant S_ .f32 0xFF800000#32
  let main_v16 : FVec F S4x3x1 .f32 := (fun x v => Host.reduce FloatOps.maximumf x v reducesTo_S4x3x1x64_S4x3x1_d3 h_S_) main_v15 main_cst_4
  fn_part1 (F := F) main_v13 main_v16
-- ==== Kernel.lean ====
abbrev S4x3x16x64 : Shape := ⟨4, ![4, 3, 16, 64]⟩
abbrev S4x3x1x64 : Shape := ⟨4, ![4, 3, 1, 64]⟩
abbrev S4x131072x1x64 : Shape := ⟨4, ![4, 131072, 1, 64]⟩
abbrev S4x131072x1 : Shape := ⟨3, ![4, 131072, 1]⟩
abbrev S4 : Shape := ⟨1, ![4]⟩
abbrev S192x64 : Shape := ⟨2, ![192, 64]⟩
abbrev S4x3x64 : Shape := ⟨3, ![4, 3, 64]⟩
abbrev S3x4x64 : Shape := ⟨3, ![3, 4, 64]⟩
abbrev S4x131072x64 : Shape := ⟨3, ![4, 131072, 64]⟩
abbrev S4x64x131072 : Shape := ⟨3, ![4, 64, 131072]⟩
abbrev S4x1x131072 : Shape := ⟨3, ![4, 1, 131072]⟩
abbrev S3x4x1024 : Shape := ⟨3, ![3, 4, 1024]⟩
abbrev S3x1x4 : Shape := ⟨3, ![3, 1, 4]⟩
abbrev S256x1280 : Shape := ⟨2, ![256, 1280]⟩
abbrev S4x1x1152 : Shape := ⟨3, ![4, 1, 1152]⟩
abbrev S_ : Shape := ⟨0, ![]⟩
abbrev S3 : Shape := ⟨1, ![3]⟩
abbrev S16 : Shape := ⟨1, ![16]⟩
abbrev S1 : Shape := ⟨1, ![1]⟩
abbrev S64x1152 : Shape := ⟨2, ![64, 1152]⟩
abbrev S1x64x1152 : Shape := ⟨3, ![1, 64, 1152]⟩
abbrev S1x1x1152 : Shape := ⟨3, ![1, 1, 1152]⟩
abbrev S1x1152 : Shape := ⟨2, ![1, 1152]⟩
abbrev S8x128 : Shape := ⟨2, ![8, 128]⟩
abbrev S3x4 : Shape := ⟨2, ![3, 4]⟩
abbrev S3x4x1 : Shape := ⟨3, ![3, 4, 1]⟩
abbrev S3x8x64 : Shape := ⟨3, ![3, 8, 64]⟩
abbrev S24x64 : Shape := ⟨2, ![24, 64]⟩
abbrev S104x64 : Shape := ⟨2, ![104, 64]⟩
abbrev S1x128 : Shape := ⟨2, ![1, 128]⟩
abbrev S1x4x1 : Shape := ⟨3, ![1, 4, 1]⟩
abbrev S4x1 : Shape := ⟨2, ![4, 1]⟩
abbrev S4x128 : Shape := ⟨2, ![4, 128]⟩
abbrev S128 : Shape := ⟨1, ![128]⟩
abbrev S1x4 : Shape := ⟨2, ![1, 4]⟩
abbrev S1x1x4 : Shape := ⟨3, ![1, 1, 4]⟩
abbrev S256x64 : Shape := ⟨2, ![256, 64]⟩
abbrev S256x256 : Shape := ⟨2, ![256, 256]⟩
abbrev S256x128 : Shape := ⟨2, ![256, 128]⟩
abbrev S192x192 : Shape := ⟨2, ![192, 192]⟩
abbrev S64x256 : Shape := ⟨2, ![64, 256]⟩
abbrev S192x256 : Shape := ⟨2, ![192, 256]⟩
abbrev S8x1152 : Shape := ⟨2, ![8, 1152]⟩
abbrev S8x1280 : Shape := ⟨2, ![8, 1280]⟩
abbrev S192x1280 : Shape := ⟨2, ![192, 1280]⟩
abbrev S3x8x8x1280 : Shape := ⟨4, ![3, 8, 8, 1280]⟩
abbrev S1x1x8x1280 : Shape := ⟨4, ![1, 1, 8, 1280]⟩
abbrev S1x8x1280 : Shape := ⟨3, ![1, 8, 1280]⟩
abbrev S3x8x1280 : Shape := ⟨3, ![3, 8, 1280]⟩
abbrev S3x1x8x1280 : Shape := ⟨4, ![3, 1, 8, 1280]⟩
abbrev S3x8x8 : Shape := ⟨3, ![3, 8, 8]⟩
abbrev S3x8x8x1 : Shape := ⟨4, ![3, 8, 8, 1]⟩
abbrev S24x8x256 : Shape := ⟨3, ![24, 8, 256]⟩
abbrev S24x8x128 : Shape := ⟨3, ![24, 8, 128]⟩
abbrev S24x8x1 : Shape := ⟨3, ![24, 8, 1]⟩
abbrev S1x8x128 : Shape := ⟨3, ![1, 8, 128]⟩
abbrev S1x4x128 : Shape := ⟨3, ![1, 4, 128]⟩
abbrev S4x3x1024 : Shape := ⟨3, ![4, 3, 1024]⟩
abbrev S4x3x1 : Shape := ⟨3, ![4, 3, 1]⟩

abbrev nBuf : Space → Nat
  | .hbm => 31
  | .vmem => 12
  | .smem => 1
  | _ => 0

abbrev bufTy : (tb : Table) → Fin (tcTables nBuf tb) → BufTy
  | .hbm, ⟨0, _⟩ => ⟨S4x3x16x64, .bf16⟩
  | .hbm, ⟨1, _⟩ => ⟨S4x3x1x64, .bf16⟩
  | .hbm, ⟨2, _⟩ => ⟨S4x3x1x64, .bf16⟩
  | .hbm, ⟨3, _⟩ => ⟨S4x131072x1x64, .fp8e4m3⟩
  | .hbm, ⟨4, _⟩ => ⟨S4x131072x1x64, .fp8e4m3⟩
  | .hbm, ⟨5, _⟩ => ⟨S4x131072x1, .f32⟩
  | .hbm, ⟨6, _⟩ => ⟨S4x131072x1, .f32⟩
  | .hbm, ⟨7, _⟩ => ⟨S4, .i32⟩
  | .hbm, ⟨8, _⟩ => ⟨S192x64, .bf16⟩
  | .hbm, ⟨9, _⟩ => ⟨S4x3x64, .bf16⟩
  | .hbm, ⟨10, _⟩ => ⟨S3x4x64, .bf16⟩
  | .hbm, ⟨11, _⟩ => ⟨S4x3x64, .bf16⟩
  | .hbm, ⟨12, _⟩ => ⟨S3x4x64, .bf16⟩
  | .hbm, ⟨13, _⟩ => ⟨S4x131072x64, .fp8e4m3⟩
  | .hbm, ⟨14, _⟩ => ⟨S4x64x131072, .fp8e4m3⟩
  | .hbm, ⟨15, _⟩ => ⟨S4x131072x64, .fp8e4m3⟩
  | .hbm, ⟨16, _⟩ => ⟨S4x64x131072, .fp8e4m3⟩
  | .hbm, ⟨17, _⟩ => ⟨S4x1x131072, .f32⟩
  | .hbm, ⟨18, _⟩ => ⟨S4x1x131072, .f32⟩
  | .hbm, ⟨19, _⟩ => ⟨S3x4x1024, .bf16⟩
  | .hbm, ⟨20, _⟩ => ⟨S3x4x64, .fp8e4m3⟩
  | .hbm, ⟨21, _⟩ => ⟨S3x1x4, .f32⟩
  | .hbm, ⟨22, _⟩ => ⟨S3x4x64, .fp8e4m3⟩
  | .hbm, ⟨23, _⟩ => ⟨S3x1x4, .f32⟩
  | .hbm, ⟨24, _⟩ => ⟨S4x3x1024, .bf16⟩
  | .hbm, ⟨25, _⟩ => ⟨S4x3x64, .fp8e4m3⟩
  | .hbm, ⟨26, _⟩ => ⟨S4x3x1x64, .fp8e4m3⟩
  | .hbm, ⟨27, _⟩ => ⟨S4x3x1, .f32⟩
  | .hbm, ⟨28, _⟩ => ⟨S4x3x64, .fp8e4m3⟩
  | .hbm, ⟨29, _⟩ => ⟨S4x3x1x64, .fp8e4m3⟩
  | .hbm, ⟨30, _⟩ => ⟨S4x3x1, .f32⟩
  | .local _ .vmem, ⟨0, _⟩ => ⟨S192x64, .bf16⟩
  | .local _ .vmem, ⟨1, _⟩ => ⟨S3x4x64, .bf16⟩
  | .local _ .vmem, ⟨2, _⟩ => ⟨S3x4x64, .bf16⟩
  | .local _ .vmem, ⟨3, _⟩ => ⟨S256x1280, .fp8e4m3⟩
  | .local _ .vmem, ⟨4, _⟩ => ⟨S256x1280, .fp8e4m3⟩
  | .local _ .vmem, ⟨5, _⟩ => ⟨S4x1x1152, .f32⟩
  | .local _ .vmem, ⟨6, _⟩ => ⟨S4x1x1152, .f32⟩
  | .local _ .vmem, ⟨7, _⟩ => ⟨S3x4x1024, .bf16⟩
  | .local _ .vmem, ⟨8, _⟩ => ⟨S3x4x64, .fp8e4m3⟩
  | .local _ .vmem, ⟨9, _⟩ => ⟨S3x1x4, .f32⟩
  | .local _ .vmem, ⟨10, _⟩ => ⟨S3x4x64, .fp8e4m3⟩
  | .local _ .vmem, ⟨11, _⟩ => ⟨S3x1x4, .f32⟩
  | .local _ .smem, ⟨0, _⟩ => ⟨S4, .i32⟩
  | _, _ => ⟨S4x3x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

def k0_mult1 (v6 : BitVec 32) : BitVec 32 :=
  let c129920_i32 : BitVec 32 := 129920#32
  let c0_i32_0 : BitVec 32 := 0#32
  let c1024_i32 : BitVec 32 := 1024#32
  let v7 : BitVec 32 := Scalar.subi v6 c1024_i32
  let v8 : BitVec 32 := Scalar.maxsi c0_i32_0 v7
  let v9 : BitVec 32 := Scalar.minsi c129920_i32 v8
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c128_i32 : BitVec 32 := 128#32
  let c0_i32_3 : BitVec 32 := 0#32
  let v16 : BitVec 1 := Scalar.cmpi .sgt c128_i32 c0_i32_3
  let v17 : BitVec 32 := Scalar.extui v16
  let c0_i32_4 : BitVec 32 := 0#32
  let v18 : BitVec 1 := Scalar.cmpi .slt c128_i32 c0_i32_4
  let v19 : BitVec 32 := Scalar.extui v18
  let v20 : BitVec 32 := Scalar.subi v17 v19
  let v21 : BitVec 1 := Scalar.cmpi .ne v15 v20
  let v22 : BitVec 32 := Scalar.remsi v9 c128_i32
  let c0_i32_5 : BitVec 32 := 0#32
  let v23 : BitVec 1 := Scalar.cmpi .ne v22 c0_i32_5
  let v24 : BitVec 1 := Scalar.andi v21 v23
  let v10 : BitVec 32 := Scalar.divsi v9 c128_i32
  let c1_i32_6 : BitVec 32 := 1#32
  let v25 : BitVec 32 := Scalar.subi v10 c1_i32_6
  let v26 : BitVec 32 := Scalar.select v24 v25 v10
  let c128_i32_7 : BitVec 32 := 128#32
  let v27 : BitVec 32 := Scalar.muli v26 c128_i32_7
  v27

def k0_mult2 (v30 : BitVec 32) : BitVec 32 :=
  let c129920_i32_10 : BitVec 32 := 129920#32
  let c0_i32_9 : BitVec 32 := 0#32
  let c1024_i32_8 : BitVec 32 := 1024#32
  let v31 : BitVec 32 := Scalar.subi v30 c1024_i32_8
  let v32 : BitVec 32 := Scalar.maxsi c0_i32_9 v31
  let v33 : BitVec 32 := Scalar.minsi c129920_i32_10 v32
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c128_i32_11 : BitVec 32 := 128#32
  let c0_i32_14 : BitVec 32 := 0#32
  let v40 : BitVec 1 := Scalar.cmpi .sgt c128_i32_11 c0_i32_14
  let v41 : BitVec 32 := Scalar.extui v40
  let c0_i32_15 : BitVec 32 := 0#32
  let v42 : BitVec 1 := Scalar.cmpi .slt c128_i32_11 c0_i32_15
  let v43 : BitVec 32 := Scalar.extui v42
  let v44 : BitVec 32 := Scalar.subi v41 v43
  let v45 : BitVec 1 := Scalar.cmpi .ne v39 v44
  let v46 : BitVec 32 := Scalar.remsi v33 c128_i32_11
  let c0_i32_16 : BitVec 32 := 0#32
  let v47 : BitVec 1 := Scalar.cmpi .ne v46 c0_i32_16
  let v48 : BitVec 1 := Scalar.andi v45 v47
  let v34 : BitVec 32 := Scalar.divsi v33 c128_i32_11
  let c1_i32_17 : BitVec 32 := 1#32
  let v49 : BitVec 32 := Scalar.subi v34 c1_i32_17
  let v50 : BitVec 32 := Scalar.select v48 v49 v34
  let c128_i32_18 : BitVec 32 := 128#32
  let v51 : BitVec 32 := Scalar.muli v50 c128_i32_18
  v51

def k0_mult3 (v54 : BitVec 32) : BitVec 32 :=
  let c129920_i32_21 : BitVec 32 := 129920#32
  let c0_i32_20 : BitVec 32 := 0#32
  let c1024_i32_19 : BitVec 32 := 1024#32
  let v55 : BitVec 32 := Scalar.subi v54 c1024_i32_19
  let v56 : BitVec 32 := Scalar.maxsi c0_i32_20 v55
  let v57 : BitVec 32 := Scalar.minsi c129920_i32_21 v56
  let c0_i32_23 : BitVec 32 := 0#32
  let v59 : BitVec 1 := Scalar.cmpi .sgt v57 c0_i32_23
  let v60 : BitVec 32 := Scalar.extui v59
  let c0_i32_24 : BitVec 32 := 0#32
  let v61 : BitVec 1 := Scalar.cmpi .slt v57 c0_i32_24
  let v62 : BitVec 32 := Scalar.extui v61
  let v63 : BitVec 32 := Scalar.subi v60 v62
  let c128_i32_22 : BitVec 32 := 128#32
  let c0_i32_25 : BitVec 32 := 0#32
  let v64 : BitVec 1 := Scalar.cmpi .sgt c128_i32_22 c0_i32_25
  let v65 : BitVec 32 := Scalar.extui v64
  let c0_i32_26 : BitVec 32 := 0#32
  let v66 : BitVec 1 := Scalar.cmpi .slt c128_i32_22 c0_i32_26
  let v67 : BitVec 32 := Scalar.extui v66
  let v68 : BitVec 32 := Scalar.subi v65 v67
  let v69 : BitVec 1 := Scalar.cmpi .ne v63 v68
  let v70 : BitVec 32 := Scalar.remsi v57 c128_i32_22
  let c0_i32_27 : BitVec 32 := 0#32
  let v71 : BitVec 1 := Scalar.cmpi .ne v70 c0_i32_27
  let v72 : BitVec 1 := Scalar.andi v69 v71
  let v58 : BitVec 32 := Scalar.divsi v57 c128_i32_22
  let c1_i32_28 : BitVec 32 := 1#32
  let v73 : BitVec 32 := Scalar.subi v58 c1_i32_28
  let v74 : BitVec 32 := Scalar.select v72 v73 v58
  let c128_i32_29 : BitVec 32 := 128#32
  let v75 : BitVec 32 := Scalar.muli v74 c128_i32_29
  v75

def k0_mult4 (v78 : BitVec 32) : BitVec 32 :=
  let c129920_i32_32 : BitVec 32 := 129920#32
  let c0_i32_31 : BitVec 32 := 0#32
  let c1024_i32_30 : BitVec 32 := 1024#32
  let v79 : BitVec 32 := Scalar.subi v78 c1024_i32_30
  let v80 : BitVec 32 := Scalar.maxsi c0_i32_31 v79
  let v81 : BitVec 32 := Scalar.minsi c129920_i32_32 v80
  let c0_i32_34 : BitVec 32 := 0#32
  let v83 : BitVec 1 := Scalar.cmpi .sgt v81 c0_i32_34
  let v84 : BitVec 32 := Scalar.extui v83
  let c0_i32_35 : BitVec 32 := 0#32
  let v85 : BitVec 1 := Scalar.cmpi .slt v81 c0_i32_35
  let v86 : BitVec 32 := Scalar.extui v85
  let v87 : BitVec 32 := Scalar.subi v84 v86
  let c128_i32_33 : BitVec 32 := 128#32
  let c0_i32_36 : BitVec 32 := 0#32
  let v88 : BitVec 1 := Scalar.cmpi .sgt c128_i32_33 c0_i32_36
  let v89 : BitVec 32 := Scalar.extui v88
  let c0_i32_37 : BitVec 32 := 0#32
  let v90 : BitVec 1 := Scalar.cmpi .slt c128_i32_33 c0_i32_37
  let v91 : BitVec 32 := Scalar.extui v90
  let v92 : BitVec 32 := Scalar.subi v89 v91
  let v93 : BitVec 1 := Scalar.cmpi .ne v87 v92
  let v94 : BitVec 32 := Scalar.remsi v81 c128_i32_33
  let c0_i32_38 : BitVec 32 := 0#32
  let v95 : BitVec 1 := Scalar.cmpi .ne v94 c0_i32_38
  let v96 : BitVec 1 := Scalar.andi v93 v95
  let v82 : BitVec 32 := Scalar.divsi v81 c128_i32_33
  let c1_i32_39 : BitVec 32 := 1#32
  let v97 : BitVec 32 := Scalar.subi v82 c1_i32_39
  let v98 : BitVec 32 := Scalar.select v96 v97 v82
  let c128_i32_40 : BitVec 32 := 128#32
  let v99 : BitVec 32 := Scalar.muli v98 c128_i32_40
  v99

def k0_off1 (v6 : BitVec 32) : Fin 3 → Nat :=
  let c0_i32_41 : BitVec 32 := 0#32
  let c0_i32_45 : BitVec 32 := 0#32
  let c129920_i32 : BitVec 32 := 129920#32
  let c0_i32_0 : BitVec 32 := 0#32
  let c1024_i32 : BitVec 32 := 1024#32
  let v7 : BitVec 32 := Scalar.subi v6 c1024_i32
  let v8 : BitVec 32 := Scalar.maxsi c0_i32_0 v7
  let v9 : BitVec 32 := Scalar.minsi c129920_i32 v8
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c128_i32 : BitVec 32 := 128#32
  let c0_i32_3 : BitVec 32 := 0#32
  let v16 : BitVec 1 := Scalar.cmpi .sgt c128_i32 c0_i32_3
  let v17 : BitVec 32 := Scalar.extui v16
  let c0_i32_4 : BitVec 32 := 0#32
  let v18 : BitVec 1 := Scalar.cmpi .slt c128_i32 c0_i32_4
  let v19 : BitVec 32 := Scalar.extui v18
  let v20 : BitVec 32 := Scalar.subi v17 v19
  let v21 : BitVec 1 := Scalar.cmpi .ne v15 v20
  let v22 : BitVec 32 := Scalar.remsi v9 c128_i32
  let c0_i32_5 : BitVec 32 := 0#32
  let v23 : BitVec 1 := Scalar.cmpi .ne v22 c0_i32_5
  let v24 : BitVec 1 := Scalar.andi v21 v23
  let v10 : BitVec 32 := Scalar.divsi v9 c128_i32
  let c1_i32_6 : BitVec 32 := 1#32
  let v25 : BitVec 32 := Scalar.subi v10 c1_i32_6
  let v26 : BitVec 32 := Scalar.select v24 v25 v10
  let c128_i32_7 : BitVec 32 := 128#32
  let v27 : BitVec 32 := Scalar.muli v26 c128_i32_7
  let v28 : BitVec 32 := v27
  ![0, 0, v28.toNat]
def k0_off2 (v6 : BitVec 32) : Fin 3 → Nat :=
  let c0_i32_46 : BitVec 32 := 0#32
  let c0_i32_51 : BitVec 32 := 0#32
  let c129920_i32 : BitVec 32 := 129920#32
  let c0_i32_0 : BitVec 32 := 0#32
  let c1024_i32 : BitVec 32 := 1024#32
  let v7 : BitVec 32 := Scalar.subi v6 c1024_i32
  let v8 : BitVec 32 := Scalar.maxsi c0_i32_0 v7
  let v9 : BitVec 32 := Scalar.minsi c129920_i32 v8
  let c0_i32_1 : BitVec 32 := 0#32
  let v11 : BitVec 1 := Scalar.cmpi .sgt v9 c0_i32_1
  let v12 : BitVec 32 := Scalar.extui v11
  let c0_i32_2 : BitVec 32 := 0#32
  let v13 : BitVec 1 := Scalar.cmpi .slt v9 c0_i32_2
  let v14 : BitVec 32 := Scalar.extui v13
  let v15 : BitVec 32 := Scalar.subi v12 v14
  let c128_i32 : BitVec 32 := 128#32
  let c0_i32_3 : BitVec 32 := 0#32
  let v16 : BitVec 1 := Scalar.cmpi .sgt c128_i32 c0_i32_3
  let v17 : BitVec 32 := Scalar.extui v16
  let c0_i32_4 : BitVec 32 := 0#32
  let v18 : BitVec 1 := Scalar.cmpi .slt c128_i32 c0_i32_4
  let v19 : BitVec 32 := Scalar.extui v18
  let v20 : BitVec 32 := Scalar.subi v17 v19
  let v21 : BitVec 1 := Scalar.cmpi .ne v15 v20
  let v22 : BitVec 32 := Scalar.remsi v9 c128_i32
  let c0_i32_5 : BitVec 32 := 0#32
  let v23 : BitVec 1 := Scalar.cmpi .ne v22 c0_i32_5
  let v24 : BitVec 1 := Scalar.andi v21 v23
  let v10 : BitVec 32 := Scalar.divsi v9 c128_i32
  let c1_i32_6 : BitVec 32 := 1#32
  let v25 : BitVec 32 := Scalar.subi v10 c1_i32_6
  let v26 : BitVec 32 := Scalar.select v24 v25 v10
  let c128_i32_7 : BitVec 32 := 128#32
  let v27 : BitVec 32 := Scalar.muli v26 c128_i32_7
  let v28 : BitVec 32 := v27
  ![0, 0, v28.toNat]

def k0_chk1 (v6 : BitVec 32) : Prop :=
  (128 ∣ (k0_mult1 v6).toNat) ∧
  (∀ a, (k0_off1 v6) a + S1x64x1152.size a ≤ S4x64x131072.size a) ∧
  (∀ (hinb : ∀ a, (k0_off1 v6) a + S1x64x1152.size a ≤ S4x64x131072.size a), (Rect.unit (s := S4x64x131072) (k0_off1 v6) S1x64x1152.size hinb).WholeWords (EltTy.packing .fp8e4m3)) ∧
  (∀ a, (k0_off2 v6) a + S1x1x1152.size a ≤ S4x1x131072.size a)
theorem k0_mult1_dvd : ∀ (v6 : BitVec 32) (k0_hw1 : k0_chk1 v6), 128 ∣ (k0_mult1 v6).toNat := fun v6 k0_hw1 => k0_hw1.1
theorem k0_off1_inb : ∀ (v6 : BitVec 32) (k0_hw1 : k0_chk1 v6), ∀ a, (k0_off1 v6) a + S1x64x1152.size a ≤ S4x64x131072.size a := fun v6 k0_hw1 => k0_hw1.2.1
theorem k0_off1_wordsfp8e4m3 : ∀ (v6 : BitVec 32) (k0_hw1 : k0_chk1 v6), (Rect.unit (s := S4x64x131072) (k0_off1 v6) S1x64x1152.size (k0_off1_inb v6 k0_hw1)).WholeWords (EltTy.packing .fp8e4m3) := fun v6 k0_hw1 => k0_hw1.2.2.1 (k0_off1_inb v6 k0_hw1)
theorem k0_off2_inb : ∀ (v6 : BitVec 32) (k0_hw1 : k0_chk1 v6), ∀ a, (k0_off2 v6) a + S1x1x1152.size a ≤ S4x1x131072.size a := fun v6 k0_hw1 => k0_hw1.2.2.2

def k0_off3 (v30 : BitVec 32) : Fin 3 → Nat :=
  let c1_i32_62 : BitVec 32 := 1#32
  let c0_i32_64 : BitVec 32 := 0#32
  let c129920_i32_10 : BitVec 32 := 129920#32
  let c0_i32_9 : BitVec 32 := 0#32
  let c1024_i32_8 : BitVec 32 := 1024#32
  let v31 : BitVec 32 := Scalar.subi v30 c1024_i32_8
  let v32 : BitVec 32 := Scalar.maxsi c0_i32_9 v31
  let v33 : BitVec 32 := Scalar.minsi c129920_i32_10 v32
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c128_i32_11 : BitVec 32 := 128#32
  let c0_i32_14 : BitVec 32 := 0#32
  let v40 : BitVec 1 := Scalar.cmpi .sgt c128_i32_11 c0_i32_14
  let v41 : BitVec 32 := Scalar.extui v40
  let c0_i32_15 : BitVec 32 := 0#32
  let v42 : BitVec 1 := Scalar.cmpi .slt c128_i32_11 c0_i32_15
  let v43 : BitVec 32 := Scalar.extui v42
  let v44 : BitVec 32 := Scalar.subi v41 v43
  let v45 : BitVec 1 := Scalar.cmpi .ne v39 v44
  let v46 : BitVec 32 := Scalar.remsi v33 c128_i32_11
  let c0_i32_16 : BitVec 32 := 0#32
  let v47 : BitVec 1 := Scalar.cmpi .ne v46 c0_i32_16
  let v48 : BitVec 1 := Scalar.andi v45 v47
  let v34 : BitVec 32 := Scalar.divsi v33 c128_i32_11
  let c1_i32_17 : BitVec 32 := 1#32
  let v49 : BitVec 32 := Scalar.subi v34 c1_i32_17
  let v50 : BitVec 32 := Scalar.select v48 v49 v34
  let c128_i32_18 : BitVec 32 := 128#32
  let v51 : BitVec 32 := Scalar.muli v50 c128_i32_18
  let v52 : BitVec 32 := v51
  ![1, 0, v52.toNat]
def k0_off4 (v30 : BitVec 32) : Fin 3 → Nat :=
  let c1_i32_65 : BitVec 32 := 1#32
  let c0_i32_69 : BitVec 32 := 0#32
  let c129920_i32_10 : BitVec 32 := 129920#32
  let c0_i32_9 : BitVec 32 := 0#32
  let c1024_i32_8 : BitVec 32 := 1024#32
  let v31 : BitVec 32 := Scalar.subi v30 c1024_i32_8
  let v32 : BitVec 32 := Scalar.maxsi c0_i32_9 v31
  let v33 : BitVec 32 := Scalar.minsi c129920_i32_10 v32
  let c0_i32_12 : BitVec 32 := 0#32
  let v35 : BitVec 1 := Scalar.cmpi .sgt v33 c0_i32_12
  let v36 : BitVec 32 := Scalar.extui v35
  let c0_i32_13 : BitVec 32 := 0#32
  let v37 : BitVec 1 := Scalar.cmpi .slt v33 c0_i32_13
  let v38 : BitVec 32 := Scalar.extui v37
  let v39 : BitVec 32 := Scalar.subi v36 v38
  let c128_i32_11 : BitVec 32 := 128#32
  let c0_i32_14 : BitVec 32 := 0#32
  let v40 : BitVec 1 := Scalar.cmpi .sgt c128_i32_11 c0_i32_14
  let v41 : BitVec 32 := Scalar.extui v40
  let c0_i32_15 : BitVec 32 := 0#32
  let v42 : BitVec 1 := Scalar.cmpi .slt c128_i32_11 c0_i32_15
  let v43 : BitVec 32 := Scalar.extui v42
  let v44 : BitVec 32 := Scalar.subi v41 v43
  let v45 : BitVec 1 := Scalar.cmpi .ne v39 v44
  let v46 : BitVec 32 := Scalar.remsi v33 c128_i32_11
  let c0_i32_16 : BitVec 32 := 0#32
  let v47 : BitVec 1 := Scalar.cmpi .ne v46 c0_i32_16
  let v48 : BitVec 1 := Scalar.andi v45 v47
  let v34 : BitVec 32 := Scalar.divsi v33 c128_i32_11
  let c1_i32_17 : BitVec 32 := 1#32
  let v49 : BitVec 32 := Scalar.subi v34 c1_i32_17
  let v50 : BitVec 32 := Scalar.select v48 v49 v34
  let c128_i32_18 : BitVec 32 := 128#32
  let v51 : BitVec 32 := Scalar.muli v50 c128_i32_18
  let v52 : BitVec 32 := v51
  ![1, 0, v52.toNat]

def k0_chk2 (v30 : BitVec 32) : Prop :=
  (128 ∣ (k0_mult2 v30).toNat) ∧
  (∀ a, (k0_off3 v30) a + S1x64x1152.size a ≤ S4x64x131072.size a) ∧
  (∀ (hinb : ∀ a, (k0_off3 v30) a + S1x64x1152.size a ≤ S4x64x131072.size a), (Rect.unit (s := S4x64x131072) (k0_off3 v30) S1x64x1152.size hinb).WholeWords (EltTy.packing .fp8e4m3)) ∧
  (∀ a, (k0_off4 v30) a + S1x1x1152.size a ≤ S4x1x131072.size a)
theorem k0_mult2_dvd : ∀ (v30 : BitVec 32) (k0_hw2 : k0_chk2 v30), 128 ∣ (k0_mult2 v30).toNat := fun v30 k0_hw2 => k0_hw2.1
theorem k0_off3_inb : ∀ (v30 : BitVec 32) (k0_hw2 : k0_chk2 v30), ∀ a, (k0_off3 v30) a + S1x64x1152.size a ≤ S4x64x131072.size a := fun v30 k0_hw2 => k0_hw2.2.1
theorem k0_off3_wordsfp8e4m3 : ∀ (v30 : BitVec 32) (k0_hw2 : k0_chk2 v30), (Rect.unit (s := S4x64x131072) (k0_off3 v30) S1x64x1152.size (k0_off3_inb v30 k0_hw2)).WholeWords (EltTy.packing .fp8e4m3) := fun v30 k0_hw2 => k0_hw2.2.2.1 (k0_off3_inb v30 k0_hw2)
theorem k0_off4_inb : ∀ (v30 : BitVec 32) (k0_hw2 : k0_chk2 v30), ∀ a, (k0_off4 v30) a + S1x1x1152.size a ≤ S4x1x131072.size a := fun v30 k0_hw2 => k0_hw2.2.2.2

def k0_off5 (v54 : BitVec 32) : Fin 3 → Nat :=
  let c2_i32_79 : BitVec 32 := 2#32
  let c0_i32_82 : BitVec 32 := 0#32
  let c129920_i32_21 : BitVec 32 := 129920#32
  let c0_i32_20 : BitVec 32 := 0#32
  let c1024_i32_19 : BitVec 32 := 1024#32
  let v55 : BitVec 32 := Scalar.subi v54 c1024_i32_19
  let v56 : BitVec 32 := Scalar.maxsi c0_i32_20 v55
  let v57 : BitVec 32 := Scalar.minsi c129920_i32_21 v56
  let c0_i32_23 : BitVec 32 := 0#32
  let v59 : BitVec 1 := Scalar.cmpi .sgt v57 c0_i32_23
  let v60 : BitVec 32 := Scalar.extui v59
  let c0_i32_24 : BitVec 32 := 0#32
  let v61 : BitVec 1 := Scalar.cmpi .slt v57 c0_i32_24
  let v62 : BitVec 32 := Scalar.extui v61
  let v63 : BitVec 32 := Scalar.subi v60 v62
  let c128_i32_22 : BitVec 32 := 128#32
  let c0_i32_25 : BitVec 32 := 0#32
  let v64 : BitVec 1 := Scalar.cmpi .sgt c128_i32_22 c0_i32_25
  let v65 : BitVec 32 := Scalar.extui v64
  let c0_i32_26 : BitVec 32 := 0#32
  let v66 : BitVec 1 := Scalar.cmpi .slt c128_i32_22 c0_i32_26
  let v67 : BitVec 32 := Scalar.extui v66
  let v68 : BitVec 32 := Scalar.subi v65 v67
  let v69 : BitVec 1 := Scalar.cmpi .ne v63 v68
  let v70 : BitVec 32 := Scalar.remsi v57 c128_i32_22
  let c0_i32_27 : BitVec 32 := 0#32
  let v71 : BitVec 1 := Scalar.cmpi .ne v70 c0_i32_27
  let v72 : BitVec 1 := Scalar.andi v69 v71
  let v58 : BitVec 32 := Scalar.divsi v57 c128_i32_22
  let c1_i32_28 : BitVec 32 := 1#32
  let v73 : BitVec 32 := Scalar.subi v58 c1_i32_28
  let v74 : BitVec 32 := Scalar.select v72 v73 v58
  let c128_i32_29 : BitVec 32 := 128#32
  let v75 : BitVec 32 := Scalar.muli v74 c128_i32_29
  let v76 : BitVec 32 := v75
  ![2, 0, v76.toNat]
def k0_off6 (v54 : BitVec 32) : Fin 3 → Nat :=
  let c2_i32_83 : BitVec 32 := 2#32
  let c0_i32_87 : BitVec 32 := 0#32
  let c129920_i32_21 : BitVec 32 := 129920#32
  let c0_i32_20 : BitVec 32 := 0#32
  let c1024_i32_19 : BitVec 32 := 1024#32
  let v55 : BitVec 32 := Scalar.subi v54 c1024_i32_19
  let v56 : BitVec 32 := Scalar.maxsi c0_i32_20 v55
  let v57 : BitVec 32 := Scalar.minsi c129920_i32_21 v56
  let c0_i32_23 : BitVec 32 := 0#32
  let v59 : BitVec 1 := Scalar.cmpi .sgt v57 c0_i32_23
  let v60 : BitVec 32 := Scalar.extui v59
  let c0_i32_24 : BitVec 32 := 0#32
  let v61 : BitVec 1 := Scalar.cmpi .slt v57 c0_i32_24
  let v62 : BitVec 32 := Scalar.extui v61
  let v63 : BitVec 32 := Scalar.subi v60 v62
  let c128_i32_22 : BitVec 32 := 128#32
  let c0_i32_25 : BitVec 32 := 0#32
  let v64 : BitVec 1 := Scalar.cmpi .sgt c128_i32_22 c0_i32_25
  let v65 : BitVec 32 := Scalar.extui v64
  let c0_i32_26 : BitVec 32 := 0#32
  let v66 : BitVec 1 := Scalar.cmpi .slt c128_i32_22 c0_i32_26
  let v67 : BitVec 32 := Scalar.extui v66
  let v68 : BitVec 32 := Scalar.subi v65 v67
  let v69 : BitVec 1 := Scalar.cmpi .ne v63 v68
  let v70 : BitVec 32 := Scalar.remsi v57 c128_i32_22
  let c0_i32_27 : BitVec 32 := 0#32
  let v71 : BitVec 1 := Scalar.cmpi .ne v70 c0_i32_27
  let v72 : BitVec 1 := Scalar.andi v69 v71
  let v58 : BitVec 32 := Scalar.divsi v57 c128_i32_22
  let c1_i32_28 : BitVec 32 := 1#32
  let v73 : BitVec 32 := Scalar.subi v58 c1_i32_28
  let v74 : BitVec 32 := Scalar.select v72 v73 v58
  let c128_i32_29 : BitVec 32 := 128#32
  let v75 : BitVec 32 := Scalar.muli v74 c128_i32_29
  let v76 : BitVec 32 := v75
  ![2, 0, v76.toNat]

def k0_chk3 (v54 : BitVec 32) : Prop :=
  (128 ∣ (k0_mult3 v54).toNat) ∧
  (∀ a, (k0_off5 v54) a + S1x64x1152.size a ≤ S4x64x131072.size a) ∧
  (∀ (hinb : ∀ a, (k0_off5 v54) a + S1x64x1152.size a ≤ S4x64x131072.size a), (Rect.unit (s := S4x64x131072) (k0_off5 v54) S1x64x1152.size hinb).WholeWords (EltTy.packing .fp8e4m3)) ∧
  (∀ a, (k0_off6 v54) a + S1x1x1152.size a ≤ S4x1x131072.size a)
theorem k0_mult3_dvd : ∀ (v54 : BitVec 32) (k0_hw3 : k0_chk3 v54), 128 ∣ (k0_mult3 v54).toNat := fun v54 k0_hw3 => k0_hw3.1
theorem k0_off5_inb : ∀ (v54 : BitVec 32) (k0_hw3 : k0_chk3 v54), ∀ a, (k0_off5 v54) a + S1x64x1152.size a ≤ S4x64x131072.size a := fun v54 k0_hw3 => k0_hw3.2.1
theorem k0_off5_wordsfp8e4m3 : ∀ (v54 : BitVec 32) (k0_hw3 : k0_chk3 v54), (Rect.unit (s := S4x64x131072) (k0_off5 v54) S1x64x1152.size (k0_off5_inb v54 k0_hw3)).WholeWords (EltTy.packing .fp8e4m3) := fun v54 k0_hw3 => k0_hw3.2.2.1 (k0_off5_inb v54 k0_hw3)
theorem k0_off6_inb : ∀ (v54 : BitVec 32) (k0_hw3 : k0_chk3 v54), ∀ a, (k0_off6 v54) a + S1x1x1152.size a ≤ S4x1x131072.size a := fun v54 k0_hw3 => k0_hw3.2.2.2

def k0_off7 (v78 : BitVec 32) : Fin 3 → Nat :=
  let c3_i32_97 : BitVec 32 := 3#32
  let c0_i32_99 : BitVec 32 := 0#32
  let c129920_i32_32 : BitVec 32 := 129920#32
  let c0_i32_31 : BitVec 32 := 0#32
  let c1024_i32_30 : BitVec 32 := 1024#32
  let v79 : BitVec 32 := Scalar.subi v78 c1024_i32_30
  let v80 : BitVec 32 := Scalar.maxsi c0_i32_31 v79
  let v81 : BitVec 32 := Scalar.minsi c129920_i32_32 v80
  let c0_i32_34 : BitVec 32 := 0#32
  let v83 : BitVec 1 := Scalar.cmpi .sgt v81 c0_i32_34
  let v84 : BitVec 32 := Scalar.extui v83
  let c0_i32_35 : BitVec 32 := 0#32
  let v85 : BitVec 1 := Scalar.cmpi .slt v81 c0_i32_35
  let v86 : BitVec 32 := Scalar.extui v85
  let v87 : BitVec 32 := Scalar.subi v84 v86
  let c128_i32_33 : BitVec 32 := 128#32
  let c0_i32_36 : BitVec 32 := 0#32
  let v88 : BitVec 1 := Scalar.cmpi .sgt c128_i32_33 c0_i32_36
  let v89 : BitVec 32 := Scalar.extui v88
  let c0_i32_37 : BitVec 32 := 0#32
  let v90 : BitVec 1 := Scalar.cmpi .slt c128_i32_33 c0_i32_37
  let v91 : BitVec 32 := Scalar.extui v90
  let v92 : BitVec 32 := Scalar.subi v89 v91
  let v93 : BitVec 1 := Scalar.cmpi .ne v87 v92
  let v94 : BitVec 32 := Scalar.remsi v81 c128_i32_33
  let c0_i32_38 : BitVec 32 := 0#32
  let v95 : BitVec 1 := Scalar.cmpi .ne v94 c0_i32_38
  let v96 : BitVec 1 := Scalar.andi v93 v95
  let v82 : BitVec 32 := Scalar.divsi v81 c128_i32_33
  let c1_i32_39 : BitVec 32 := 1#32
  let v97 : BitVec 32 := Scalar.subi v82 c1_i32_39
  let v98 : BitVec 32 := Scalar.select v96 v97 v82
  let c128_i32_40 : BitVec 32 := 128#32
  let v99 : BitVec 32 := Scalar.muli v98 c128_i32_40
  let v100 : BitVec 32 := v99
  ![3, 0, v100.toNat]
def k0_off8 (v78 : BitVec 32) : Fin 3 → Nat :=
  let c3_i32_100 : BitVec 32 := 3#32
  let c0_i32_104 : BitVec 32 := 0#32
  let c129920_i32_32 : BitVec 32 := 129920#32
  let c0_i32_31 : BitVec 32 := 0#32
  let c1024_i32_30 : BitVec 32 := 1024#32
  let v79 : BitVec 32 := Scalar.subi v78 c1024_i32_30
  let v80 : BitVec 32 := Scalar.maxsi c0_i32_31 v79
  let v81 : BitVec 32 := Scalar.minsi c129920_i32_32 v80
  let c0_i32_34 : BitVec 32 := 0#32
  let v83 : BitVec 1 := Scalar.cmpi .sgt v81 c0_i32_34
  let v84 : BitVec 32 := Scalar.extui v83
  let c0_i32_35 : BitVec 32 := 0#32
  let v85 : BitVec 1 := Scalar.cmpi .slt v81 c0_i32_35
  let v86 : BitVec 32 := Scalar.extui v85
  let v87 : BitVec 32 := Scalar.subi v84 v86
  let c128_i32_33 : BitVec 32 := 128#32
  let c0_i32_36 : BitVec 32 := 0#32
  let v88 : BitVec 1 := Scalar.cmpi .sgt c128_i32_33 c0_i32_36
  let v89 : BitVec 32 := Scalar.extui v88
  let c0_i32_37 : BitVec 32 := 0#32
  let v90 : BitVec 1 := Scalar.cmpi .slt c128_i32_33 c0_i32_37
  let v91 : BitVec 32 := Scalar.extui v90
  let v92 : BitVec 32 := Scalar.subi v89 v91
  let v93 : BitVec 1 := Scalar.cmpi .ne v87 v92
  let v94 : BitVec 32 := Scalar.remsi v81 c128_i32_33
  let c0_i32_38 : BitVec 32 := 0#32
  let v95 : BitVec 1 := Scalar.cmpi .ne v94 c0_i32_38
  let v96 : BitVec 1 := Scalar.andi v93 v95
  let v82 : BitVec 32 := Scalar.divsi v81 c128_i32_33
  let c1_i32_39 : BitVec 32 := 1#32
  let v97 : BitVec 32 := Scalar.subi v82 c1_i32_39
  let v98 : BitVec 32 := Scalar.select v96 v97 v82
  let c128_i32_40 : BitVec 32 := 128#32
  let v99 : BitVec 32 := Scalar.muli v98 c128_i32_40
  let v100 : BitVec 32 := v99
  ![3, 0, v100.toNat]

def k0_chk4 (v78 : BitVec 32) : Prop :=
  (128 ∣ (k0_mult4 v78).toNat) ∧
  (∀ a, (k0_off7 v78) a + S1x64x1152.size a ≤ S4x64x131072.size a) ∧
  (∀ (hinb : ∀ a, (k0_off7 v78) a + S1x64x1152.size a ≤ S4x64x131072.size a), (Rect.unit (s := S4x64x131072) (k0_off7 v78) S1x64x1152.size hinb).WholeWords (EltTy.packing .fp8e4m3)) ∧
  (∀ a, (k0_off8 v78) a + S1x1x1152.size a ≤ S4x1x131072.size a)
theorem k0_mult4_dvd : ∀ (v78 : BitVec 32) (k0_hw4 : k0_chk4 v78), 128 ∣ (k0_mult4 v78).toNat := fun v78 k0_hw4 => k0_hw4.1
theorem k0_off7_inb : ∀ (v78 : BitVec 32) (k0_hw4 : k0_chk4 v78), ∀ a, (k0_off7 v78) a + S1x64x1152.size a ≤ S4x64x131072.size a := fun v78 k0_hw4 => k0_hw4.2.1
theorem k0_off7_wordsfp8e4m3 : ∀ (v78 : BitVec 32) (k0_hw4 : k0_chk4 v78), (Rect.unit (s := S4x64x131072) (k0_off7 v78) S1x64x1152.size (k0_off7_inb v78 k0_hw4)).WholeWords (EltTy.packing .fp8e4m3) := fun v78 k0_hw4 => k0_hw4.2.2.1 (k0_off7_inb v78 k0_hw4)
theorem k0_off8_inb : ∀ (v78 : BitVec 32) (k0_hw4 : k0_chk4 v78), ∀ a, (k0_off8 v78) a + S1x1x1152.size a ≤ S4x1x131072.size a := fun v78 k0_hw4 => k0_hw4.2.2.2
-- ==== KernelIdeal.lean ====
variable {F : FTy → Type} [FloatOps F] [Named F]
def κ : String → Option EReal := fun
  | "score_scale_log2e" => some (((Real.sqrt 64)⁻¹ * (Real.log 2)⁻¹ : ℝ) : EReal)
  | _ => none
-- ==== ReferenceIdeal.lean ====
abbrev S4x3x16x64 : Shape := ⟨4, ![4, 3, 16, 64]⟩
abbrev S4x3x1x64 : Shape := ⟨4, ![4, 3, 1, 64]⟩
abbrev S4x131072x1x64 : Shape := ⟨4, ![4, 131072, 1, 64]⟩
abbrev S4x131072x1 : Shape := ⟨3, ![4, 131072, 1]⟩
abbrev S4 : Shape := ⟨1, ![4]⟩
abbrev S_ : Shape := ⟨0, ![]⟩
abbrev S4x3x1 : Shape := ⟨3, ![4, 3, 1]⟩
abbrev S4x3x1x1 : Shape := ⟨4, ![4, 3, 1, 1]⟩
abbrev S4x3x1x16x64 : Shape := ⟨5, ![4, 3, 1, 16, 64]⟩
abbrev S4x1 : Shape := ⟨2, ![4, 1]⟩
abbrev S1024 : Shape := ⟨1, ![1024]⟩
abbrev S1x1024 : Shape := ⟨2, ![1, 1024]⟩
abbrev S4x1024 : Shape := ⟨2, ![4, 1024]⟩
abbrev S4x1024x1x64 : Shape := ⟨4, ![4, 1024, 1, 64]⟩
abbrev S4x1024x1 : Shape := ⟨3, ![4, 1024, 1]⟩
abbrev S3 : Shape := ⟨1, ![3]⟩
abbrev S1x3 : Shape := ⟨2, ![1, 3]⟩
abbrev S4x3 : Shape := ⟨2, ![4, 3]⟩
abbrev S4x1x1024 : Shape := ⟨3, ![4, 1, 1024]⟩
abbrev S4x1x1 : Shape := ⟨3, ![4, 1, 1]⟩
abbrev S4x3x1024 : Shape := ⟨3, ![4, 3, 1024]⟩
abbrev S3x1 : Shape := ⟨2, ![3, 1]⟩
abbrev S3x3 : Shape := ⟨2, ![3, 3]⟩
abbrev S4x1x1024x3x16 : Shape := ⟨5, ![4, 1, 1024, 3, 16]⟩
abbrev S4x1x16x3x1024 : Shape := ⟨5, ![4, 1, 16, 3, 1024]⟩
abbrev S4x1x1x1x1024 : Shape := ⟨5, ![4, 1, 1, 1, 1024]⟩
abbrev S4x1x1x3x1024 : Shape := ⟨5, ![4, 1, 1, 3, 1024]⟩
abbrev S4x1x3x3x16 : Shape := ⟨5, ![4, 1, 3, 3, 16]⟩
abbrev S4x1x16x3x3 : Shape := ⟨5, ![4, 1, 16, 3, 3]⟩
abbrev S4x1x3 : Shape := ⟨3, ![4, 1, 3]⟩
abbrev S4x1x1x1x3 : Shape := ⟨5, ![4, 1, 1, 1, 3]⟩
abbrev S4x1x16x3 : Shape := ⟨4, ![4, 1, 16, 3]⟩
abbrev S4x1x16x3x1 : Shape := ⟨5, ![4, 1, 16, 3, 1]⟩
abbrev S4x1x64x16x3 : Shape := ⟨5, ![4, 1, 64, 16, 3]⟩
abbrev S4x3x1x16x1 : Shape := ⟨5, ![4, 3, 1, 16, 1]⟩

abbrev nBuf : Space → Nat
  | .hbm => 212
  | .vmem => 8
  | .smem => 0
  | _ => 0

abbrev hbmTy0_0 (i : Nat) : BufTy := match i % 128 with
  | 0 => ⟨S4x3x16x64, .bf16⟩
  | 1 => ⟨S4x3x1x64, .bf16⟩
  | 2 => ⟨S4x3x1x64, .bf16⟩
  | 3 => ⟨S4x131072x1x64, .fp8e4m3⟩
  | 4 => ⟨S4x131072x1x64, .fp8e4m3⟩
  | 5 => ⟨S4x131072x1, .f32⟩
  | 6 => ⟨S4x131072x1, .f32⟩
  | 7 => ⟨S4, .i32⟩
  | 8 => ⟨S4x3x1x64, .f32⟩
  | 9 => ⟨S4x3x1x64, .f32⟩
  | 10 => ⟨S_, .f32⟩
  | 11 => ⟨S4x3x1, .f32⟩
  | 12 => ⟨S_, .f32⟩
  | 13 => ⟨S4x3x1, .f32⟩
  | 14 => ⟨S4x3x1, .f32⟩
  | 15 => ⟨S4x3x1, .f32⟩
  | 16 => ⟨S_, .f32⟩
  | 17 => ⟨S_, .f32⟩
  | 18 => ⟨S_, .f32⟩
  | 19 => ⟨S4x3x1, .f32⟩
  | 20 => ⟨S4x3x1, .f32⟩
  | 21 => ⟨S4x3x1, .f32⟩
  | 22 => ⟨S_, .f32⟩
  | 23 => ⟨S4x3x1, .f32⟩
  | 24 => ⟨S4x3x1, .f32⟩
  | 25 => ⟨S_, .f32⟩
  | 26 => ⟨S4x3x1, .f32⟩
  | 27 => ⟨S4x3x1, .i1⟩
  | 28 => ⟨S_, .f32⟩
  | 29 => ⟨S_, .f32⟩
  | 30 => ⟨S4x3x1, .f32⟩
  | 31 => ⟨S4x3x1, .f32⟩
  | 32 => ⟨S_, .f32⟩
  | 33 => ⟨S4x3x1, .f32⟩
  | 34 => ⟨S4x3x1, .f32⟩
  | 35 => ⟨S4x3x1, .f32⟩
  | 36 => ⟨S_, .f32⟩
  | 37 => ⟨S4x3x1, .f32⟩
  | 38 => ⟨S4x3x1, .f32⟩
  | 39 => ⟨S4x3x1x1, .f32⟩
  | 40 => ⟨S4x3x1x64, .f32⟩
  | 41 => ⟨S4x3x1x64, .f32⟩
  | 42 => ⟨S_, .f32⟩
  | 43 => ⟨S4x3x1x64, .f32⟩
  | 44 => ⟨S4x3x1x64, .f32⟩
  | 45 => ⟨S_, .f32⟩
  | 46 => ⟨S4x3x1x64, .f32⟩
  | 47 => ⟨S4x3x1x64, .f32⟩
  | 48 => ⟨S4x3x1x64, .fp8e4m3⟩
  | 49 => ⟨S4x3x1x64, .f32⟩
  | 50 => ⟨S4x3x1x64, .f32⟩
  | 51 => ⟨S_, .f32⟩
  | 52 => ⟨S4x3x1, .f32⟩
  | 53 => ⟨S_, .f32⟩
  | 54 => ⟨S4x3x1, .f32⟩
  | 55 => ⟨S4x3x1, .f32⟩
  | 56 => ⟨S4x3x1, .f32⟩
  | 57 => ⟨S_, .f32⟩
  | 58 => ⟨S_, .f32⟩
  | 59 => ⟨S_, .f32⟩
  | 60 => ⟨S4x3x1, .f32⟩
  | 61 => ⟨S4x3x1, .f32⟩
  | 62 => ⟨S4x3x1, .f32⟩
  | 63 => ⟨S_, .f32⟩
  | 64 => ⟨S4x3x1, .f32⟩
  | 65 => ⟨S4x3x1, .f32⟩
  | 66 => ⟨S_, .f32⟩
  | 67 => ⟨S4x3x1, .f32⟩
  | 68 => ⟨S4x3x1, .i1⟩
  | 69 => ⟨S_, .f32⟩
  | 70 => ⟨S_, .f32⟩
  | 71 => ⟨S4x3x1, .f32⟩
  | 72 => ⟨S4x3x1, .f32⟩
  | 73 => ⟨S_, .f32⟩
  | 74 => ⟨S4x3x1, .f32⟩
  | 75 => ⟨S4x3x1, .f32⟩
  | 76 => ⟨S4x3x1, .f32⟩
  | 77 => ⟨S_, .f32⟩
  | 78 => ⟨S4x3x1, .f32⟩
  | 79 => ⟨S4x3x1, .f32⟩
  | 80 => ⟨S4x3x1x1, .f32⟩
  | 81 => ⟨S4x3x1x64, .f32⟩
  | 82 => ⟨S4x3x1x64, .f32⟩
  | 83 => ⟨S_, .f32⟩
  | 84 => ⟨S4x3x1x64, .f32⟩
  | 85 => ⟨S4x3x1x64, .f32⟩
  | 86 => ⟨S_, .f32⟩
  | 87 => ⟨S4x3x1x64, .f32⟩
  | 88 => ⟨S4x3x1x64, .f32⟩
  | 89 => ⟨S4x3x1x64, .fp8e4m3⟩
  | 90 => ⟨S4x3x1x16x64, .bf16⟩
  | 91 => ⟨S_, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4x1, .i32⟩
  | 101 => ⟨S1024, .i32⟩
  | 102 => ⟨S1x1024, .i32⟩
  | 103 => ⟨S4x1024, .i32⟩
  | 104 => ⟨S4x1024, .i32⟩
  | 105 => ⟨S4x1024, .i32⟩
  | 106 => ⟨S4x1, .i32⟩
  | 107 => ⟨S4x1024x1x64, .fp8e4m3⟩
  | 108 => ⟨S4x1, .i32⟩
  | 109 => ⟨S4x1024x1x64, .fp8e4m3⟩
  | 110 => ⟨S4x1, .i32⟩
  | 111 => ⟨S4x1024x1, .f32⟩
  | 112 => ⟨S4x1, .i32⟩
  | 113 => ⟨S4x1024x1, .f32⟩
  | 114 => ⟨S4x3x1x64, .bf16⟩
  | 115 => ⟨S4x3x1x64, .bf16⟩
  | 116 => ⟨S4x1024x1x64, .bf16⟩
  | 117 => ⟨S4x1024x1x64, .bf16⟩
  | 118 => ⟨S4x1, .i32⟩
  | 119 => ⟨S3, .i32⟩
  | 120 => ⟨S1x3, .i32⟩
  | 121 => ⟨S4x3, .i32⟩
  | 122 => ⟨S4x3, .i32⟩
  | 123 => ⟨S4x3, .i32⟩
  | 124 => ⟨S4x1x1024, .i32⟩
  | 125 => ⟨S4x1x1, .i32⟩
  | 126 => ⟨S4x1x1024, .i32⟩
  | 127 => ⟨S4x1x1024, .i1⟩
  | _ => ⟨S4x3x16x64, .bf16⟩

abbrev hbmTy0_1 (i : Nat) : BufTy := match i % 128 with
  | 0 => ⟨S4x1x1024, .i32⟩
  | 1 => ⟨S4x3x1, .i32⟩
  | 2 => ⟨S_, .i32⟩
  | 3 => ⟨S4x3x1, .i32⟩
  | 4 => ⟨S4x3x1, .i32⟩
  | 5 => ⟨S4x3x1024, .i32⟩
  | 6 => ⟨S4x3x1024, .i32⟩
  | 7 => ⟨S4x3x1024, .i1⟩
  | 8 => ⟨S4x3x1024, .i1⟩
  | 9 => ⟨S4x3x1024, .i1⟩
  | 10 => ⟨S3, .i32⟩
  | 11 => ⟨S1x3, .i32⟩
  | 12 => ⟨S3x1, .i32⟩
  | 13 => ⟨S3x3, .i32⟩
  | 14 => ⟨S3x3, .i32⟩
  | 15 => ⟨S3x3, .i1⟩
  | 16 => ⟨S4x1x1024x3x16, .f32⟩
  | 17 => ⟨S4x1x16x3x1024, .f32⟩
  | 18 => ⟨S4x1x1024, .f32⟩
  | 19 => ⟨S4x1x1x1x1024, .f32⟩
  | 20 => ⟨S_, .f32⟩
  | 21 => ⟨S4x1x1x1x1024, .f32⟩
  | 22 => ⟨S4x1x1x1x1024, .f32⟩
  | 23 => ⟨S4x1x16x3x1024, .f32⟩
  | 24 => ⟨S4x1x16x3x1024, .f32⟩
  | 25 => ⟨S4x1x1x3x1024, .i1⟩
  | 26 => ⟨S_, .f32⟩
  | 27 => ⟨S_, .f32⟩
  | 28 => ⟨S4x1x16x3x1024, .i1⟩
  | 29 => ⟨S4x1x16x3x1024, .f32⟩
  | 30 => ⟨S4x1x16x3x1024, .f32⟩
  | 31 => ⟨S4x1x3x3x16, .f32⟩
  | 32 => ⟨S4x1x16x3x3, .f32⟩
  | 33 => ⟨S4x1x3, .f32⟩
  | 34 => ⟨S4x1x1x1x3, .f32⟩
  | 35 => ⟨S_, .f32⟩
  | 36 => ⟨S4x1x1x1x3, .f32⟩
  | 37 => ⟨S4x1x1x1x3, .f32⟩
  | 38 => ⟨S4x1x16x3x3, .f32⟩
  | 39 => ⟨S4x1x16x3x3, .f32⟩
  | 40 => ⟨S_, .f32⟩
  | 41 => ⟨S_, .f32⟩
  | 42 => ⟨S4x1x16x3x3, .i1⟩
  | 43 => ⟨S4x1x16x3x3, .f32⟩
  | 44 => ⟨S4x1x16x3x3, .f32⟩
  | 45 => ⟨S_, .f32⟩
  | 46 => ⟨S4x1x16x3, .f32⟩
  | 47 => ⟨S_, .f32⟩
  | 48 => ⟨S4x1x16x3, .f32⟩
  | 49 => ⟨S4x1x16x3, .f32⟩
  | 50 => ⟨S4x1x16x3x1, .f32⟩
  | 51 => ⟨S4x1x16x3x1024, .f32⟩
  | 52 => ⟨S4x1x16x3x1024, .f32⟩
  | 53 => ⟨S4x1x16x3x1024, .f32⟩
  | 54 => ⟨S4x1x16x3x3, .f32⟩
  | 55 => ⟨S4x1x16x3x3, .f32⟩
  | 56 => ⟨S4x1x16x3x3, .f32⟩
  | 57 => ⟨S_, .f32⟩
  | 58 => ⟨S4x1x16x3, .f32⟩
  | 59 => ⟨S4x1x16x3x1, .f32⟩
  | 60 => ⟨S_, .f32⟩
  | 61 => ⟨S4x1x16x3, .f32⟩
  | 62 => ⟨S4x1x16x3x1, .f32⟩
  | 63 => ⟨S4x1x16x3x1, .f32⟩
  | 64 => ⟨S4x1x1024, .f32⟩
  | 65 => ⟨S4x1x1x1x1024, .f32⟩
  | 66 => ⟨S4x1x16x3x1024, .f32⟩
  | 67 => ⟨S4x1x16x3x1024, .f32⟩
  | 68 => ⟨S4x1x16x3x1024, .bf16⟩
  | 69 => ⟨S4x1x3, .f32⟩
  | 70 => ⟨S4x1x1x1x3, .f32⟩
  | 71 => ⟨S4x1x16x3x3, .f32⟩
  | 72 => ⟨S4x1x16x3x3, .f32⟩
  | 73 => ⟨S4x1x16x3x3, .bf16⟩
  | 74 => ⟨S4x1x64x16x3, .f32⟩
  | 75 => ⟨S4x3x1x16x64, .f32⟩
  | 76 => ⟨S4x1x64x16x3, .f32⟩
  | 77 => ⟨S4x3x1x16x64, .f32⟩
  | 78 => ⟨S4x3x1x16x64, .f32⟩
  | 79 => ⟨S4x3x1x16x1, .f32⟩
  | 80 => ⟨S4x3x1x16x64, .f32⟩
  | 81 => ⟨S4x3x1x16x64, .f32⟩
  | 82 => ⟨S4x3x1024, .f32⟩
  | 83 => ⟨S4x3x1024, .bf16⟩
  | _ => ⟨S4x3x16x64, .bf16⟩

abbrev hbmTy (i : Nat) : BufTy := match i / 128 with
  | 0 => hbmTy0_0 i
  | 1 => hbmTy0_1 i
  | _ => ⟨S4x3x16x64, .bf16⟩

abbrev bufTy : (tb : Table) → Fin (tcTables nBuf tb) → BufTy
  | .hbm, ⟨i, _⟩ => hbmTy i
  | .local _ .vmem, ⟨0, _⟩ => ⟨S4x3x1x64, .fp8e4m3⟩
  | .local _ .vmem, ⟨1, _⟩ => ⟨S4x3x1x64, .fp8e4m3⟩
  | .local _ .vmem, ⟨2, _⟩ => ⟨S4x1024x1x64, .fp8e4m3⟩
  | .local _ .vmem, ⟨3, _⟩ => ⟨S4x1024x1x64, .fp8e4m3⟩
  | .local _ .vmem, ⟨4, _⟩ => ⟨S4x3x1x64, .bf16⟩
  | .local _ .vmem, ⟨5, _⟩ => ⟨S4x3x1x64, .bf16⟩
  | .local _ .vmem, ⟨6, _⟩ => ⟨S4x1024x1x64, .bf16⟩
  | .local _ .vmem, ⟨7, _⟩ => ⟨S4x1024x1x64, .bf16⟩
  | _, _ => ⟨S4x3x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_call1_v0 : Ref sig .tc := ⟨.hbm, 70, rfl⟩
abbrev main_call1_v1 : Ref sig .tc := ⟨.hbm, 71, rfl⟩
abbrev main_v44 : Ref sig .tc := ⟨.hbm, 72, rfl⟩
abbrev main_cst_15 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_16 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_v54 : Ref sig .tc := ⟨.hbm, 85, rfl⟩
abbrev main_cst_18 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c : Ref sig .tc := ⟨.hbm, 91, rfl⟩
abbrev main_v59 : Ref sig .tc := ⟨.hbm, 92, rfl⟩
abbrev main_v60 : Ref sig .tc := ⟨.hbm, 93, rfl⟩
abbrev main_c_19 : Ref sig .tc := ⟨.hbm, 94, rfl⟩
abbrev main_v61 : Ref sig .tc := ⟨.hbm, 95, rfl⟩
abbrev main_v62 : Ref sig .tc := ⟨.hbm, 96, rfl⟩
abbrev main_c_20 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79_0 : Ref sig .tc := ⟨.hbm, 114, rfl⟩
abbrev main_v79_1 : Ref sig .tc := ⟨.hbm, 115, rfl⟩
abbrev main_v79_2 : Ref sig .tc := ⟨.hbm, 116, rfl⟩
abbrev main_v79_3 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_21 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_22 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_23 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_24 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_25 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_v123 : Ref sig .tc := ⟨.hbm, 172, rfl⟩
abbrev main_cst_26 : Ref sig .tc := ⟨.hbm, 173, rfl⟩
abbrev main_v124 : Ref sig .tc := ⟨.hbm, 174, rfl⟩
abbrev main_cst_27 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_28 : Ref sig .tc := ⟨.hbm, 185, rfl⟩
abbrev main_v134 : Ref sig .tc := ⟨.hbm, 186, rfl⟩
abbrev main_v135 : Ref sig .tc := ⟨.hbm, 187, rfl⟩
abbrev main_cst_29 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x3x1x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x1x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x1x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x1x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3x1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3x1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024x1x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024x1x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRun.lean ====
module

public import proofs.«01_k».proof.Proof.Gen.Kernel
public import proofs.«01_k».proof.Proof.Gen.Kernel.Skeleton
public import Idealize.ShloMosaic.Lib.Tactic
public import Idealize.ShloMosaic.Lib.Pipeline.FrameSuffixV

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A memref's buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's twenty-five DMA cells, one a transfer. -/
abbrev osem : Fin 25 → SemLoc sig := fun j => .dma j

/-- Their counters at zero. -/
abbrev sems0 (c : Dev nD) : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

/-- The eight operands the body's transfers read, each whole. -/
abbrev operands (c : Dev nD) (fn : Bf (F := F) c (Memref.whole main_arg7)) (fx : Bf (F := F) c (Memref.whole main_v0)) (fkn : Bf (F := F) c (Memref.whole main_v2)) (fvn : Bf (F := F) c (Memref.whole main_v4)) (fck : Bf (F := F) c (Memref.whole main_v6)) (fcv : Bf (F := F) c (Memref.whole main_v8)) (fcks : Bf (F := F) c (Memref.whole main_v9)) (fcvs : Bf (F := F) c (Memref.whole main_v10)) : sProp 𝕄 :=
  iprop(pt c (Memref.whole main_arg7) fn ∗ pt c (Memref.whole main_v0) fx ∗ pt c (Memref.whole main_v2) fkn ∗ pt c (Memref.whole main_v4) fvn ∗ pt c (Memref.whole main_v6) fck ∗ pt c (Memref.whole main_v8) fcv ∗ pt c (Memref.whole main_v9) fcks ∗ pt c (Memref.whole main_v10) fcvs)

/-- The kernel's thirteen work buffers, each whole at some contents. -/
abbrev works (c : Dev nD) : sProp 𝕄 :=
  iprop((∃ f : Bf (F := F) c _, pt c (Memref.whole cc0_scratch0) f) ∗ (∃ f : Bf (F := F) c _, pt c (Memref.whole cc0_scratch1) f) ∗ (∃ f : Bf (F := F) c _, pt c (Memref.whole cc0_scratch2) f) ∗ (∃ f : Bf (F := F) c _, pt c (Memref.whole cc0_scratch3) f) ∗ (∃ f : Bf (F := F) c _, pt c (Memref.whole cc0_scratch4) f) ∗ (∃ f : Bf (F := F) c _, pt c (Memref.whole cc0_scratch5) f) ∗ (∃ f : Bf (F := F) c _, pt c (Memref.whole cc0_scratch6) f) ∗ (∃ f : Bf (F := F) c _, pt c (Memref.whole cc0_scratch7) f) ∗ (∃ f : Bf (F := F) c _, pt c (Memref.whole cc0_scratch8) f) ∗ (∃ f : Bf (F := F) c _, pt c (Memref.whole cc0_scratch9) f) ∗ (∃ f : Bf (F := F) c _, pt c (Memref.whole cc0_scratch10) f) ∗ (∃ f : Bf (F := F) c _, pt c (Memref.whole cc0_scratch11) f) ∗ (∃ f : Bf (F := F) c _, pt c (Memref.whole cc0_scratch12) f))

set_option sl_exec.dmaWindow true in
set_option sl_exec.squeezeSlice true in
/-- The whole body, run once: from the operands, the five results and the work buffers at any contents and the transfer
    cells at zero, it ends with the operands as they were, the results at the contents the run finds (the first
    component), the work buffers at some contents and the cells at zero again. -/
def kernelRun (c : Dev nD) (fn : Bf (F := F) c (Memref.whole main_arg7)) (fx : Bf (F := F) c (Memref.whole main_v0)) (fkn : Bf (F := F) c (Memref.whole main_v2)) (fvn : Bf (F := F) c (Memref.whole main_v4)) (fck : Bf (F := F) c (Memref.whole main_v6)) (fcv : Bf (F := F) c (Memref.whole main_v8)) (fcks : Bf (F := F) c (Memref.whole main_v9)) (fcvs : Bf (F := F) c (Memref.whole main_v10))
    (o0 : Bf (F := F) c (Memref.whole main_v11_0)) (o1 : Bf (F := F) c (Memref.whole main_v11_1)) (o2 : Bf (F := F) c (Memref.whole main_v11_2)) (o3 : Bf (F := F) c (Memref.whole main_v11_3)) (o4 : Bf (F := F) c (Memref.whole main_v11_4))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) :
    { G : Bf (F := F) c (Memref.whole main_v11_0) × Bf (F := F) c (Memref.whole main_v11_1) × Bf (F := F) c (Memref.whole main_v11_2) × Bf (F := F) c (Memref.whole main_v11_3) × Bf (F := F) c (Memref.whole main_v11_4) //
      ∀ (W : Waits sig Unit) (Q : PUnit → sProp 𝕄),
        iprop(operands c fn fx fkn fvn fck fcv fcks fcvs ∗ (pt c (Memref.whole main_v11_0) o0 ∗ pt c (Memref.whole main_v11_1) o1 ∗ pt c (Memref.whole main_v11_2) o2 ∗ pt c (Memref.whole main_v11_3) o3 ∗ pt c (Memref.whole main_v11_4) o4)
          ∗ (pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12) ∗ sems0 c ∗ owes (c : Thread nD τ) 0 W
          ∗ (iprop(operands c fn fx fkn fvn fck fcv fcks fcvs ∗ (pt c (Memref.whole main_v11_0) G.1 ∗ pt c (Memref.whole main_v11_1) G.2.1 ∗ pt c (Memref.whole main_v11_2) G.2.2.1 ∗ pt c (Memref.whole main_v11_3) G.2.2.2.1 ∗ pt c (Memref.whole main_v11_4) G.2.2.2.2)
              ∗ works (F := F) c ∗ sems0 c ∗ ∃ W, owes (c : Thread nD τ) 0 W) -∗ Q ⟨⟩))
        ⊢ wp frame (wpE (defs₀ (F := F)) Variants.none c none) Set.univ
            (cc0_window_attention (Memref.whole main_arg7) (Memref.isWhole_whole _) (Memref.whole main_v0) (Memref.isWhole_whole _) (Memref.whole main_v2) (Memref.isWhole_whole _) (Memref.whole main_v4) (Memref.isWhole_whole _) (Memref.whole main_v6) (Memref.isWhole_whole _) (Memref.whole main_v8) (Memref.isWhole_whole _) (Memref.whole main_v9) (Memref.isWhole_whole _) (Memref.whole main_v10) (Memref.isWhole_whole _) (Memref.whole main_v11_0) (Memref.isWhole_whole _) (Memref.whole main_v11_1) (Memref.isWhole_whole _) (Memref.whole main_v11_2) (Memref.isWhole_whole _) (Memref.whole main_v11_3) (Memref.isWhole_whole _) (Memref.whole main_v11_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17) Q } := by
  refine ⟨(?_, ?_, ?_, ?_, ?_), fun W Q => ?run⟩
  case run =>
    iintro ⟨⟨Hn, Hx, Hkn, Hvn, Hck, Hcv, Hcks, Hcvs⟩, ⟨O0, O1, O2, O3, O4⟩, ⟨S0, S1, S2, S3, S4, S5, S6, S7, S8, S9, S10, S11, S12⟩, ⟨Z0, Z1, Z2, Z3, Z4, Z5, Z6, Z7, Z8, Z9, Z10, Z11, Z12, Z13, Z14, Z15, Z16, Z17, Z18, Z19, Z20, Z21, Z22, Z23, Z24⟩, HO, Hk⟩
    sl_exec!
    sl_step
    iapply Hk
    isplitl [Hn Hx Hkn Hvn Hck Hcv Hcks Hcvs]
    · iframe Hn Hx Hkn Hvn Hck Hcv Hcks Hcvs
    isplitl [O0 O1 O2 O3 O4]
    · isplitl [O0]; · iexact O0
      isplitl [O1]; · iexact O1
      isplitl [O2]; · iexact O2
      isplitl [O3]; · iexact O3
      iexact O4
    isplitl [S0 S1 S2 S3 S4 S5 S6 S7 S8 S9 S10 S11 S12]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      isplitl [S11]; · iexists _; iexact S11
      iexists _; iexact S12
    isplitl [Z0 Z1 Z2 Z3 Z4 Z5 Z6 Z7 Z8 Z9 Z10 Z11 Z12 Z13 Z14 Z15 Z16 Z17 Z18 Z19 Z20 Z21 Z22 Z23 Z24]
    · iframe Z0 Z1 Z2 Z3 Z4 Z5 Z6 Z7 Z8 Z9 Z10 Z11 Z12 Z13 Z14 Z15 Z16 Z17 Z18 Z19 Z20 Z21 Z22 Z23 Z24
    iexists _; iexact HO

end Cert.Kernel.Run

end
-- ==== Proof.KernelFrame.lean ====
module

public import proofs.«01_k».proof.Proof.KernelRun
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The operands the body's transfers read. -/
def H : Finset (Ref sig .tc) := {main_arg7, main_v0, main_v2, main_v4, main_v6, main_v8, main_v9, main_v10}
/-- The results the body's transfers write. -/
def R : Finset (Ref sig .tc) := {main_v11_0, main_v11_1, main_v11_2, main_v11_3, main_v11_4}
/-- What the host lines after the region write. -/
def T : Finset (Ref sig .tc) := {main_v12, main_v13, main_v14, main_v15, main_v16, main_v17, main_v18}

theorem ownSemFacts : Pipeline.OwnSemFacts (cfg0.spec) osem := by decide
theorem H_sub : H ⊆ Pipeline.restRefs sig (cfg0.spec) := by decide
theorem R_sub : R ⊆ Pipeline.restRefs sig (cfg0.spec) \ H := by decide

theorem ownSems_eq (c : Dev nD) :
    (Pipeline.ownSems0 (Ix := Unit) (Name := ℕ) (U := Pipeline.UD sig nD τ) (Lvl := ℕ) (Val := Elt F) (τ := τ) osem c : sProp 𝕄) = sems0 c := by
  rw [Pipeline.ownSems0_eq_of_list c osem [0, 1, 2, 3, 4, 5, 6, 7, 8, 9, 10, 11, 12, 13, 14, 15, 16, 17, 18, 19, 20, 21, 22, 23, 24] (by decide) (by decide)]; rfl

theorem operands_eq (c : Dev nD) :
    (bigSep H (fun b => ((c : Thread nD τ).loc b) ↦{fullShare} V m c b) : sProp 𝕄)
      = operands c (V m c main_arg7) (V m c main_v0) (V m c main_v2) (V m c main_v4) (V m c main_v6) (V m c main_v8) (V m c main_v9) (V m c main_v10) := by
  unfold H
  rw [BI.bigSep_eq_bigSepL_of_eq [main_arg7, main_v0, main_v2, main_v4, main_v6, main_v8, main_v9, main_v10] (by decide) (by decide)]; rfl

/-- The results, each whole at some contents. -/
abbrev someResults (c : Dev nD) : sProp 𝕄 :=
  iprop((∃ f : Bf (F := F) c (Memref.whole main_v11_0), pt c (Memref.whole main_v11_0) f) ∗ (∃ f : Bf (F := F) c (Memref.whole main_v11_1), pt c (Memref.whole main_v11_1) f) ∗ (∃ f : Bf (F := F) c (Memref.whole main_v11_2), pt c (Memref.whole main_v11_2) f) ∗ (∃ f : Bf (F := F) c (Memref.whole main_v11_3), pt c (Memref.whole main_v11_3) f) ∗ (∃ f : Bf (F := F) c (Memref.whole main_v11_4), pt c (Memref.whole main_v11_4) f))

theorem owned_eq (c : Dev nD) : (Pipeline.owned R c : sProp 𝕄) = someResults c := by
  unfold Pipeline.owned R; rw [BI.bigSep_eq_bigSepL_of_eq [main_v11_0, main_v11_1, main_v11_2, main_v11_3, main_v11_4] (by decide) (by decide)]; rfl

/-- The work buffers in the region's order. -/
abbrev workRest (c : Dev nD) : sProp 𝕄 :=
  iprop((∃ f : Bf (F := F) c (Memref.whole cc0_scratch1), pt c (Memref.whole cc0_scratch1) f) ∗ (∃ f : Bf (F := F) c (Memref.whole cc0_scratch2), pt c (Memref.whole cc0_scratch2) f) ∗ (∃ f : Bf (F := F) c (Memref.whole cc0_scratch3), pt c (Memref.whole cc0_scratch3) f) ∗ (∃ f : Bf (F := F) c (Memref.whole cc0_scratch4), pt c (Memref.whole cc0_scratch4) f) ∗ (∃ f : Bf (F := F) c (Memref.whole cc0_scratch5), pt c (Memref.whole cc0_scratch5) f) ∗ (∃ f : Bf (F := F) c (Memref.whole cc0_scratch6), pt c (Memref.whole cc0_scratch6) f) ∗ (∃ f : Bf (F := F) c (Memref.whole cc0_scratch7), pt c (Memref.whole cc0_scratch7) f) ∗ (∃ f : Bf (F := F) c (Memref.whole cc0_scratch8), pt c (Memref.whole cc0_scratch8) f) ∗ (∃ f : Bf (F := F) c (Memref.whole cc0_scratch9), pt c (Memref.whole cc0_scratch9) f) ∗ (∃ f : Bf (F := F) c (Memref.whole cc0_scratch10), pt c (Memref.whole cc0_scratch10) f) ∗ (∃ f : Bf (F := F) c (Memref.whole cc0_scratch11), pt c (Memref.whole cc0_scratch11) f) ∗ (∃ f : Bf (F := F) c (Memref.whole cc0_scratch12), pt c (Memref.whole cc0_scratch12) f) ∗ (∃ f : Bf (F := F) c (Memref.whole cc0_scratch0), pt c (Memref.whole cc0_scratch0) f))

theorem scoped_eq (c : Dev nD) :
    (Pipeline.scopedRest (Ix := Unit) (Name := ℕ) (U := Pipeline.UD sig nD τ) (Lvl := ℕ) (Val := Elt F) (cfg0.spec) c : sProp 𝕄) = workRest c := by
  rw [scopedRest0_eq]

/-- The region's invariant: work buffers, random-number register, transfer cells at zero, operands, results. -/
theorem inv_eq (c : Dev nD) :
    (Pipeline.ΦDR osem (cfg0.spec) H R (V m) c : sProp 𝕄)
      = iprop(workRest c ∗ (∃ r, prngReg c r) ∗ sems0 c ∗ operands c (V m c main_arg7) (V m c main_v0) (V m c main_v2) (V m c main_v4) (V m c main_v6) (V m c main_v8) (V m c main_v9) (V m c main_v10) ∗ someResults c) := by
  rw [Pipeline.ΦDR_eq, scoped_eq, ownSems_eq, operands_eq, owned_eq]

/-- The proof data of the one region: no window, the invariant `ΦDR`, nothing owed. -/
def dats (_ : Fin 1) (c : Dev nD) : Dat τ (Elt F) Unit ℕ (Pipeline.UD sig nD τ) ℕ cfg0 c where
  A w := w.elim0
  after w t := w.elim0
  Φ _ := Pipeline.ΦDR osem (cfg0.spec) H R (V m) c
  q _ := fullShare
  owed _ := 0

theorem sound_body (c : Dev nD) (t : Fin cfg0.N) :
    iprop(Pipeline.ΦDR osem (cfg0.spec) H R (V m) c ∗ (dats m 0 c).owesAt () t.castSucc)
      ⊢ wp frame (wpE (defs₀ (F := F)) Variants.none c none) Set.univ (bodyAt0 t)
          (fun _ => iprop(Pipeline.ΦDR osem (cfg0.spec) H R (V m) c ∗ (dats m 0 c).owesAt () t.succ)) := by
  unfold bodyAt0
  rw [inv_eq]
  unfold Dat.owesAt Pipeline.owesWithin
  rw [show (dats m 0 c).owed t.castSucc = 0 from rfl, show (dats m 0 c).owed t.succ = 0 from rfl]
  unfold workRest someResults
  iintro ⟨⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s0, S0⟩⟩, Hg, HZ, HH, ⟨⟨%o0, O0⟩, ⟨%o1, O1⟩, ⟨%o2, O2⟩, ⟨%o3, O3⟩, ⟨%o4, O4⟩⟩⟩, ⟨%W, -, HW⟩⟩
  iapply ((kernelRun c (V m c main_arg7) (V m c main_v0) (V m c main_v2) (V m c main_v4) (V m c main_v6) (V m c main_v8) (V m c main_v9) (V m c main_v10) o0 o1 o2 o3 o4
    s0 s1 s2 s3 s4 s5 s6 s7 s8 s9 s10 s11 s12).2 W _)
  isplitl [HH]; · iexact HH
  isplitl [O0 O1 O2 O3 O4]; · iframe O0 O1 O2 O3 O4
  isplitl [S1 S2 S3 S4 S5 S6 S7 S8 S9 S10 S11 S12 S0]; · iframe S1 S2 S3 S4 S5 S6 S7 S8 S9 S10 S11 S12 S0
  isplitl [HZ]; · iexact HZ
  isplitl [HW]; · iexact HW
  unfold works
  iintro ⟨HH, ⟨O0, O1, O2, O3, O4⟩, ⟨S0, S1, S2, S3, S4, S5, S6, S7, S8, S9, S10, S11, S12⟩, HZ, ⟨%W', HW'⟩⟩
  isplitr [HW']
  · isplitl [S1 S2 S3 S4 S5 S6 S7 S8 S9 S10 S11 S12 S0]; · iframe S1 S2 S3 S4 S5 S6 S7 S8 S9 S10 S11 S12 S0
    isplitl [Hg]; · iexact Hg
    isplitl [HZ]; · iexact HZ
    isplitl [HH]; · iexact HH
    isplitl [O0]; · iexists _; iexact O0
    isplitl [O1]; · iexists _; iexact O1
    isplitl [O2]; · iexists _; iexact O2
    isplitl [O3]; · iexists _; iexact O3
    iexists _; iexact O4
  · iexists W'; isplitr; · ipureintro; exact fun _ _ => Or.inl trivial
    iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  rw [show (dats m 0 c).Φ t.castSucc = Pipeline.ΦDR osem (cfg0.spec) H R (V m) c from rfl,
    show (dats m 0 c).Φ t.succ = Pipeline.ΦDR osem (cfg0.spec) H R (V m) c from rfl]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    rw [show (Finset.univ : Finset (Fin cfg0.W)) = ∅ from rfl, bigSep_empty]
    iempintro

/-- @main around the region, at this algebra. -/
theorem hmainU : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The host lines after the region write their seven results only. -/
theorem tail_writes : ∀ ops ∈ ([hostOps1] : List (List (HloOp τ sig (Elt F)))), ∀ op ∈ ops, ∀ b : Ref sig .tc,
    Proc.devRef .tc b ∈ op.writes → b ∈ T := by
  intro ops hops op hop b
  simp only [List.mem_cons, List.mem_nil_iff, or_false] at hops
  rcases hops with rfl
  simp only [hostOps1, List.mem_cons, List.mem_nil_iff, or_false] at hop
  rcases hop with rfl | rfl | rfl | rfl | rfl | rfl | rfl
  all_goals
    simp only [StableHlo.unary_writes, StableHlo.reshape_writes, Finset.mem_singleton]
    intro h
    have := Proc.devRef_injective _ h
    subst this
    decide

/-- The run: every buffer the body and the later lines do not write ends as the region found it, and every counter at zero. -/
theorem run_main : θ_run defs (onTc (τ := τ) (main (F := F))) (s₀ m ρ)
    (fun r => Pipeline.FramePostR cfgs (dats m) 0 (R ∪ T) (V m) r ∧ r.2.sem = fun _ => 0) :=
  Pipeline.θ_run_frame_dmaR_around (Q' := _) cfgs (dats m) (0 : Fin 1) launch0 osem defs₀ Variants.none ownSemFacts H R T H_sub R_sub m ρ main
    (hbody := fun c => (body_obligation m c).loose) (hshare := fun c w => w.elim0)
    (howed := fun _ _ => rfl) (V₀ := V0 m) (opss := [hostOps1]) (hsub := sfx_sub) (hfresh := sfx_fresh) (hkeep := sfx_keeps)
    (hT := tail_writes) (hmain := hmainU m) (hA := fun _ w => w.elim0)
    (hin := fun _ => .rfl) (hout := fun _ => .rfl)

theorem keeps (c : Dev nD) (b : Ref sig .tc) (hb : b ∈ Pipeline.restRefs sig (cfg0.spec) \ (R ∪ T))
    (hV : V m c b = m ((c : Thread nD τ).loc b)) (r : PUnit × MemSt nD τ sig (Elt F))
    (h : Pipeline.FramePostR cfgs (dats m) 0 (R ∪ T) (V m) r) :
    r.2.mem ((c.tc : Thread nD τ).loc b) = m ((c.tc : Thread nD τ).loc b) :=
  ((h c).2 b hb).trans hV

/-- The frame: every argument ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨keeps m c main_arg0 (by decide) (V_main_arg0 m c) r h.1, keeps m c main_arg1 (by decide) (V_main_arg1 m c) r h.1, keeps m c main_arg2 (by decide) (V_main_arg2 m c) r h.1, keeps m c main_arg3 (by decide) (V_main_arg3 m c) r h.1, keeps m c main_arg4 (by decide) (V_main_arg4 m c) r h.1, keeps m c main_arg5 (by decide) (V_main_arg5 m c) r h.1, keeps m c main_arg6 (by decide) (V_main_arg6 m c) r h.1, keeps m c main_arg7 (by decide) (V_main_arg7 m c) r h.1⟩, h.2⟩)
    (run_main m ρ)

end Cert.Kernel.Run

end
-- ==== Proof.KernelIdealRun.lean ====
module

public import proofs.«01_k».proof.Proof.Gen.KernelIdeal
public import proofs.«01_k».proof.Proof.Gen.KernelIdeal.Skeleton
public import Idealize.ShloMosaic.Lib.Tactic
public import Idealize.ShloMosaic.Lib.Pipeline.FrameSuffixV

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- A memref's buffer on core `c`: its contents' type, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's twenty-five DMA cells, one a transfer. -/
abbrev osem : Fin 25 → SemLoc sig := fun j => .dma j

/-- Their counters at zero. -/
abbrev sems0 (c : Dev nD) : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0)

/-- The eight operands the body's transfers read, each whole. -/
abbrev operands (c : Dev nD) (fn : Bf (F := F) c (Memref.whole main_arg7)) (fx : Bf (F := F) c (Memref.whole main_v0)) (fkn : Bf (F := F) c (Memref.whole main_v2)) (fvn : Bf (F := F) c (Memref.whole main_v4)) (fck : Bf (F := F) c (Memref.whole main_v6)) (fcv : Bf (F := F) c (Memref.whole main_v8)) (fcks : Bf (F := F) c (Memref.whole main_v9)) (fcvs : Bf (F := F) c (Memref.whole main_v10)) : sProp 𝕄 :=
  iprop(pt c (Memref.whole main_arg7) fn ∗ pt c (Memref.whole main_v0) fx ∗ pt c (Memref.whole main_v2) fkn ∗ pt c (Memref.whole main_v4) fvn ∗ pt c (Memref.whole main_v6) fck ∗ pt c (Memref.whole main_v8) fcv ∗ pt c (Memref.whole main_v9) fcks ∗ pt c (Memref.whole main_v10) fcvs)

/-- The kernel's thirteen work buffers, each whole at some contents. -/
abbrev works (c : Dev nD) : sProp 𝕄 :=
  iprop((∃ f : Bf (F := F) c _, pt c (Memref.whole cc0_scratch0) f) ∗ (∃ f : Bf (F := F) c _, pt c (Memref.whole cc0_scratch1) f) ∗ (∃ f : Bf (F := F) c _, pt c (Memref.whole cc0_scratch2) f) ∗ (∃ f : Bf (F := F) c _, pt c (Memref.whole cc0_scratch3) f) ∗ (∃ f : Bf (F := F) c _, pt c (Memref.whole cc0_scratch4) f) ∗ (∃ f : Bf (F := F) c _, pt c (Memref.whole cc0_scratch5) f) ∗ (∃ f : Bf (F := F) c _, pt c (Memref.whole cc0_scratch6) f) ∗ (∃ f : Bf (F := F) c _, pt c (Memref.whole cc0_scratch7) f) ∗ (∃ f : Bf (F := F) c _, pt c (Memref.whole cc0_scratch8) f) ∗ (∃ f : Bf (F := F) c _, pt c (Memref.whole cc0_scratch9) f) ∗ (∃ f : Bf (F := F) c _, pt c (Memref.whole cc0_scratch10) f) ∗ (∃ f : Bf (F := F) c _, pt c (Memref.whole cc0_scratch11) f) ∗ (∃ f : Bf (F := F) c _, pt c (Memref.whole cc0_scratch12) f))

set_option sl_exec.dmaWindow true in
set_option sl_exec.squeezeSlice true in
/-- The whole body, run once: from the operands, the five results and the work buffers at any contents and the transfer
    cells at zero, it ends with the operands as they were, the results at the contents the run finds (the first
    component), the work buffers at some contents and the cells at zero again. -/
def kernelRun (c : Dev nD) (fn : Bf (F := F) c (Memref.whole main_arg7)) (fx : Bf (F := F) c (Memref.whole main_v0)) (fkn : Bf (F := F) c (Memref.whole main_v2)) (fvn : Bf (F := F) c (Memref.whole main_v4)) (fck : Bf (F := F) c (Memref.whole main_v6)) (fcv : Bf (F := F) c (Memref.whole main_v8)) (fcks : Bf (F := F) c (Memref.whole main_v9)) (fcvs : Bf (F := F) c (Memref.whole main_v10))
    (o0 : Bf (F := F) c (Memref.whole main_v11_0)) (o1 : Bf (F := F) c (Memref.whole main_v11_1)) (o2 : Bf (F := F) c (Memref.whole main_v11_2)) (o3 : Bf (F := F) c (Memref.whole main_v11_3)) (o4 : Bf (F := F) c (Memref.whole main_v11_4))
    (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) (s10 : Bf (F := F) c (Memref.whole cc0_scratch10)) (s11 : Bf (F := F) c (Memref.whole cc0_scratch11)) (s12 : Bf (F := F) c (Memref.whole cc0_scratch12)) :
    { G : Bf (F := F) c (Memref.whole main_v11_0) × Bf (F := F) c (Memref.whole main_v11_1) × Bf (F := F) c (Memref.whole main_v11_2) × Bf (F := F) c (Memref.whole main_v11_3) × Bf (F := F) c (Memref.whole main_v11_4) //
      ∀ (W : Waits sig Unit) (Q : PUnit → sProp 𝕄),
        iprop(operands c fn fx fkn fvn fck fcv fcks fcvs ∗ (pt c (Memref.whole main_v11_0) o0 ∗ pt c (Memref.whole main_v11_1) o1 ∗ pt c (Memref.whole main_v11_2) o2 ∗ pt c (Memref.whole main_v11_3) o3 ∗ pt c (Memref.whole main_v11_4) o4)
          ∗ (pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ pt c (Memref.whole cc0_scratch10) s10 ∗ pt c (Memref.whole cc0_scratch11) s11 ∗ pt c (Memref.whole cc0_scratch12) s12) ∗ sems0 c ∗ owes (c : Thread nD τ) 0 W
          ∗ (iprop(operands c fn fx fkn fvn fck fcv fcks fcvs ∗ (pt c (Memref.whole main_v11_0) G.1 ∗ pt c (Memref.whole main_v11_1) G.2.1 ∗ pt c (Memref.whole main_v11_2) G.2.2.1 ∗ pt c (Memref.whole main_v11_3) G.2.2.2.1 ∗ pt c (Memref.whole main_v11_4) G.2.2.2.2)
              ∗ works (F := F) c ∗ sems0 c ∗ ∃ W, owes (c : Thread nD τ) 0 W) -∗ Q ⟨⟩))
        ⊢ wp frame (wpE (defs₀ (F := F)) Variants.none c none) Set.univ
            (cc0_window_attention (Memref.whole main_arg7) (Memref.isWhole_whole _) (Memref.whole main_v0) (Memref.isWhole_whole _) (Memref.whole main_v2) (Memref.isWhole_whole _) (Memref.whole main_v4) (Memref.isWhole_whole _) (Memref.whole main_v6) (Memref.isWhole_whole _) (Memref.whole main_v8) (Memref.isWhole_whole _) (Memref.whole main_v9) (Memref.isWhole_whole _) (Memref.whole main_v10) (Memref.isWhole_whole _) (Memref.whole main_v11_0) (Memref.isWhole_whole _) (Memref.whole main_v11_1) (Memref.isWhole_whole _) (Memref.whole main_v11_2) (Memref.isWhole_whole _) (Memref.whole main_v11_3) (Memref.isWhole_whole _) (Memref.whole main_v11_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17) Q } := by
  refine ⟨(?_, ?_, ?_, ?_, ?_), fun W Q => ?run⟩
  case run =>
    iintro ⟨⟨Hn, Hx, Hkn, Hvn, Hck, Hcv, Hcks, Hcvs⟩, ⟨O0, O1, O2, O3, O4⟩, ⟨S0, S1, S2, S3, S4, S5, S6, S7, S8, S9, S10, S11, S12⟩, ⟨Z0, Z1, Z2, Z3, Z4, Z5, Z6, Z7, Z8, Z9, Z10, Z11, Z12, Z13, Z14, Z15, Z16, Z17, Z18, Z19, Z20, Z21, Z22, Z23, Z24⟩, HO, Hk⟩
    sl_exec!
    sl_step
    iapply Hk
    isplitl [Hn Hx Hkn Hvn Hck Hcv Hcks Hcvs]
    · iframe Hn Hx Hkn Hvn Hck Hcv Hcks Hcvs
    isplitl [O0 O1 O2 O3 O4]
    · isplitl [O0]; · iexact O0
      isplitl [O1]; · iexact O1
      isplitl [O2]; · iexact O2
      isplitl [O3]; · iexact O3
      iexact O4
    isplitl [S0 S1 S2 S3 S4 S5 S6 S7 S8 S9 S10 S11 S12]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      isplitl [S9]; · iexists _; iexact S9
      isplitl [S10]; · iexists _; iexact S10
      isplitl [S11]; · iexists _; iexact S11
      iexists _; iexact S12
    isplitl [Z0 Z1 Z2 Z3 Z4 Z5 Z6 Z7 Z8 Z9 Z10 Z11 Z12 Z13 Z14 Z15 Z16 Z17 Z18 Z19 Z20 Z21 Z22 Z23 Z24]
    · iframe Z0 Z1 Z2 Z3 Z4 Z5 Z6 Z7 Z8 Z9 Z10 Z11 Z12 Z13 Z14 Z15 Z16 Z17 Z18 Z19 Z20 Z21 Z22 Z23 Z24
    iexists _; iexact HO

end Cert.KernelIdeal.Run

end
-- ==== Proof.KernelIdealFrame.lean ====
module

public import proofs.«01_k».proof.Proof.KernelIdealRun
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The operands the body's transfers read. -/
def H : Finset (Ref sig .tc) := {main_arg7, main_v0, main_v2, main_v4, main_v6, main_v8, main_v9, main_v10}
/-- The results the body's transfers write. -/
def R : Finset (Ref sig .tc) := {main_v11_0, main_v11_1, main_v11_2, main_v11_3, main_v11_4}
/-- What the host lines after the region write. -/
def T : Finset (Ref sig .tc) := {main_v12, main_v13, main_v14, main_v15, main_v16, main_v17, main_v18}

theorem ownSemFacts : Pipeline.OwnSemFacts (cfg0.spec) osem := by decide
theorem H_sub : H ⊆ Pipeline.restRefs sig (cfg0.spec) := by decide
theorem R_sub : R ⊆ Pipeline.restRefs sig (cfg0.spec) \ H := by decide

theorem ownSems_eq (c : Dev nD) :
    (Pipeline.ownSems0 (Ix := Unit) (Name := ℕ) (U := Pipeline.UD sig nD τ) (Lvl := ℕ) (Val := Elt F) (τ := τ) osem c : sProp 𝕄) = sems0 c := by
  rw [Pipeline.ownSems0_eq_of_list c osem [0, 1, 2, 3, 4, 5, 6, 7, 8, 9, 10, 11, 12, 13, 14, 15, 16, 17, 18, 19, 20, 21, 22, 23, 24] (by decide) (by decide)]; rfl

theorem operands_eq (c : Dev nD) :
    (bigSep H (fun b => ((c : Thread nD τ).loc b) ↦{fullShare} V m c b) : sProp 𝕄)
      = operands c (V m c main_arg7) (V m c main_v0) (V m c main_v2) (V m c main_v4) (V m c main_v6) (V m c main_v8) (V m c main_v9) (V m c main_v10) := by
  unfold H
  rw [BI.bigSep_eq_bigSepL_of_eq [main_arg7, main_v0, main_v2, main_v4, main_v6, main_v8, main_v9, main_v10] (by decide) (by decide)]; rfl

/-- The results, each whole at some contents. -/
abbrev someResults (c : Dev nD) : sProp 𝕄 :=
  iprop((∃ f : Bf (F := F) c (Memref.whole main_v11_0), pt c (Memref.whole main_v11_0) f) ∗ (∃ f : Bf (F := F) c (Memref.whole main_v11_1), pt c (Memref.whole main_v11_1) f) ∗ (∃ f : Bf (F := F) c (Memref.whole main_v11_2), pt c (Memref.whole main_v11_2) f) ∗ (∃ f : Bf (F := F) c (Memref.whole main_v11_3), pt c (Memref.whole main_v11_3) f) ∗ (∃ f : Bf (F := F) c (Memref.whole main_v11_4), pt c (Memref.whole main_v11_4) f))

theorem owned_eq (c : Dev nD) : (Pipeline.owned R c : sProp 𝕄) = someResults c := by
  unfold Pipeline.owned R; rw [BI.bigSep_eq_bigSepL_of_eq [main_v11_0, main_v11_1, main_v11_2, main_v11_3, main_v11_4] (by decide) (by decide)]; rfl

/-- The work buffers in the region's order. -/
abbrev workRest (c : Dev nD) : sProp 𝕄 :=
  iprop((∃ f : Bf (F := F) c (Memref.whole cc0_scratch1), pt c (Memref.whole cc0_scratch1) f) ∗ (∃ f : Bf (F := F) c (Memref.whole cc0_scratch2), pt c (Memref.whole cc0_scratch2) f) ∗ (∃ f : Bf (F := F) c (Memref.whole cc0_scratch3), pt c (Memref.whole cc0_scratch3) f) ∗ (∃ f : Bf (F := F) c (Memref.whole cc0_scratch4), pt c (Memref.whole cc0_scratch4) f) ∗ (∃ f : Bf (F := F) c (Memref.whole cc0_scratch5), pt c (Memref.whole cc0_scratch5) f) ∗ (∃ f : Bf (F := F) c (Memref.whole cc0_scratch6), pt c (Memref.whole cc0_scratch6) f) ∗ (∃ f : Bf (F := F) c (Memref.whole cc0_scratch7), pt c (Memref.whole cc0_scratch7) f) ∗ (∃ f : Bf (F := F) c (Memref.whole cc0_scratch8), pt c (Memref.whole cc0_scratch8) f) ∗ (∃ f : Bf (F := F) c (Memref.whole cc0_scratch9), pt c (Memref.whole cc0_scratch9) f) ∗ (∃ f : Bf (F := F) c (Memref.whole cc0_scratch10), pt c (Memref.whole cc0_scratch10) f) ∗ (∃ f : Bf (F := F) c (Memref.whole cc0_scratch11), pt c (Memref.whole cc0_scratch11) f) ∗ (∃ f : Bf (F := F) c (Memref.whole cc0_scratch12), pt c (Memref.whole cc0_scratch12) f) ∗ (∃ f : Bf (F := F) c (Memref.whole cc0_scratch0), pt c (Memref.whole cc0_scratch0) f))

theorem scoped_eq (c : Dev nD) :
    (Pipeline.scopedRest (Ix := Unit) (Name := ℕ) (U := Pipeline.UD sig nD τ) (Lvl := ℕ) (Val := Elt F) (cfg0.spec) c : sProp 𝕄) = workRest c := by
  rw [scopedRest0_eq]

/-- The region's invariant: work buffers, random-number register, transfer cells at zero, operands, results. -/
theorem inv_eq (c : Dev nD) :
    (Pipeline.ΦDR osem (cfg0.spec) H R (V m) c : sProp 𝕄)
      = iprop(workRest c ∗ (∃ r, prngReg c r) ∗ sems0 c ∗ operands c (V m c main_arg7) (V m c main_v0) (V m c main_v2) (V m c main_v4) (V m c main_v6) (V m c main_v8) (V m c main_v9) (V m c main_v10) ∗ someResults c) := by
  rw [Pipeline.ΦDR_eq, scoped_eq, ownSems_eq, operands_eq, owned_eq]

/-- The proof data of the one region: no window, the invariant `ΦDR`, nothing owed. -/
def dats (_ : Fin 1) (c : Dev nD) : Dat τ (Elt F) Unit ℕ (Pipeline.UD sig nD τ) ℕ cfg0 c where
  A w := w.elim0
  after w t := w.elim0
  Φ _ := Pipeline.ΦDR osem (cfg0.spec) H R (V m) c
  q _ := fullShare
  owed _ := 0

theorem sound_body (c : Dev nD) (t : Fin cfg0.N) :
    iprop(Pipeline.ΦDR osem (cfg0.spec) H R (V m) c ∗ (dats m 0 c).owesAt () t.castSucc)
      ⊢ wp frame (wpE (defs₀ (F := F)) Variants.none c none) Set.univ (bodyAt0 t)
          (fun _ => iprop(Pipeline.ΦDR osem (cfg0.spec) H R (V m) c ∗ (dats m 0 c).owesAt () t.succ)) := by
  unfold bodyAt0
  rw [inv_eq]
  unfold Dat.owesAt Pipeline.owesWithin
  rw [show (dats m 0 c).owed t.castSucc = 0 from rfl, show (dats m 0 c).owed t.succ = 0 from rfl]
  unfold workRest someResults
  iintro ⟨⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s0, S0⟩⟩, Hg, HZ, HH, ⟨⟨%o0, O0⟩, ⟨%o1, O1⟩, ⟨%o2, O2⟩, ⟨%o3, O3⟩, ⟨%o4, O4⟩⟩⟩, ⟨%W, -, HW⟩⟩
  iapply ((kernelRun c (V m c main_arg7) (V m c main_v0) (V m c main_v2) (V m c main_v4) (V m c main_v6) (V m c main_v8) (V m c main_v9) (V m c main_v10) o0 o1 o2 o3 o4
    s0 s1 s2 s3 s4 s5 s6 s7 s8 s9 s10 s11 s12).2 W _)
  isplitl [HH]; · iexact HH
  isplitl [O0 O1 O2 O3 O4]; · iframe O0 O1 O2 O3 O4
  isplitl [S1 S2 S3 S4 S5 S6 S7 S8 S9 S10 S11 S12 S0]; · iframe S1 S2 S3 S4 S5 S6 S7 S8 S9 S10 S11 S12 S0
  isplitl [HZ]; · iexact HZ
  isplitl [HW]; · iexact HW
  unfold works
  iintro ⟨HH, ⟨O0, O1, O2, O3, O4⟩, ⟨S0, S1, S2, S3, S4, S5, S6, S7, S8, S9, S10, S11, S12⟩, HZ, ⟨%W', HW'⟩⟩
  isplitr [HW']
  · isplitl [S1 S2 S3 S4 S5 S6 S7 S8 S9 S10 S11 S12 S0]; · iframe S1 S2 S3 S4 S5 S6 S7 S8 S9 S10 S11 S12 S0
    isplitl [Hg]; · iexact Hg
    isplitl [HZ]; · iexact HZ
    isplitl [HH]; · iexact HH
    isplitl [O0]; · iexists _; iexact O0
    isplitl [O1]; · iexists _; iexact O1
    isplitl [O2]; · iexists _; iexact O2
    isplitl [O3]; · iexists _; iexact O3
    iexists _; iexact O4
  · iexists W'; isplitr; · ipureintro; exact fun _ _ => Or.inl trivial
    iexact HW'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  rw [show (dats m 0 c).Φ t.castSucc = Pipeline.ΦDR osem (cfg0.spec) H R (V m) c from rfl,
    show (dats m 0 c).Φ t.succ = Pipeline.ΦDR osem (cfg0.spec) H R (V m) c from rfl]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    rw [show (Finset.univ : Finset (Fin cfg0.W)) = ∅ from rfl, bigSep_empty]
    iempintro

/-- @main around the region, at this algebra. -/
theorem hmainU : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The host lines after the region write their seven results only. -/
theorem tail_writes : ∀ ops ∈ ([hostOps1] : List (List (HloOp τ sig (Elt F)))), ∀ op ∈ ops, ∀ b : Ref sig .tc,
    Proc.devRef .tc b ∈ op.writes → b ∈ T := by
  intro ops hops op hop b
  simp only [List.mem_cons, List.mem_nil_iff, or_false] at hops
  rcases hops with rfl
  simp only [hostOps1, List.mem_cons, List.mem_nil_iff, or_false] at hop
  rcases hop with rfl | rfl | rfl | rfl | rfl | rfl | rfl
  all_goals
    simp only [StableHlo.unary_writes, StableHlo.reshape_writes, Finset.mem_singleton]
    intro h
    have := Proc.devRef_injective _ h
    subst this
    decide

/-- The run: every buffer the body and the later lines do not write ends as the region found it, and every counter at zero. -/
theorem run_main : θ_run defs (onTc (τ := τ) (main (F := F))) (s₀ m ρ)
    (fun r => Pipeline.FramePostR cfgs (dats m) 0 (R ∪ T) (V m) r ∧ r.2.sem = fun _ => 0) :=
  Pipeline.θ_run_frame_dmaR_around (Q' := _) cfgs (dats m) (0 : Fin 1) launch0 osem defs₀ Variants.none ownSemFacts H R T H_sub R_sub m ρ main
    (hbody := fun c => (body_obligation m c).loose) (hshare := fun c w => w.elim0)
    (howed := fun _ _ => rfl) (V₀ := V0 m) (opss := [hostOps1]) (hsub := sfx_sub) (hfresh := sfx_fresh) (hkeep := sfx_keeps)
    (hT := tail_writes) (hmain := hmainU m) (hA := fun _ w => w.elim0)
    (hin := fun _ => .rfl) (hout := fun _ => .rfl)

theorem keeps (c : Dev nD) (b : Ref sig .tc) (hb : b ∈ Pipeline.restRefs sig (cfg0.spec) \ (R ∪ T))
    (hV : V m c b = m ((c : Thread nD τ).loc b)) (r : PUnit × MemSt nD τ sig (Elt F))
    (h : Pipeline.FramePostR cfgs (dats m) 0 (R ∪ T) (V m) r) :
    r.2.mem ((c.tc : Thread nD τ).loc b) = m ((c.tc : Thread nD τ).loc b) :=
  ((h c).2 b hb).trans hV

/-- The frame: every argument ends as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨keeps m c main_arg0 (by decide) (V_main_arg0 m c) r h.1, keeps m c main_arg1 (by decide) (V_main_arg1 m c) r h.1, keeps m c main_arg2 (by decide) (V_main_arg2 m c) r h.1, keeps m c main_arg3 (by decide) (V_main_arg3 m c) r h.1, keeps m c main_arg4 (by decide) (V_main_arg4 m c) r h.1, keeps m c main_arg5 (by decide) (V_main_arg5 m c) r h.1, keeps m c main_arg6 (by decide) (V_main_arg6 m c) r h.1, keeps m c main_arg7 (by decide) (V_main_arg7 m c) r h.1⟩, h.2⟩)
    (run_main m ρ)

end Cert.KernelIdeal.Run

end
-- ==== Proof.Claims.lean ====
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Gen.Pre_pre

@[expose] public section

noncomputable section

namespace Cert.Claims

open Idealize.ShloMosaic Idealize.SL.Sem

/-- The kernel runs, leaves its arguments and ends with every counter at zero. -/
theorem frame_p : Cert.quiescent_Kernel (hKernel := Cert.Kernel.Gen.facts) := fun m g _ => Cert.Kernel.Run.frame m g

/-- So does its idealization. -/
theorem frame_pi : Cert.quiescent_KernelIdeal (hKernelIdeal := Cert.KernelIdeal.Gen.facts) :=
  fun m g _ => Cert.KernelIdeal.Run.frame m g

/-- So does the reference. -/
theorem frame_ri : Cert.quiescent_ReferenceIdeal (hReferenceIdeal := Cert.ReferenceIdeal.Gen.facts) :=
  fun m g _ => Cert.ReferenceIdeal.Gen.frame m g

/-- The idealization's frame where the precondition holds. -/
theorem frame_pi_pre : Cert.quiescent_KernelIdeal_pre_pre (hKernelIdeal := Cert.KernelIdeal.Gen.facts) (hPre_pre := Cert.Pre_pre.Gen.facts) :=
  fun m g _ => Cert.KernelIdeal.Run.frame m g

/-- The reference's frame where the precondition holds. -/
theorem frame_ri_pre : Cert.quiescent_ReferenceIdeal_pre_pre (hReferenceIdeal := Cert.ReferenceIdeal.Gen.facts) (hPre_pre := Cert.Pre_pre.Gen.facts) :=
  fun m g _ => Cert.ReferenceIdeal.Gen.frame m g

/-- The one named constant: the score scale `1 / √64` times `log₂ e`. -/
theorem preserves : Cert.preserves_Kernel_KernelIdeal :=
  IdealRules.named_const.statement Cert.KernelIdeal.κ "score_scale_log2e" .f32 0x3E38AA3B#32 (((Real.sqrt 64)⁻¹ * (Real.log 2)⁻¹ : ℝ) : EReal) rfl

end Cert.Claims

end
-- ==== Proof.QuantMath.lean ====
module

public import Idealize.ShloMosaic.Lib.Pointwise
public import Idealize.ShloMosaic.Lib.IdealHost

@[expose] public section

set_option maxRecDepth 16384

noncomputable section

/-!
The quantiser's scale, one row at a time. The kernel finds the biased exponent of `x = a / 448` by comparing `x`
with the powers of two, the exponent's bits from the highest down (`lad`); the reference takes the floor of the
logarithm. On a row that is zero, or whose `x` is a normal number, both give the same power of two.
-/

namespace Cert.Quant

open Idealize.ShloMosaic Idealize.SL.Sem

/-- One comparison of the ladder: with the bit `b` tried on top of the bits `ex` kept so far. -/
def lstep (x : Ideal .f32) (b ex : BitVec 32) : BitVec 32 :=
  Scalar.select (FloatOps.cmpf (F := Ideal) (φ := .f32) .oge x
    (FloatOps.ofBits (F := Ideal) .f32 (IntOp.shli .vector (IntOp.addi ex b) 23#32))) (IntOp.addi ex b) ex

/-- The biased exponent, from the highest bit down. -/
def lad (x : Ideal .f32) : BitVec 32 :=
  lstep x 1#32 (lstep x 2#32 (lstep x 4#32 (lstep x 8#32 (lstep x 16#32 (lstep x 32#32 (lstep x 64#32 (lstep x 128#32 0#32)))))))

/-- The scale's exponent: zero for a zero (or a subnormal) and for an infinity. -/
def qe (ex : BitVec 32) : BitVec 32 :=
  Scalar.select (IntOp.ori (IntOp.cmpi .eq ex 0#32) (IntOp.cmpi .eq ex 255#32)) 0#32 (IntOp.subi ex 126#32)

/-- The kernel's scale. -/
def kscale (x : Ideal .f32) : Ideal .f32 :=
  FloatOps.ofBits (F := Ideal) .f32 (IntOp.shli .vector (IntOp.addi 127#32 (qe (lad x))) 23#32)

/-- The kernel's reciprocal of the scale. -/
def kinv (x : Ideal .f32) : Ideal .f32 :=
  FloatOps.ofBits (F := Ideal) .f32 (IntOp.shli .vector (IntOp.subi 127#32 (qe (lad x))) 23#32)

/-- The reference's exponent of the scale of a row whose greatest magnitude is `a`. -/
def eref (a : EReal) : EReal :=
  if a = 0 then 0
  else Ideal.liftRound Int.floor
    (Ideal.div (Ideal.log (a * Ideal.ofBits .f32 0x3B124925#32)) (Ideal.log (Ideal.ofBits .f32 0x40000000#32)))
    + Ideal.ofBits .f32 0x3F800000#32

/-- The float whose exponent field is `c` and whose other bits are zero. -/
def val (c : Nat) : EReal := Ideal.ofBits .f32 (BitVec.ofNat 32 c <<< 23)

theorem fields : ∀ c : Fin 256, (((BitVec.ofNat 32 c.val <<< 23).extractLsb' 31 1 == 1#1) = false)
    ∧ ((BitVec.ofNat 32 c.val <<< 23).extractLsb' 23 8).toNat = c.val
    ∧ ((BitVec.ofNat 32 c.val <<< 23).extractLsb' 0 23).toNat = 0 := by decide +kernel

/-- A power of two, where the field is that of a normal number. -/
theorem val_coe {c : Nat} (h1 : 1 ≤ c) (h2 : c ≤ 254) : val c = (((2 : ℝ) ^ ((c : ℤ) - 127) : ℝ) : EReal) := by
  have e : (8388608 : ℝ) * (2 : ℝ) ^ ((c : ℤ) - 127 - 23) = (2 : ℝ) ^ ((c : ℤ) - 127) := by
    rw [show (8388608 : ℝ) = (2 : ℝ) ^ (23 : ℤ) by norm_num, ← zpow_add₀ (by norm_num)]
    exact congrArg (fun z : ℤ => (2 : ℝ) ^ z) (by ring)
  have n1 : ¬ c = 2 ^ 8 - 1 := by norm_num; omega
  have n2 : ¬ c = 0 := by omega
  have hlt : c < 256 := by omega
  obtain ⟨f1, f2, f3⟩ := fields ⟨c, hlt⟩
  simp only at f1 f2 f3
  unfold val Ideal.ofBits Ideal.ieee
  simp only [Nat.reduceAdd, f1, f2, f3]
  rw [if_neg n1, if_neg n2, ← e]
  norm_num

theorem val_top : val 255 = ⊤ := by
  obtain ⟨f1, f2, f3⟩ := fields ⟨255, by omega⟩
  simp only at f1 f2 f3
  unfold val Ideal.ofBits Ideal.ieee
  simp only [Nat.reduceAdd, f1, f2, f3]
  simp

/-- The ladder over the naturals, a comparison being `c ≤ n`. -/
def nstep (n b ex : Nat) : Nat := if ex + b ≤ n then ex + b else ex

theorem nlad : ∀ n : Fin 256, nstep n 1 (nstep n 2 (nstep n 4 (nstep n 8 (nstep n 16 (nstep n 32 (nstep n 64
    (nstep n 128 0))))))) = n := by decide +kernel

theorem nstep_le (n b ex k : Nat) (h : ex + b ≤ k) : nstep n b ex ≤ k := by unfold nstep; split <;> omega

theorem lstep_eq {x : Ideal .f32} {n : Nat} (H : ∀ c : Nat, 1 ≤ c → c ≤ 255 → (val c ≤ x ↔ c ≤ n)) {b ex : Nat}
    (hb : 1 ≤ b) (hs : ex + b ≤ 255) :
    lstep x (BitVec.ofNat 32 b) (BitVec.ofNat 32 ex) = BitVec.ofNat 32 (nstep n b ex) := by
  have hadd : IntOp.addi (BitVec.ofNat 32 ex) (BitVec.ofNat 32 b) = BitVec.ofNat 32 (ex + b) := by
    unfold IntOp.addi; rw [BitVec.ofNat_add]
  have hc : FloatOps.cmpf (F := Ideal) (φ := .f32) .oge x
      (FloatOps.ofBits (F := Ideal) .f32 (IntOp.shli .vector (BitVec.ofNat 32 (ex + b)) 23#32))
        = BitVec.ofBool (decide (val (ex + b) ≤ x)) := rfl
  unfold lstep nstep
  rw [hadd, hc]
  have := H (ex + b) (by omega) hs
  by_cases h : ex + b ≤ n
  · rw [if_pos h, decide_eq_true (this.2 h)]; rfl
  · rw [if_neg h, decide_eq_false (fun q => h (this.1 q))]; rfl

/-- The ladder finds the greatest field whose power of two does not exceed `x`. -/
theorem lad_eq {x : Ideal .f32} {n : Nat} (hn : n ≤ 255) (H : ∀ c : Nat, 1 ≤ c → c ≤ 255 → (val c ≤ x ↔ c ≤ n)) :
    lad x = BitVec.ofNat 32 n := by
  unfold lad
  have h7 : nstep n 128 0 ≤ 128 := nstep_le _ _ _ _ (by omega)
  have h6 : nstep n 64 (nstep n 128 0) ≤ 192 := nstep_le _ _ _ _ (by omega)
  have h5 : nstep n 32 (nstep n 64 (nstep n 128 0)) ≤ 224 := nstep_le _ _ _ _ (by omega)
  have h4 : nstep n 16 (nstep n 32 (nstep n 64 (nstep n 128 0))) ≤ 240 := nstep_le _ _ _ _ (by omega)
  have h3 : nstep n 8 (nstep n 16 (nstep n 32 (nstep n 64 (nstep n 128 0)))) ≤ 248 := nstep_le _ _ _ _ (by omega)
  have h2 : nstep n 4 (nstep n 8 (nstep n 16 (nstep n 32 (nstep n 64 (nstep n 128 0))))) ≤ 252 := nstep_le _ _ _ _ (by omega)
  have h1 : nstep n 2 (nstep n 4 (nstep n 8 (nstep n 16 (nstep n 32 (nstep n 64 (nstep n 128 0)))))) ≤ 254 := nstep_le _ _ _ _ (by omega)
  rw [show (0#32) = BitVec.ofNat 32 0 from rfl, lstep_eq H (b := 128) (by omega) (by omega),
    lstep_eq H (b := 64) (by omega) (by omega), lstep_eq H (b := 32) (by omega) (by omega),
    lstep_eq H (b := 16) (by omega) (by omega), lstep_eq H (b := 8) (by omega) (by omega),
    lstep_eq H (b := 4) (by omega) (by omega), lstep_eq H (b := 2) (by omega) (by omega),
    lstep_eq H (b := 1) (by omega) (by omega)]
  exact congrArg _ (nlad ⟨n, by omega⟩)

theorem kscale_field : ∀ n : Fin 254, 1 ≤ n.val → IntOp.shli .vector (IntOp.addi 127#32 (qe (BitVec.ofNat 32 n.val))) 23#32
    = BitVec.ofNat 32 (n.val + 1) <<< 23 := by decide +kernel

theorem kinv_field : ∀ n : Fin 253, 1 ≤ n.val → IntOp.shli .vector (IntOp.subi 127#32 (qe (BitVec.ofNat 32 n.val))) 23#32
    = BitVec.ofNat 32 (253 - n.val) <<< 23 := by decide +kernel

theorem c448 : Ideal.ofBits .f32 0x3B124925#32 = (((9586981 : ℝ) * (2 : ℝ) ^ (-32 : ℤ) : ℝ) : EReal) := by
  simp [Ideal.ofBits, Ideal.ieee, -EReal.coe_mul]

theorem two_f32 : Ideal.ofBits .f32 0x40000000#32 = ((2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem low_f32 : Ideal.ofBits .f32 0x00800000#32 = (((2 : ℝ) ^ (-126 : ℤ) : ℝ) : EReal) := by
  simp [Ideal.ofBits, Ideal.ieee, -EReal.coe_mul]; norm_num

theorem high_f32 : Ideal.ofBits .f32 0x7F7F0000#32 = (((2 : ℝ) ^ (128 : ℕ) - 2 ^ (120 : ℕ) : ℝ) : EReal) := by
  simp only [Ideal.ofBits, Ideal.ieee]
  rw [if_neg (by decide), if_neg (by decide)]
  congr 1
  simp; norm_num

/-- A row's greatest magnitude `a` is in range: zero, or `a / 448` a normal number and `a` finite in bf16. -/
def InRange (a : EReal) : Prop :=
  a = 0 ∨ (Ideal.ofBits .f32 0x00800000#32 ≤ a * Ideal.ofBits .f32 0x3B124925#32 ∧ a ≤ Ideal.ofBits .f32 0x7F7F0000#32)

/-- What the two ways of finding the scale agree on. -/
theorem scale_eq {a : EReal} (h : InRange a) :
    (kscale (a * Ideal.ofBits .f32 0x3B124925#32) : EReal) = Ideal.pow (Ideal.ofBits .f32 0x40000000#32) (eref a)
    ∧ (kinv (a * Ideal.ofBits .f32 0x3B124925#32) : EReal) = Ideal.pow (Ideal.ofBits .f32 0x40000000#32) (-(eref a)) := by
  rcases h with rfl | ⟨hlo, hhi⟩
  · have hl : lad ((0 : EReal) * Ideal.ofBits .f32 0x3B124925#32 : EReal) = BitVec.ofNat 32 0 := by
      refine lad_eq (by omega) fun c h1 h2 => ?_
      rw [zero_mul]
      constructor
      · intro h
        exfalso
        rcases Nat.lt_or_ge c 255 with h3 | h3
        · rw [val_coe h1 (by omega)] at h
          have : (0 : ℝ) < (2 : ℝ) ^ ((c : ℤ) - 127) := by positivity
          exact absurd (EReal.coe_le_coe_iff.1 h) (not_le.2 this)
        · obtain rfl : c = 255 := by omega
          rw [val_top] at h; simp at h
      · intro h; omega
    have e0 : eref 0 = ((0 : ℝ) : EReal) := by unfold eref; rw [if_pos rfl]; rfl
    have v1 : val 127 = ((1 : ℝ) : EReal) := by rw [val_coe (by omega) (by omega)]; norm_num
    constructor
    · unfold kscale; rw [hl, e0, two_f32]
      have : (FloatOps.ofBits (F := Ideal) .f32 (IntOp.shli .vector (IntOp.addi 127#32 (qe (BitVec.ofNat 32 0))) 23#32) : EReal) = val 127 := rfl
      rw [this, v1]
      show _ = ((Real.rpow 2 _ : ℝ) : EReal)
      simp
    · unfold kinv; rw [hl, e0, two_f32]
      have : (FloatOps.ofBits (F := Ideal) .f32 (IntOp.shli .vector (IntOp.subi 127#32 (qe (BitVec.ofNat 32 0))) 23#32) : EReal) = val 127 := rfl
      rw [this, v1, ← EReal.coe_neg]
      show _ = ((Real.rpow 2 _ : ℝ) : EReal)
      simp
  · rw [c448] at *; rw [low_f32] at hlo; rw [high_f32] at hhi
    have hc : (0 : ℝ) < 9586981 * (2 : ℝ) ^ (-32 : ℤ) := by positivity
    induction a using EReal.rec with
    | bot => rw [EReal.bot_mul_coe_of_pos hc] at hlo; simp at hlo
    | top => exact absurd (top_le_iff.1 hhi) (EReal.coe_ne_top _)
    | coe a =>
      have hhi' := EReal.coe_le_coe_iff.1 hhi
      rw [← EReal.coe_mul] at hlo ⊢
      have hlo' := EReal.coe_le_coe_iff.1 hlo
      generalize hr : a * (9586981 * (2 : ℝ) ^ (-32 : ℤ)) = r at hlo' ⊢
      have hp : (0 : ℝ) < (2 : ℝ) ^ (-126 : ℤ) := by positivity
      have hr0 : 0 < r := lt_of_lt_of_le hp hlo'
      have hr1 : r < (2 : ℝ) ^ (120 : ℤ) := by
        rw [← hr]
        have : a * (9586981 * (2 : ℝ) ^ (-32 : ℤ)) ≤ ((2 : ℝ) ^ (128 : ℕ) - 2 ^ (120 : ℕ)) * (9586981 * (2 : ℝ) ^ (-32 : ℤ)) :=
          mul_le_mul_of_nonneg_right hhi' hc.le
        refine lt_of_le_of_lt this ?_
        norm_num
      have ha0 : a ≠ 0 := by rintro rfl; rw [zero_mul] at hr; exact hr0.ne hr
      have hl2 : 0 < Real.log 2 := Real.log_pos (by norm_num)
      obtain ⟨k, hk⟩ : ∃ k : ℤ, k = ⌊Real.log r / Real.log 2⌋ := ⟨_, rfl⟩
      have hk1 : (2 : ℝ) ^ k ≤ r := by
        have : (k : ℝ) ≤ Real.log r / Real.log 2 := by rw [hk]; exact Int.floor_le _
        rw [le_div_iff₀ hl2] at this
        rw [← Real.log_le_log_iff (by positivity) hr0, Real.log_zpow]; exact this
      have hk2 : r < (2 : ℝ) ^ (k + 1) := by
        have : Real.log r / Real.log 2 < (k : ℝ) + 1 := by rw [hk]; exact Int.lt_floor_add_one _
        rw [div_lt_iff₀ hl2] at this
        rw [← Real.log_lt_log_iff hr0 (by positivity), Real.log_zpow]; push_cast; exact this
      have hka : -126 ≤ k := by
        by_contra hcon
        have : (2 : ℝ) ^ (k + 1) ≤ (2 : ℝ) ^ (-126 : ℤ) := zpow_le_zpow_right₀ (by norm_num) (by omega)
        linarith
      have hkb : k ≤ 119 := by
        by_contra hcon
        have : (2 : ℝ) ^ (120 : ℤ) ≤ (2 : ℝ) ^ k := zpow_le_zpow_right₀ (by norm_num) (by omega)
        linarith
      obtain ⟨n, hn⟩ : ∃ n : ℕ, (n : ℤ) = k + 127 := ⟨(k + 127).toNat, by omega⟩
      have hl : lad ((r : ℝ) : EReal) = BitVec.ofNat 32 n := by
        refine lad_eq (by omega) fun c h1 h2 => ?_
        rcases Nat.lt_or_ge c 255 with h3 | h3
        · rw [val_coe h1 (by omega)]
          constructor
          · intro h
            have h' := EReal.coe_le_coe_iff.1 h
            by_contra hcon
            have : (2 : ℝ) ^ (k + 1) ≤ (2 : ℝ) ^ ((c : ℤ) - 127) := zpow_le_zpow_right₀ (by norm_num) (by omega)
            linarith
          · intro h
            refine EReal.coe_le_coe_iff.2 (le_trans ?_ hk1)
            exact zpow_le_zpow_right₀ (by norm_num) (by omega)
        · obtain rfl : c = 255 := by omega
          rw [val_top]
          constructor
          · intro h; exact absurd (top_le_iff.1 h) (EReal.coe_ne_top r)
          · intro h; omega
      have he : eref (a : EReal) = (((k + 1 : ℤ) : ℝ) : EReal) := by
        unfold eref
        rw [if_neg (by simpa using ha0), c448, ← EReal.coe_mul, hr, two_f32, one_f32, Ideal.log_coe, Ideal.log_coe,
          if_neg (not_le.2 hr0), if_neg (by norm_num), Ideal.div_coe hl2.ne', ← EReal.coe_mul, mul_one_div, Ideal.liftRound_coe, ← hk, ← EReal.coe_add]
        push_cast; rfl
      have s1 : (FloatOps.ofBits (F := Ideal) .f32 (IntOp.shli .vector (IntOp.addi 127#32 (qe (BitVec.ofNat 32 n))) 23#32) : EReal)
          = val (n + 1) := by rw [kscale_field ⟨n, by omega⟩ (by show 1 ≤ n; omega)]; rfl
      have s2 : (FloatOps.ofBits (F := Ideal) .f32 (IntOp.shli .vector (IntOp.subi 127#32 (qe (BitVec.ofNat 32 n))) 23#32) : EReal)
          = val (253 - n) := by rw [kinv_field ⟨n, by omega⟩ (by show 1 ≤ n; omega)]; rfl
      constructor
      · unfold kscale; rw [hl, he, two_f32, s1, val_coe (by omega) (by omega)]
        show _ = ((Real.rpow 2 _ : ℝ) : EReal)
        rw [show Real.rpow 2 ((k + 1 : ℤ) : ℝ) = (2 : ℝ) ^ (((k + 1 : ℤ) : ℝ)) from rfl, Real.rpow_intCast]
        congr 2; push_cast; omega
      · unfold kinv; rw [hl, he, two_f32, s2, val_coe (by omega) (by omega), ← EReal.coe_neg]
        show _ = ((Real.rpow 2 _ : ℝ) : EReal)
        rw [show Real.rpow 2 (-((k + 1 : ℤ) : ℝ)) = (2 : ℝ) ^ (-((k + 1 : ℤ) : ℝ)) from rfl, ← Int.cast_neg, Real.rpow_intCast]
        congr 2; omega

end Cert.Quant

end
-- ==== Proof.Words.lean ====
module

public import Idealize.ShloMosaic.Lib.Routing.Words
public import Idealize.ShloMosaic.PureOps.Ideal
public import Mathlib.Algebra.BigOperators.Fin

@[expose] public section

set_option maxRecDepth 16384

noncomputable section

/-!
The index arithmetic of the kernel, in words: remainder and quotient rounded down as they print, comparisons of counters,
and the dots with zeros and ones that pick one row.
-/

namespace Cert.Words

open Idealize.ShloMosaic

/-- The remainder with the sign of the divisor, as it prints. -/
def fmod (x c : BitVec 32) : BitVec 32 :=
  Scalar.select (IntOp.andi (IntOp.xori (IntOp.cmpi .slt (IntOp.remsi .vector x c) 0#32) (Scalar.cmpi .slt c 0#32)) (IntOp.cmpi .ne (IntOp.remsi .vector x c) 0#32))
    (IntOp.addi (IntOp.remsi .vector x c) c) (IntOp.remsi .vector x c)

/-- The quotient rounded down, as it prints. -/
def fdiv (x c : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt c 0#32)) (Scalar.extui (Scalar.cmpi .slt c 0#32))))
      (IntOp.cmpi .ne (IntOp.remsi .vector x c) 0#32))
    (IntOp.subi (IntOp.divsi .vector x c) 1#32) (IntOp.divsi .vector x c)

theorem select_ofBool {α : Type} (p : Bool) (a b : α) : Scalar.select (BitVec.ofBool p) a b = if p then a else b := by
  cases p <;> rfl

theorem slt_zero {n : Nat} (h : n < 2 ^ 31) : (BitVec.ofNat 32 n).slt 0#32 = false := by
  simp only [BitVec.slt, BitVec.toInt_eq_toNat_cond, BitVec.toNat_ofNat]
  simp; omega

theorem eq_ofNat {a b : Nat} (ha : a < 2 ^ 32) (hb : b < 2 ^ 32) : IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have := congrArg BitVec.toNat h
    simp only [BitVec.toNat_ofNat] at this
    omega
  · rintro rfl; rfl

theorem fmod_nat {n c : Nat} (hn : n < 2 ^ 31) (hc : 0 < c) (hc' : c < 2 ^ 31) :
    fmod (BitVec.ofNat 32 n) (BitVec.ofNat 32 c) = BitVec.ofNat 32 (n % c) := by
  have hr : n % c < 2 ^ 31 := lt_of_le_of_lt (Nat.mod_le _ _) hn
  unfold fmod
  rw [Routing.remsi_word .vector hn hc hc']
  have h1 : IntOp.cmpi .slt (BitVec.ofNat 32 (n % c)) 0#32 = 0#1 := by
    show BitVec.ofBool _ = _; rw [slt_zero hr]; rfl
  have h2 : Scalar.cmpi .slt (BitVec.ofNat 32 c) 0#32 = 0#1 := by
    show BitVec.ofBool _ = _; rw [slt_zero hc']; rfl
  rw [h1, h2]
  have : IntOp.andi (IntOp.xori (0#1) (0#1)) (IntOp.cmpi .ne (BitVec.ofNat 32 (n % c)) 0#32) = 0#1 := by
    show (0#1 ^^^ 0#1) &&& _ = 0#1
    simp
  rw [this]; rfl

theorem fdiv_nat {n c : Nat} (hn : n < 2 ^ 31) (hc : 0 < c) (hc' : c < 2 ^ 31) :
    fdiv (BitVec.ofNat 32 n) (BitVec.ofNat 32 c) = BitVec.ofNat 32 (n / c) := by
  unfold fdiv
  rw [Routing.remsi_word .vector hn hc hc', Routing.divsi_word .vector hn hc hc']
  have pos : ∀ k : Nat, 0 < k → k < 2 ^ 31 → (0#32).slt (BitVec.ofNat 32 k) = true := by
    intro k h1 h2
    simp only [BitVec.slt, BitVec.toInt_eq_toNat_cond, BitVec.toNat_ofNat]
    simp; omega
  have hsg : Scalar.cmpi .sgt (BitVec.ofNat 32 c) 0#32 = 1#1 := by
    show BitVec.ofBool _ = _; rw [pos c hc hc']; rfl
  have hsl : Scalar.cmpi .slt (BitVec.ofNat 32 c) 0#32 = 0#1 := by
    show BitVec.ofBool _ = _; rw [slt_zero hc']; rfl
  have hxl : IntOp.cmpi .slt (BitVec.ofNat 32 n) 0#32 = 0#1 := by
    show BitVec.ofBool _ = _; rw [slt_zero hn]; rfl
  rw [hsg, hsl, hxl]
  rcases Nat.eq_zero_or_pos n with rfl | h0
  · have : IntOp.cmpi .ne (BitVec.ofNat 32 (0 % c)) 0#32 = 0#1 := by rw [Nat.zero_mod]; rfl
    rw [this]
    have : ∀ a : BitVec 1, IntOp.andi a 0#1 = 0#1 := by decide
    rw [this]; rfl
  · have hxg : IntOp.cmpi .sgt (BitVec.ofNat 32 n) 0#32 = 1#1 := by
      show BitVec.ofBool _ = _; rw [pos n h0 hn]; rfl
    rw [hxg]
    have : ∀ a : BitVec 1, IntOp.andi (IntOp.cmpi .ne (IntOp.subi (BitVec.setWidth 32 1#1) (BitVec.setWidth 32 0#1)) (Scalar.subi (Scalar.extui 1#1) (Scalar.extui 0#1))) a = 0#1 := by decide
    rw [this]; rfl

theorem hot (p : Bool) : FloatOps.sitofp (F := Ideal) .f32 (BitVec.setWidth 32 (BitVec.ofBool p)) = if p then (1 : EReal) else 0 := by
  cases p
  · show (((BitVec.setWidth 32 (BitVec.ofBool false)).toInt : ℝ) : EReal) = _
    norm_num
  · show (((BitVec.setWidth 32 (BitVec.ofBool true)).toInt : ℝ) : EReal) = _
    rw [show (BitVec.setWidth 32 (BitVec.ofBool true)).toInt = 1 from rfl]
    norm_num

/-- A sum with one term that is not masked. -/
theorem sum_hot {n : Nat} (a : Nat) (ha : a < n) (hn : n < 2 ^ 31) (f : Fin n → EReal) :
    ∑ x : Fin n, FloatOps.sitofp (F := Ideal) .f32 (BitVec.setWidth 32 (IntOp.cmpi .eq (BitVec.ofNat 32 a) (BitVec.ofNat 32 x.val))) * f x = f ⟨a, ha⟩ := by
  rw [Finset.sum_eq_single ⟨a, ha⟩]
  · rw [eq_ofNat (by omega) (by omega), hot]; simp
  · intro x _ hx
    have : ¬ a = x.val := fun h => hx (Fin.ext h.symm)
    rw [eq_ofNat (by omega) (by omega), hot]; simp [this]
  · simp

theorem sum_hot' {n : Nat} (a : Nat) (ha : a < n) (hn : n < 2 ^ 31) (f : Fin n → EReal) :
    ∑ x : Fin n, FloatOps.sitofp (F := Ideal) .f32 (BitVec.setWidth 32 (IntOp.cmpi .eq (BitVec.ofNat 32 x.val) (BitVec.ofNat 32 a))) * f x = f ⟨a, ha⟩ := by
  rw [← sum_hot a ha hn f]
  refine Finset.sum_congr rfl fun x _ => ?_
  rw [eq_ofNat (by omega) (by omega), eq_ofNat (by omega) (by omega)]
  simp [eq_comm]

theorem sum_hot_right {n : Nat} (a : Nat) (ha : a < n) (hn : n < 2 ^ 31) (f : Fin n → EReal) :
    ∑ x : Fin n, f x * FloatOps.sitofp (F := Ideal) .f32 (BitVec.setWidth 32 (IntOp.cmpi .eq (BitVec.ofNat 32 a) (BitVec.ofNat 32 x.val))) = f ⟨a, ha⟩ := by
  rw [← sum_hot a ha hn f]
  exact Finset.sum_congr rfl fun x _ => mul_comm _ _

/-- Four values laid on the lanes from `c` on. -/
theorem sum_diag (c : Nat) (l : Nat) (hc : c < 1000) (hl : l < 1000) (f : Fin 4 → EReal) :
    ∑ x : Fin 4, Scalar.select (IntOp.cmpi .eq (IntOp.addi (BitVec.ofNat 32 x.val) (BitVec.ofNat 32 c)) (BitVec.ofNat 32 l)) (f x) 0
      = if h : c ≤ l ∧ l < c + 4 then f ⟨l - c, by omega⟩ else 0 := by
  have e : ∀ x : Fin 4, IntOp.cmpi .eq (IntOp.addi (BitVec.ofNat 32 x.val) (BitVec.ofNat 32 c)) (BitVec.ofNat 32 l) = BitVec.ofBool (decide (x.val + c = l)) := by
    intro x
    rw [show IntOp.addi (BitVec.ofNat 32 x.val) (BitVec.ofNat 32 c) = BitVec.ofNat 32 (x.val + c) from (BitVec.ofNat_add ..).symm]
    exact eq_ofNat (by omega) (by omega)
  simp only [e, select_ofBool]
  split
  · next h =>
    rw [Finset.sum_eq_single ⟨l - c, by omega⟩]
    · have : l - c + c = l := by omega
      simp [this]
    · intro x _ hx
      have : ¬ x.val + c = l := fun h' => hx (Fin.ext (by simp; omega))
      simp [this]
    · simp
  · next h =>
    refine Finset.sum_eq_zero fun x _ => ?_
    have : ¬ x.val + c = l := by omega
    simp [this]

/-- The values of three rows of four, each on eight lanes of which it uses four. -/
def lanes (f : Fin 3 → Fin 4 → EReal) (l : Nat) : EReal :=
  if h : l < 24 ∧ l % 8 < 4 then f ⟨l / 8, by omega⟩ ⟨l % 8, by omega⟩ else 0

theorem sum_lanes (l : Nat) (hl : l < 128) (f : Fin 3 → Fin 4 → EReal) :
    ∑ x : Fin 4, Scalar.select (IntOp.cmpi .eq (IntOp.addi (BitVec.ofNat 32 x.val) 0#32) (BitVec.ofNat 32 l)) (f 0 x) 0
      + ∑ x : Fin 4, Scalar.select (IntOp.cmpi .eq (IntOp.addi (BitVec.ofNat 32 x.val) 8#32) (BitVec.ofNat 32 l)) (f 1 x) 0
      + ∑ x : Fin 4, Scalar.select (IntOp.cmpi .eq (IntOp.addi (BitVec.ofNat 32 x.val) 16#32) (BitVec.ofNat 32 l)) (f 2 x) 0
      = lanes f l := by
  rw [sum_diag 0 l (by omega) (by omega), sum_diag 8 l (by omega) (by omega), sum_diag 16 l (by omega) (by omega)]
  unfold lanes
  by_cases h : l < 24 ∧ l % 8 < 4
  · rw [dif_pos h]
    obtain h0 | h1 | h2 : l < 4 ∨ (8 ≤ l ∧ l < 12) ∨ (16 ≤ l ∧ l < 20) := by omega
    · rw [dif_pos (by omega), dif_neg (by omega), dif_neg (by omega), add_zero, add_zero]
      congr 1 <;> [skip; skip] <;> first | (apply Fin.ext; simp; omega) | (congr 1; apply Fin.ext; simp; omega)
    · rw [dif_neg (by omega), dif_pos (by omega), dif_neg (by omega), add_zero, zero_add]
      rw [show (⟨l / 8, by omega⟩ : Fin 3) = 1 from Fin.ext (by simp; omega)]
      congr 1; apply Fin.ext; simp; omega
    · rw [dif_neg (by omega), dif_neg (by omega), dif_pos (by omega), zero_add, zero_add]
      rw [show (⟨l / 8, by omega⟩ : Fin 3) = 2 from Fin.ext (by simp; omega)]
      congr 1; apply Fin.ext; simp; omega
  · rw [dif_neg h, dif_neg (by omega), dif_neg (by omega), dif_neg (by omega), add_zero, add_zero]

end Cert.Words

end
-- ==== Proof.KernelQuant.lean ====
module

public import proofs.«01_k».proof.Proof.QuantMath
public import proofs.«01_k».proof.Proof.Words
public import proofs.«01_k».proof.Proof.Gen.KernelIdeal.Skeleton

@[expose] public section

set_option maxRecDepth 16384

noncomputable section

/-!
What the kernel's quantiser computes, entry by entry: the codes, the scales, and the two laid out for the attention.
-/

namespace Cert.KernelIdeal.Val

open Cert.KernelIdeal Cert.KernelIdeal.Gen Cert.Quant Cert.Words
open Idealize.ShloMosaic Idealize.SL.Sem

/-- The greatest magnitude of row `(s, b)`. -/
def amax (v : Vec Ideal S3x4x64 .bf16) (s : Fin 3) (b : Fin 4) : EReal :=
  Finset.univ.fold max (Ideal.ofBits .f32 0xFF800000#32) fun d : Fin 64 => FloatOps.absf (F := Ideal) (φ := .bf16) (v (ix3 s b d))

/-- The row's scale. -/
def scl (v : Vec Ideal S3x4x64 .bf16) (s : Fin 3) (b : Fin 4) : EReal := kscale (amax v s b * Ideal.ofBits .f32 0x3B124925#32)

/-- The row's codes. -/
def code (v : Vec Ideal S3x4x64 .bf16) (s : Fin 3) (b : Fin 4) (d : Fin 64) : EReal :=
  min (Ideal.ofBits .f32 0x43E00000#32) (max (Ideal.ofBits .f32 0xC3E00000#32) (v (ix3 s b d) * kinv (amax v s b * Ideal.ofBits .f32 0x3B124925#32)))

/-! ## The keys -/

theorem pay2_at (v : Vec Ideal S3x4x64 .bf16) (s : Fin 3) (b : Fin 4) :
    k0_pay2 (F := Ideal) v (ix3 s b 0) = amax v s b * Ideal.ofBits .f32 0x3B124925#32 := by
  pointwise [k0_pay2, k0_pay1, amax]
  rfl

/-- The exponents of the keys' rows. -/
def kexp (v : Vec Ideal S3x4x64 .bf16) : IVec S3x4x1 32 := k0_pay5 (F := Ideal) (k0_pay2 v) (k0_pay3 v) k0_pay4

theorem kexp_at (v : Vec Ideal S3x4x64 .bf16) (i : S3x4x1.Idx) : kexp v i = lad (k0_pay2 (F := Ideal) v i) := rfl

theorem kscl_at (v : Vec Ideal S3x4x64 .bf16) (s : Fin 3) (b : Fin 4) :
    k0_pay8 (F := Ideal) (kexp v) k0_pay6 (ix3 s b 0) = scl v s b := by
  have : k0_pay8 (F := Ideal) (kexp v) k0_pay6 (ix3 s b 0)
      = FloatOps.ofBits (F := Ideal) .f32 (IntOp.shli .vector (IntOp.addi 127#32 (qe (kexp v (ix3 s b 0)))) 23#32) := rfl
  rw [this, kexp_at, pay2_at]; rfl

theorem kcode9_at (v : Vec Ideal S3x4x64 .bf16) (s : Fin 3) (b : Fin 4) (d : Fin 64) :
    k0_pay9 (F := Ideal) (k0_pay1 v) (kexp v) k0_pay6 (ix3 s b d) = code v s b d := by
  have : k0_pay9 (F := Ideal) (k0_pay1 v) (kexp v) k0_pay6 (ix3 s b d)
      = min (Ideal.ofBits .f32 0x43E00000#32) (max (Ideal.ofBits .f32 0xC3E00000#32) (v (ix3 s b d) * FloatOps.ofBits (F := Ideal) .f32 (IntOp.shli .vector (IntOp.subi 127#32 (qe (kexp v (ix3 s b 0)))) 23#32))) := by
    pointwise [k0_pay9, k0_pay7, k0_pay6, k0_pay1]
    rfl
  rw [this, kexp_at, pay2_at]; rfl

theorem kcode_at (v : Vec Ideal S3x4x64 .bf16) (s : Fin 3) (b : Fin 4) (d : Fin 64) :
    k0_pay10 (F := Ideal) (k0_pay1 v) (kexp v) k0_pay6 (ix3 s b d) = code v s b d := by
  rw [← kcode9_at]
  pointwise [k0_pay10]

theorem kwide_at (v : Vec Ideal S3x4x64 .bf16) (l : Fin 24) (d : Fin 64) :
    k0_pay11 (F := Ideal) (k0_pay1 v) (kexp v) k0_pay6 (ix2 l d) = lanes (fun s b => code v s b d) l.val := by
  have : k0_pay11 (F := Ideal) (k0_pay1 v) (kexp v) k0_pay6 (ix2 l d)
      = if h : l.val % 8 < 4 then k0_pay9 (k0_pay1 v) (kexp v) k0_pay6 (ix3 ⟨l.val / 8, by omega⟩ ⟨l.val % 8, h⟩ d) else 0 := by
    pointwise [k0_pay11]
  rw [this]
  unfold lanes
  by_cases h : l.val % 8 < 4
  · rw [dif_pos h, dif_pos ⟨l.isLt, h⟩, kcode9_at]
  · rw [dif_neg h, dif_neg fun h' => h h'.2]

theorem krow0_at (v : Vec Ideal S3x4x64 .bf16) (b : Fin 4) :
    k0_pay16 (F := Ideal) (k0_pay15 (kexp v) k0_pay6) (ix3 0 0 b) = scl v 0 b := by
  have : k0_pay16 (F := Ideal) (k0_pay15 (kexp v) k0_pay6) (ix3 0 0 b)
      = ∑ x : Fin 4, Scalar.select (IntOp.cmpi .eq (IntOp.addi (BitVec.ofNat 32 x.val) (BitVec.ofNat 32 0)) (BitVec.ofNat 32 b.val)) (k0_pay8 (F := Ideal) (kexp v) k0_pay6 (ix3 0 x 0)) 0 := by
    have e : ∀ x : Fin 4, IntOp.addi (BitVec.ofNat 32 x.val) (BitVec.ofNat 32 0) = BitVec.ofNat 32 x.val := by decide
    simp only [e]
    pointwise [k0_pay16, k0_pay15, k0_pay14]
  rw [this, sum_diag 0 _ (by omega) (by omega), dif_pos (by omega), kscl_at]; rfl

theorem krow1_at (v : Vec Ideal S3x4x64 .bf16) (b : Fin 4) :
    k0_pay18 (F := Ideal) (k0_pay8 (kexp v) k0_pay6) (ix3 0 0 b) = scl v 1 b := by
  have : k0_pay18 (F := Ideal) (k0_pay8 (kexp v) k0_pay6) (ix3 0 0 b)
      = ∑ x : Fin 4, Scalar.select (IntOp.cmpi .eq (IntOp.addi (BitVec.ofNat 32 x.val) (BitVec.ofNat 32 0)) (BitVec.ofNat 32 b.val)) (k0_pay8 (F := Ideal) (kexp v) k0_pay6 (ix3 1 x 0)) 0 := by
    have e : ∀ x : Fin 4, IntOp.addi (BitVec.ofNat 32 x.val) (BitVec.ofNat 32 0) = BitVec.ofNat 32 x.val := by decide
    simp only [e]
    pointwise [k0_pay18, k0_pay17]
  rw [this, sum_diag 0 _ (by omega) (by omega), dif_pos (by omega), kscl_at]; rfl

theorem krow2_at (v : Vec Ideal S3x4x64 .bf16) (b : Fin 4) :
    k0_pay22 (F := Ideal) (k0_pay20 (k0_pay8 (kexp v) k0_pay6)) (ix3 0 0 b) = scl v 2 b := by
  have : k0_pay22 (F := Ideal) (k0_pay20 (k0_pay8 (kexp v) k0_pay6)) (ix3 0 0 b)
      = ∑ x : Fin 4, Scalar.select (IntOp.cmpi .eq (IntOp.addi (BitVec.ofNat 32 x.val) (BitVec.ofNat 32 0)) (BitVec.ofNat 32 b.val)) (k0_pay8 (F := Ideal) (kexp v) k0_pay6 (ix3 2 x 0)) 0 := by
    have e : ∀ x : Fin 4, IntOp.addi (BitVec.ofNat 32 x.val) (BitVec.ofNat 32 0) = BitVec.ofNat 32 x.val := by decide
    simp only [e]
    pointwise [k0_pay22, k0_pay21, k0_pay20]
  rw [this, sum_diag 0 _ (by omega) (by omega), dif_pos (by omega), kscl_at]; rfl

theorem ktile_at (v : Vec Ideal S3x4x64 .bf16) (l : Fin 128) :
    k0_pay23 (F := Ideal) (k0_pay19 (k0_pay8 (kexp v) k0_pay6) k0_pay13 (k0_pay14 (kexp v) k0_pay6)) (k0_pay20 (k0_pay8 (kexp v) k0_pay6)) (ix2 0 l)
      = lanes (scl v) l.val := by
  rw [← sum_lanes l.val l.isLt (scl v)]
  simp only [← kscl_at]
  pointwise [k0_pay23, k0_pay19, k0_pay20, k0_pay17, k0_pay13, k0_pay21, k0_pay14]

/-! ## The values -/

theorem pay25_at (v : Vec Ideal S3x4x64 .bf16) (s : Fin 3) (b : Fin 4) :
    k0_pay25 (F := Ideal) v (ix3 s b 0) = amax v s b * Ideal.ofBits .f32 0x3B124925#32 := by
  pointwise [k0_pay25, k0_pay24, amax]
  rfl

/-- The exponents of the values' rows, all but the last two bits settled. -/
def vexp (v : Vec Ideal S3x4x64 .bf16) : IVec S3x4x1 32 := k0_pay28 (F := Ideal) (k0_pay25 v) (k0_pay26 v) k0_pay27

/-- The scales of the values' rows. -/
def vscl (v : Vec Ideal S3x4x64 .bf16) : FVec Ideal S3x4x1 .f32 := k0_pay31 (F := Ideal) (k0_pay25 v) (vexp v) k0_pay29

/-- The codes of the values' rows. -/
def vcode (v : Vec Ideal S3x4x64 .bf16) : FVec Ideal S3x4x64 .fp8e4m3 := k0_pay32 (F := Ideal) (k0_pay24 v) (k0_pay25 v) (vexp v) k0_pay29

theorem pay30_at (v : Vec Ideal S3x4x64 .bf16) (i : S3x4x1.Idx) :
    k0_pay30 (F := Ideal) (k0_pay25 v) (vexp v) k0_pay29 i = qe (lad (k0_pay25 (F := Ideal) v i)) := rfl

theorem vscl_at (v : Vec Ideal S3x4x64 .bf16) (s : Fin 3) (b : Fin 4) : vscl v (ix3 s b 0) = scl v s b := by
  have : vscl v (ix3 s b 0)
      = FloatOps.ofBits (F := Ideal) .f32 (IntOp.shli .vector (IntOp.addi 127#32 (k0_pay30 (F := Ideal) (k0_pay25 v) (vexp v) k0_pay29 (ix3 s b 0))) 23#32) := rfl
  rw [this, pay30_at, pay25_at]; rfl

theorem vcode_at (v : Vec Ideal S3x4x64 .bf16) (s : Fin 3) (b : Fin 4) (d : Fin 64) : vcode v (ix3 s b d) = code v s b d := by
  have : vcode v (ix3 s b d)
      = min (Ideal.ofBits .f32 0x43E00000#32) (max (Ideal.ofBits .f32 0xC3E00000#32) (v (ix3 s b d) * FloatOps.ofBits (F := Ideal) .f32 (IntOp.shli .vector (IntOp.subi 127#32 (k0_pay30 (F := Ideal) (k0_pay25 v) (vexp v) k0_pay29 (ix3 s b 0))) 23#32))) := by
    pointwise [vcode, k0_pay32, k0_pay24]
  rw [this, pay30_at, pay25_at]; rfl

theorem vstored_at (v : Vec Ideal S3x4x64 .bf16) (s : Fin 3) (b : Fin 4) (d : Fin 64) : k0_pay33 (F := Ideal) (vcode v) (ix3 s b d) = code v s b d := by
  rw [← vcode_at]
  pointwise [k0_pay33]

theorem vwide_at (v : Vec Ideal S3x4x64 .bf16) (l : Fin 24) (d : Fin 64) :
    k0_pay34 (F := Ideal) (vcode v) (ix2 l d) = lanes (fun s b => code v s b d) l.val := by
  have : k0_pay34 (F := Ideal) (vcode v) (ix2 l d)
      = if h : l.val % 8 < 4 then vcode v (ix3 ⟨l.val / 8, by omega⟩ ⟨l.val % 8, h⟩ d) else 0 := by
    pointwise [k0_pay34]
  rw [this]
  unfold lanes
  by_cases h : l.val % 8 < 4
  · rw [dif_pos h, dif_pos ⟨l.isLt, h⟩, vcode_at]
  · rw [dif_neg h, dif_neg fun h' => h h'.2]

theorem vrow_at (r : FVec Ideal S3x4x1 .f32) (b : Fin 4) :
    k0_pay37 (F := Ideal) r (ix3 0 0 b) = r (ix3 0 b 0) ∧ k0_pay41 (F := Ideal) (k0_pay40 r) (ix3 0 0 b) = r (ix3 1 b 0)
      ∧ k0_pay43 (F := Ideal) r (ix3 0 0 b) = r (ix3 2 b 0) := by
  have d (f : Fin 4 → EReal) : ∑ x : Fin 4, Scalar.select (IntOp.cmpi .eq (BitVec.ofNat 32 x.val) (BitVec.ofNat 32 b.val)) (f x) 0 = f b := by
    have e : ∀ x : Fin 4, IntOp.addi (BitVec.ofNat 32 x.val) (BitVec.ofNat 32 0) = BitVec.ofNat 32 x.val := by decide
    have := sum_diag 0 b.val (by omega) (by omega) f
    simp only [e] at this
    rw [this, dif_pos (by omega)]; rfl
  refine ⟨?_, ?_, ?_⟩
  · rw [← d fun x => r (ix3 0 x 0)]; pointwise [k0_pay37, k0_pay36]
  · rw [← d fun x => r (ix3 1 x 0)]; pointwise [k0_pay41, k0_pay40, k0_pay39]
  · rw [← d fun x => r (ix3 2 x 0)]; pointwise [k0_pay43, k0_pay42]

theorem vtile_at (v : Vec Ideal S3x4x64 .bf16) (l : Fin 128) :
    k0_pay44 (F := Ideal) (vscl v) (k0_pay38 (vscl v)) (k0_pay39 (vscl v)) (ix2 0 l) = lanes (scl v) l.val := by
  rw [← sum_lanes l.val l.isLt (scl v)]
  simp only [← vscl_at]
  pointwise [k0_pay44, k0_pay38, k0_pay39, k0_pay42, k0_pay36]

/-! ## The codes laid out for the attention: one column for each new token, all batches' rows alike -/

theorem cols_sum (i : Fin 256) (f : Fin 64 → EReal) :
    ∑ x : Fin 64, FloatOps.sitofp (F := Ideal) .f32 (BitVec.setWidth 32 (IntOp.cmpi .eq (fmod (BitVec.ofNat 32 i.val) (BitVec.ofNat 32 64)) (BitVec.ofNat 32 x.val))) * f x
      = f ⟨i.val % 64, by omega⟩ := by
  rw [fmod_nat (by omega) (by omega) (by omega), sum_hot _ (by omega) (by omega)]

theorem kcols_at (a c : FVec Ideal S24x64 .f32) (b d : FVec Ideal S104x64 .f32) (i : Fin 256) (l : Fin 128) :
    k0_pay46 (F := Ideal) a b c d (ix2 i l)
      = if h : l.val < 24 then a (ix2 ⟨l.val, h⟩ ⟨i.val % 64, by omega⟩) else b (ix2 ⟨l.val - 24, by omega⟩ ⟨i.val % 64, by omega⟩) := by
  have : k0_pay46 (F := Ideal) a b c d (ix2 i l)
      = ∑ x : Fin 64, FloatOps.sitofp (F := Ideal) .f32 (BitVec.setWidth 32 (IntOp.cmpi .eq (fmod (BitVec.ofNat 32 i.val) (BitVec.ofNat 32 64)) (BitVec.ofNat 32 x.val)))
          * if h : l.val < 24 then a (ix2 ⟨l.val, h⟩ x) else b (ix2 ⟨l.val - 24, by omega⟩ x) := by
    pointwise [k0_pay46, k0_pay45]
    refine Finset.sum_congr rfl fun x _ => ?_
    congr 1
    split
    · rfl
    · rw [dif_pos (by omega)]
  rw [this, cols_sum]

theorem vcols_at (a c : FVec Ideal S24x64 .f32) (b d : FVec Ideal S104x64 .f32) (i : Fin 256) (l : Fin 128) :
    k0_pay47 (F := Ideal) a b c d (ix2 i l)
      = if h : l.val < 24 then c (ix2 ⟨l.val, h⟩ ⟨i.val % 64, by omega⟩) else d (ix2 ⟨l.val - 24, by omega⟩ ⟨i.val % 64, by omega⟩) := by
  have : k0_pay47 (F := Ideal) a b c d (ix2 i l)
      = ∑ x : Fin 64, FloatOps.sitofp (F := Ideal) .f32 (BitVec.setWidth 32 (IntOp.cmpi .eq (fmod (BitVec.ofNat 32 i.val) (BitVec.ofNat 32 64)) (BitVec.ofNat 32 x.val)))
          * if h : l.val < 24 then c (ix2 ⟨l.val, h⟩ x) else d (ix2 ⟨l.val - 24, by omega⟩ x) := by
    pointwise [k0_pay47, k0_pay45]
    refine Finset.sum_congr rfl fun x _ => ?_
    congr 1
    rw [dif_neg (by omega), dif_neg (by omega)]
    by_cases h : l.val < 24
    · rw [dif_pos (by omega), dif_pos h]
      exact congrArg (fun k => c (ix2 k x)) (Fin.ext (by simp; omega))
    · rw [dif_neg (by omega), dif_neg h]
      exact congrArg (fun k => d (ix2 k x)) (Fin.ext (by simp; omega))
  rw [this, cols_sum]

end Cert.KernelIdeal.Val

end
-- ==== Proof.KernelReads.lean ====
module

public import proofs.«01_k».proof.Proof.KernelQuant
public import proofs.«01_k».proof.Proof.KernelIdealRun
public import Idealize.ShloMosaic.Lib.VecWindow

@[expose] public section

set_option maxRecDepth 16384

noncomputable section

/-!
What the kernel leaves in its four quantiser results: codes and scales of the new keys and values.
-/

namespace Cert.KernelIdeal.Run

open Cert.KernelIdeal Cert.KernelIdeal.Gen Cert.Quant Cert.Words Cert.KernelIdeal.Val
open Idealize.ShloMosaic Idealize.SL.Sem

variable (c : Dev nD)

theorem v198_eq (fkn : Bf (F := Ideal) c (Memref.whole main_v2)) (s2) : kernelRun.sl.v198 (F := Ideal) c fkn s2 = fkn := by
  unfold kernelRun.sl.v198 kernelRun.sl.dma0_2
  exact (View.readAt_full _ _ _).trans (View.read_write_univ _ _)

theorem v388_eq (fvn : Bf (F := Ideal) c (Memref.whole main_v4)) (s3) : kernelRun.sl.v388 (F := Ideal) c fvn s3 = fvn := by
  unfold kernelRun.sl.v388 kernelRun.sl.dma0_3
  exact (View.readAt_full _ _ _).trans (View.read_write_univ _ _)

theorem v306_eq (fkn : Bf (F := Ideal) c (Memref.whole main_v2)) (s2) :
    kernelRun.sl.v306 (F := Ideal) c fkn s2 = k0_pay10 (k0_pay1 fkn) (kexp fkn) k0_pay6 := by
  have : kernelRun.sl.v306 (F := Ideal) c fkn s2 = k0_pay10 (k0_pay1 (kernelRun.sl.v198 (F := Ideal) c fkn s2)) (kexp (kernelRun.sl.v198 (F := Ideal) c fkn s2)) k0_pay6 := rfl
  rw [this, v198_eq]

theorem v310_eq (fkn : Bf (F := Ideal) c (Memref.whole main_v2)) (s2) :
    kernelRun.sl.v310 (F := Ideal) c fkn s2 = k0_pay11 (k0_pay1 fkn) (kexp fkn) k0_pay6 := by
  have : kernelRun.sl.v310 (F := Ideal) c fkn s2 = k0_pay11 (k0_pay1 (kernelRun.sl.v198 (F := Ideal) c fkn s2)) (kexp (kernelRun.sl.v198 (F := Ideal) c fkn s2)) k0_pay6 := rfl
  rw [this, v198_eq]

theorem v291_eq (fkn : Bf (F := Ideal) c (Memref.whole main_v2)) (s2) :
    kernelRun.sl.v291 (F := Ideal) c fkn s2 = k0_pay8 (kexp fkn) k0_pay6 := by
  have : kernelRun.sl.v291 (F := Ideal) c fkn s2 = k0_pay8 (kexp (kernelRun.sl.v198 (F := Ideal) c fkn s2)) k0_pay6 := rfl
  rw [this, v198_eq]

theorem v327_eq (fkn : Bf (F := Ideal) c (Memref.whole main_v2)) (s2) :
    kernelRun.sl.v327 (F := Ideal) c fkn s2 = k0_pay16 (k0_pay15 (kexp fkn) k0_pay6) := by
  have : kernelRun.sl.v327 (F := Ideal) c fkn s2 = k0_pay16 (k0_pay15 (kexp (kernelRun.sl.v198 (F := Ideal) c fkn s2)) k0_pay6) := rfl
  rw [this, v198_eq]

theorem v352_eq (fkn : Bf (F := Ideal) c (Memref.whole main_v2)) (s2) :
    kernelRun.sl.v352 (F := Ideal) c fkn s2 = k0_pay18 (k0_pay8 (kexp fkn) k0_pay6) := by
  have : kernelRun.sl.v352 (F := Ideal) c fkn s2 = k0_pay18 (kernelRun.sl.v291 (F := Ideal) c fkn s2) := rfl
  rw [this, v291_eq]

theorem v377_eq (fkn : Bf (F := Ideal) c (Memref.whole main_v2)) (s2) :
    kernelRun.sl.v377 (F := Ideal) c fkn s2 = k0_pay22 (k0_pay20 (k0_pay8 (kexp fkn) k0_pay6)) := by
  have : kernelRun.sl.v377 (F := Ideal) c fkn s2 = k0_pay22 (k0_pay20 (kernelRun.sl.v291 (F := Ideal) c fkn s2)) := rfl
  rw [this, v291_eq]

theorem v387_eq (fkn : Bf (F := Ideal) c (Memref.whole main_v2)) (s2) :
    kernelRun.sl.v387 (F := Ideal) c fkn s2 = k0_pay23 (k0_pay19 (k0_pay8 (kexp fkn) k0_pay6) k0_pay13 (k0_pay14 (kexp fkn) k0_pay6)) (k0_pay20 (k0_pay8 (kexp fkn) k0_pay6)) := by
  have : kernelRun.sl.v387 (F := Ideal) c fkn s2 = k0_pay23 (k0_pay19 (kernelRun.sl.v291 (F := Ideal) c fkn s2) k0_pay13 (k0_pay14 (kexp (kernelRun.sl.v198 (F := Ideal) c fkn s2)) k0_pay6)) (k0_pay20 (kernelRun.sl.v291 (F := Ideal) c fkn s2)) := rfl
  rw [this, v291_eq, v198_eq]

theorem v481_eq (fvn : Bf (F := Ideal) c (Memref.whole main_v4)) (s3) : kernelRun.sl.v481 (F := Ideal) c fvn s3 = vscl fvn := by
  have : kernelRun.sl.v481 (F := Ideal) c fvn s3 = vscl (kernelRun.sl.v388 (F := Ideal) c fvn s3) := rfl
  rw [this, v388_eq]

theorem v493_eq (fvn : Bf (F := Ideal) c (Memref.whole main_v4)) (s3) : kernelRun.sl.v493 (F := Ideal) c fvn s3 = vcode fvn := by
  have : kernelRun.sl.v493 (F := Ideal) c fvn s3 = vcode (kernelRun.sl.v388 (F := Ideal) c fvn s3) := rfl
  rw [this, v388_eq]

theorem v496_eq (fvn : Bf (F := Ideal) c (Memref.whole main_v4)) (s3) : kernelRun.sl.v496 (F := Ideal) c fvn s3 = k0_pay33 (vcode fvn) := by
  have : kernelRun.sl.v496 (F := Ideal) c fvn s3 = k0_pay33 (kernelRun.sl.v493 (F := Ideal) c fvn s3) := rfl
  rw [this, v493_eq]

theorem v500_eq (fvn : Bf (F := Ideal) c (Memref.whole main_v4)) (s3) : kernelRun.sl.v500 (F := Ideal) c fvn s3 = k0_pay34 (vcode fvn) := by
  have : kernelRun.sl.v500 (F := Ideal) c fvn s3 = k0_pay34 (kernelRun.sl.v493 (F := Ideal) c fvn s3) := rfl
  rw [this, v493_eq]

theorem v517_eq (fvn : Bf (F := Ideal) c (Memref.whole main_v4)) (s3) : kernelRun.sl.v517 (F := Ideal) c fvn s3 = k0_pay37 (vscl fvn) := by
  have : kernelRun.sl.v517 (F := Ideal) c fvn s3 = k0_pay37 (kernelRun.sl.v481 (F := Ideal) c fvn s3) := rfl
  rw [this, v481_eq]

theorem v542_eq (fvn : Bf (F := Ideal) c (Memref.whole main_v4)) (s3) : kernelRun.sl.v542 (F := Ideal) c fvn s3 = k0_pay41 (k0_pay40 (vscl fvn)) := by
  have : kernelRun.sl.v542 (F := Ideal) c fvn s3 = k0_pay41 (k0_pay40 (kernelRun.sl.v481 (F := Ideal) c fvn s3)) := rfl
  rw [this, v481_eq]

theorem v567_eq (fvn : Bf (F := Ideal) c (Memref.whole main_v4)) (s3) : kernelRun.sl.v567 (F := Ideal) c fvn s3 = k0_pay43 (vscl fvn) := by
  have : kernelRun.sl.v567 (F := Ideal) c fvn s3 = k0_pay43 (kernelRun.sl.v481 (F := Ideal) c fvn s3) := rfl
  rw [this, v481_eq]

theorem v577_eq (fvn : Bf (F := Ideal) c (Memref.whole main_v4)) (s3) :
    kernelRun.sl.v577 (F := Ideal) c fvn s3 = k0_pay44 (vscl fvn) (k0_pay38 (vscl fvn)) (k0_pay39 (vscl fvn)) := by
  have : kernelRun.sl.v577 (F := Ideal) c fvn s3 = k0_pay44 (kernelRun.sl.v481 (F := Ideal) c fvn s3) (k0_pay38 (kernelRun.sl.v481 (F := Ideal) c fvn s3)) (k0_pay39 (kernelRun.sl.v481 (F := Ideal) c fvn s3)) := rfl
  rw [this, v481_eq]

/-- The keys' codes. -/
theorem dma22_eq (fkn : Bf (F := Ideal) c (Memref.whole main_v2)) (s2 s9) :
    kernelRun.sl.dma22 (F := Ideal) c fkn s2 s9 = fun i => code fkn (i 0) (i 1) (i 2) := by
  unfold kernelRun.sl.dma22 kernelRun.sl.S9_1
  refine (View.read_writes_full _ _ _ _ _).trans ?_
  funext i
  rw [v306_eq]
  idx_vars i
  exact kcode_at fkn _ _ _

/-- The values' codes. -/
theorem dma22_2_eq (fvn : Bf (F := Ideal) c (Memref.whole main_v4)) (s3 s11) :
    kernelRun.sl.dma22_2 (F := Ideal) c fvn s3 s11 = fun i => code fvn (i 0) (i 1) (i 2) := by
  unfold kernelRun.sl.dma22_2 kernelRun.sl.S11_1
  refine (View.read_writes_full _ _ _ _ _).trans ?_
  funext i
  rw [v496_eq]
  idx_vars i
  exact vstored_at fvn _ _ _

/-- Three rows of four, one piece each, cover the three. -/
theorem rows_cover (i : S3x1x4.Idx) {h2 h1 h0} : i ∈ (Rect.unit (s := S3x1x4) ![2, 0, 0] S1x1x4.size h2).set ∨ i ∈ (Rect.unit (s := S3x1x4) ![1, 0, 0] S1x1x4.size h1).set
    ∨ i ∈ (Rect.unit (s := S3x1x4) ![0, 0, 0] S1x1x4.size h0).set := by
  simp only [Rect.mem_set_unit]
  have a0 : (i 0).val < 3 := (i 0).isLt
  have a1 : (i 1).val < 1 := (i 1).isLt
  have a2 : (i 2).val < 4 := (i 2).isLt
  obtain h | h | h : (i 0).val = 2 ∨ (i 0).val = 1 ∨ (i 0).val = 0 := by omega
  · left; intro a; fin_cases a
    · show 2 ≤ (i 0).val ∧ (i 0).val < 2 + 1; omega
    · show 0 ≤ (i 1).val ∧ (i 1).val < 0 + 1; omega
    · show 0 ≤ (i 2).val ∧ (i 2).val < 0 + 4; omega
  · right; left; intro a; fin_cases a
    · show 1 ≤ (i 0).val ∧ (i 0).val < 1 + 1; omega
    · show 0 ≤ (i 1).val ∧ (i 1).val < 0 + 1; omega
    · show 0 ≤ (i 2).val ∧ (i 2).val < 0 + 4; omega
  · right; right; intro a; fin_cases a
    · show 0 ≤ (i 0).val ∧ (i 0).val < 0 + 1; omega
    · show 0 ≤ (i 1).val ∧ (i 1).val < 0 + 1; omega
    · show 0 ≤ (i 2).val ∧ (i 2).val < 0 + 4; omega

/-- A row of a piece is the row it names of the whole. -/
theorem row_at (G : Fin 3 → Fin 4 → EReal) (w : S1x1x4.Idx → EReal) (k : Fin 3) (o : Nat) (hk : k.val = o) (h : ∀ b : Fin 4, w (ix3 0 0 b) = G k b)
    (inb : ∀ a, (![o, 0, 0] : Fin 3 → Nat) a + S1x1x4.size a ≤ S3x1x4.size a) (x : S1x1x4.Idx) :
    w x = G ((Rect.unit (s := S3x1x4) ![o, 0, 0] S1x1x4.size inb).emb x 0) ((Rect.unit (s := S3x1x4) ![o, 0, 0] S1x1x4.size inb).emb x 2) := by
  have e : x = (ix3 0 0 (x 2) : S1x1x4.Idx) := by
    funext a; fin_cases a
    · exact Subsingleton.elim (α := Fin 1) _ _
    · exact Subsingleton.elim (α := Fin 1) _ _
    · rfl
  have x0 : (x 0).val = 0 := by have : (x 0).val < 1 := (x 0).isLt; omega
  have e0 : (Rect.unit (s := S3x1x4) ![o, 0, 0] S1x1x4.size inb).emb x 0 = k := Fin.ext (by
    show o + 1 * (x 0).val = k.val
    omega)
  have e2 : (Rect.unit (s := S3x1x4) ![o, 0, 0] S1x1x4.size inb).emb x 2 = x 2 := Fin.ext (by
    show 0 + 1 * (x 2).val = (x 2).val
    omega)
  rw [e0, e2]
  exact (congrArg w e).trans (h (x 2))

/-- A buffer written row by row holds the rows. -/
theorem rows_writes {κ : Kind} {sp : Space} (v : View sig κ sp S3x1x4 .f32) (f : v.ty.Contents (Elt Ideal)) (G : Fin 3 → Fin 4 → EReal)
    (w2 w1 w0 : S1x1x4.Idx → EReal) (h2 : ∀ b : Fin 4, w2 (ix3 0 0 b) = G 2 b) (h1 : ∀ b : Fin 4, w1 (ix3 0 0 b) = G 1 b)
    (h0 : ∀ b : Fin 4, w0 (ix3 0 0 b) = G 0 b) (i2 i1 i0) :
    v.read (Elt Ideal) (v.writes (Elt Ideal) f [⟨Rect.unit ![2, 0, 0] S1x1x4.size i2, w2⟩, ⟨Rect.unit ![1, 0, 0] S1x1x4.size i1, w1⟩, ⟨Rect.unit ![0, 0, 0] S1x1x4.size i0, w0⟩])
      = fun i => G (i 0) (i 2) := by
  funext i
  refine View.read_writes_apply_of_pieces (Val := Elt Ideal) (e := .f32) _ _ (fun i : S3x1x4.Idx => G (i 0) (i 2)) _ ?_ i ?_
  · intro p hp x
    simp only [List.mem_cons, List.not_mem_nil, or_false] at hp
    rcases hp with rfl | rfl | rfl
    · exact row_at G w2 2 2 rfl h2 i2 x
    · exact row_at G w1 1 1 rfl h1 i1 x
    · exact row_at G w0 0 0 rfl h0 i0 x
  · rcases rows_cover i (h2 := i2) (h1 := i1) (h0 := i0) with h | h | h
    · exact ⟨_, List.mem_cons_self, h⟩
    · exact ⟨_, List.mem_cons_of_mem _ List.mem_cons_self, h⟩
    · exact ⟨_, List.mem_cons_of_mem _ (List.mem_cons_of_mem _ List.mem_cons_self), h⟩

/-- The keys' scales. -/
theorem dma22_1_eq (fkn : Bf (F := Ideal) c (Memref.whole main_v2)) (s2 s10) :
    kernelRun.sl.dma22_1 (F := Ideal) c fkn s2 s10 = fun i => scl fkn (i 0) (i 2) :=
  rows_writes (Memref.whole cc0_scratch10).view s10 (scl fkn) (kernelRun.sl.v377 (F := Ideal) c fkn s2) (kernelRun.sl.v352 (F := Ideal) c fkn s2) (kernelRun.sl.v327 (F := Ideal) c fkn s2)
    (fun b => (congrFun (v377_eq c fkn s2) _).trans (krow2_at fkn b)) (fun b => (congrFun (v352_eq c fkn s2) _).trans (krow1_at fkn b))
    (fun b => (congrFun (v327_eq c fkn s2) _).trans (krow0_at fkn b)) _ _ _

/-- The values' scales. -/
theorem dma22_3_eq (fvn : Bf (F := Ideal) c (Memref.whole main_v4)) (s3 s12) :
    kernelRun.sl.dma22_3 (F := Ideal) c fvn s3 s12 = fun i => scl fvn (i 0) (i 2) :=
  rows_writes (Memref.whole cc0_scratch12).view s12 (scl fvn) (kernelRun.sl.v567 (F := Ideal) c fvn s3) (kernelRun.sl.v542 (F := Ideal) c fvn s3) (kernelRun.sl.v517 (F := Ideal) c fvn s3)
    (fun b => (congrFun (v567_eq c fvn s3) _).trans ((vrow_at (vscl fvn) b).2.2.trans (vscl_at fvn 2 b)))
    (fun b => (congrFun (v542_eq c fvn s3) _).trans ((vrow_at (vscl fvn) b).2.1.trans (vscl_at fvn 1 b)))
    (fun b => (congrFun (v517_eq c fvn s3) _).trans ((vrow_at (vscl fvn) b).1.trans (vscl_at fvn 0 b))) _ _ _

set_option maxHeartbeats 2000000 in
/-- What the run leaves in its results. -/
theorem run_leaves fn fx fkn fvn fck fcv fcks fcvs o0 o1 o2 o3 o4 s0 s1 s2 s3 s4 s5 s6 s7 s8 s9 s10 s11 s12 :
    (kernelRun (F := Ideal) c fn fx fkn fvn fck fcv fcks fcvs o0 o1 o2 o3 o4 s0 s1 s2 s3 s4 s5 s6 s7 s8 s9 s10 s11 s12).1
      = (kernelRun.sl.dma85 (F := Ideal) c fn fx fkn fvn fck fcv fcks fcvs s0 s1 s2 s3 s6 s7 s8,
        (fun i : S3x4x64.Idx => code fkn (i 0) (i 1) (i 2)), (fun i : S3x1x4.Idx => scl fkn (i 0) (i 2)),
        (fun i : S3x4x64.Idx => code fvn (i 0) (i 1) (i 2)), (fun i : S3x1x4.Idx => scl fvn (i 0) (i 2))) := by
  rw [← dma22_eq c fkn s2 s9, ← dma22_1_eq c fkn s2 s10, ← dma22_2_eq c fvn s3 s11, ← dma22_3_eq c fvn s3 s12]
  refine Prod.ext ?_ (Prod.ext ?_ (Prod.ext ?_ (Prod.ext ?_ ?_)))
  · exact View.read_write_univ (Val := Elt Ideal) (v := (Memref.whole main_v11_0).view) o0 (kernelRun.sl.dma85 (F := Ideal) c fn fx fkn fvn fck fcv fcks fcvs s0 s1 s2 s3 s6 s7 s8)
  · exact View.read_write_univ (Val := Elt Ideal) (v := (Memref.whole main_v11_1).view) o1 (kernelRun.sl.dma22 (F := Ideal) c fkn s2 s9)
  · exact View.read_write_univ (Val := Elt Ideal) (v := (Memref.whole main_v11_2).view) o2 (kernelRun.sl.dma22_1 (F := Ideal) c fkn s2 s10)
  · exact View.read_write_univ (Val := Elt Ideal) (v := (Memref.whole main_v11_3).view) o3 (kernelRun.sl.dma22_2 (F := Ideal) c fvn s3 s11)
  · exact View.read_write_univ (Val := Elt Ideal) (v := (Memref.whole main_v11_4).view) o4 (kernelRun.sl.dma22_3 (F := Ideal) c fvn s3 s12)

end Cert.KernelIdeal.Run

end
-- ==== Proof.KernelAttn.lean ====
module

public import proofs.«01_k».proof.Proof.Words
public import proofs.«01_k».proof.Proof.QuantMath
public import proofs.«01_k».proof.Proof.Gen.KernelIdeal.Skeleton

@[expose] public section

set_option maxRecDepth 16384

noncomputable section

/-!
What the attention half of the body computes, value by value: the queries spread over the four sequences' lanes, the
window's and the new tokens' masks, the scales, the scores, the weighted sums, and how the rows are put together.
-/

namespace Cert.KernelIdeal.Val

open Cert.KernelIdeal Cert.KernelIdeal.Gen Cert.Words
open Idealize.ShloMosaic Idealize.SL.Sem

/-- The sequence a row of eight belongs to. -/
def seq (a : Fin 8) : Fin 4 := ⟨a.val % 4, Nat.mod_lt _ (by decide)⟩

theorem seq_at (i : Fin 8) (l : Fin 1152) : k0_pay58 k0_pay55 k0_pay56 k0_pay57 (ix2 i l) = BitVec.ofNat 32 (i.val % 4) := by
  have : k0_pay58 k0_pay55 k0_pay56 k0_pay57 (ix2 i l) = fmod (BitVec.ofNat 32 i.val) (BitVec.ofNat 32 4) := by
    pointwise [k0_pay58, k0_pay55, k0_pay56, k0_pay57] <;> rfl
  rw [this]
  exact fmod_nat (by have := i.isLt; omega) (by decide) (by decide)

/-- The selection among four by the sequence. -/
theorem pick {α : Type} (f : Fin 4 → α) (i : Fin 8) :
    Scalar.select (IntOp.cmpi .eq (BitVec.ofNat 32 (i.val % 4)) 3#32) (f 3)
      (Scalar.select (IntOp.cmpi .eq (BitVec.ofNat 32 (i.val % 4)) 2#32) (f 2)
        (Scalar.select (IntOp.cmpi .eq (BitVec.ofNat 32 (i.val % 4)) 1#32) (f 1) (f 0))) = f (seq i) := by
  fin_cases i <;> rfl

theorem andi_ofBool (a b : Bool) : IntOp.andi (BitVec.ofBool a) (BitVec.ofBool b) = BitVec.ofBool (a && b) := by
  cases a <;> cases b <;> rfl

/-- Whether lane `l` of the window holds a token that new token `s` sees, `w` being the window's length. -/
def seen (w : BitVec 32) (s : Fin 3) (l : Nat) : Bool :=
  (BitVec.ofNat 32 l).slt w && (w + BitVec.ofNat 32 (4294966272 + s.val)).slt (BitVec.ofNat 32 l)

/-- The masks' value: nothing where a row sees the lane, minus infinity where it does not. -/
def bias (w : Fin 4 → BitVec 32) (s : Fin 3) (a : Fin 8) (l : Fin 1280) : EReal :=
  if l.val < 1152 then (if seen (w (seq a)) s l.val then 0 else Ideal.ofBits .f32 0xFF800000#32)
  else if (l.val - 1152) / 8 ≤ s.val ∧ (l.val - 1152) % 8 = a.val % 4 then 0 else Ideal.ofBits .f32 0xFF800000#32

theorem sle_ofNat {a b : Nat} (ha : a < 2 ^ 31) (hb : b < 2 ^ 31) : IntOp.cmpi .sle (BitVec.ofNat 32 a) (BitVec.ofNat 32 b) = BitVec.ofBool (decide (a ≤ b)) := by
  show BitVec.ofBool ((BitVec.ofNat 32 a).sle (BitVec.ofNat 32 b)) = _
  congr 1
  simp only [BitVec.sle, BitVec.toInt_eq_toNat_cond, BitVec.toNat_ofNat]
  rw [Bool.eq_iff_iff]
  simp only [decide_eq_true_eq]
  have h1 : a % 2 ^ 32 = a := Nat.mod_eq_of_lt (by omega)
  have h2 : b % 2 ^ 32 = b := Nat.mod_eq_of_lt (by omega)
  rw [h1, h2, if_pos (by omega), if_pos (by omega)]
  omega

/-- The two halves of a mask, from the words that are compared. -/
theorem bias_of (w : Fin 4 → BitVec 32) (s : Fin 3) (a : Fin 8) (l : Fin 1280) :
    (if l.val < 1152 then
      Scalar.select (IntOp.andi (IntOp.cmpi .slt (BitVec.ofNat 32 l.val) (w (seq a)))
        (IntOp.cmpi .sgt (BitVec.ofNat 32 l.val) (IntOp.addi (w (seq a)) (BitVec.ofNat 32 (4294966272 + s.val))))) (0 : EReal) (Ideal.ofBits .f32 0xFF800000#32)
     else
      Scalar.select (IntOp.andi (IntOp.cmpi .sle (fdiv (BitVec.ofNat 32 (l.val - 1152)) (BitVec.ofNat 32 8)) (BitVec.ofNat 32 s.val))
        (IntOp.cmpi .eq (fmod (BitVec.ofNat 32 (l.val - 1152)) (BitVec.ofNat 32 8)) (fmod (BitVec.ofNat 32 a.val) (BitVec.ofNat 32 4)))) (0 : EReal) (Ideal.ofBits .f32 0xFF800000#32))
      = bias w s a l := by
  have hl := l.isLt
  have ha := a.isLt
  have hs := s.isLt
  unfold bias
  split
  · show Scalar.select (IntOp.andi (BitVec.ofBool _) (BitVec.ofBool _)) _ _ = _
    rw [andi_ofBool, select_ofBool]
    rfl
  · rw [fdiv_nat (by omega) (by decide) (by decide), fmod_nat (by omega) (by decide) (by decide), fmod_nat (by omega) (by decide) (by decide),
      sle_ofNat (by omega) (by omega), eq_ofNat (by omega) (by omega), andi_ofBool, select_ofBool]
    simp only [Bool.and_eq_true, decide_eq_true_eq]

/-- The sublanes' and the lanes' numbers of the new tokens' tile. -/
abbrev lanes8 : IVec S8x128 32 := iota .tc S8x128 32 [1] iota_S8x128_d1_w32
abbrev subs8 : IVec S8x128 32 := iota .tc S8x128 32 [0] iota_S8x128_d0_w32
abbrev seqs : IVec S8x1152 32 := k0_pay58 k0_pay55 k0_pay56 k0_pay57
abbrev lanesW : IVec S8x1152 32 := iota .tc S8x1152 32 [1] iota_S8x1152_d1_w32
abbrev his (w : Fin 4 → BitVec 32) : IVec S8x1152 32 := k0_pay59 (w 0) (w 1) (w 2) (w 3) k0_pay55 k0_pay56 k0_pay57

theorem his_at (w : Fin 4 → BitVec 32) (i : Fin 8) (l : Fin 1152) : his w (ix2 i l) = w (seq i) := by
  have : his w (ix2 i l) = Scalar.select (IntOp.cmpi .eq (seqs (ix2 i l)) 3#32) (w 3)
      (Scalar.select (IntOp.cmpi .eq (seqs (ix2 i l)) 2#32) (w 2)
        (Scalar.select (IntOp.cmpi .eq (seqs (ix2 i l)) 1#32) (w 1) (w 0))) := by
    pointwise [k0_pay59] <;> rfl
  rw [this, seqs, seq_at, pick w]

theorem bias0_at (w : Fin 4 → BitVec 32) (i : Fin 8) (l : Fin 1280) :
    k0_pay62 (F := Ideal) lanes8 subs8 (k0_pay60 (w 0) (w 1) (w 2) (w 3) k0_pay55 k0_pay56 k0_pay57) (k0_pay61 lanes8) 8#32 0#32 (ix2 i l) = bias w 0 i l := by
  rw [← bias_of]
  have : k0_pay62 (F := Ideal) lanes8 subs8 (k0_pay60 (w 0) (w 1) (w 2) (w 3) k0_pay55 k0_pay56 k0_pay57) (k0_pay61 lanes8) 8#32 0#32 (ix2 i l)
      = if h : l.val < 1152 then
          Scalar.select (IntOp.andi (IntOp.cmpi .slt (BitVec.ofNat 32 l.val) (his w (ix2 i ⟨l.val, h⟩)))
            (IntOp.cmpi .sgt (BitVec.ofNat 32 l.val) (IntOp.addi (his w (ix2 i ⟨l.val, h⟩)) (BitVec.ofNat 32 (4294966272 + (0 : Fin 3).val))))) (0 : EReal) (Ideal.ofBits .f32 0xFF800000#32)
        else
          Scalar.select (IntOp.andi (IntOp.cmpi .sle (fdiv (BitVec.ofNat 32 (l.val - 1152)) (BitVec.ofNat 32 8)) (BitVec.ofNat 32 (0 : Fin 3).val))
            (IntOp.cmpi .eq (fmod (BitVec.ofNat 32 (l.val - 1152)) (BitVec.ofNat 32 8)) (fmod (BitVec.ofNat 32 i.val) (BitVec.ofNat 32 4)))) (0 : EReal) (Ideal.ofBits .f32 0xFF800000#32) := by
    pointwise [k0_pay62, k0_pay60, k0_pay61] <;> rfl
  rw [this]
  split
  · rw [his_at]
  · rfl

theorem bias1_at (w : Fin 4 → BitVec 32) (i : Fin 8) (l : Fin 1280) :
    k0_pay68 (F := Ideal) subs8 (k0_pay65 (k0_pay63 lanesW (his w)) (k0_pay64 lanesW (his w))) (k0_pay66 lanes8) (k0_pay67 lanes8) 4#32 (Scalar.cmpi .eq 4#32 0#32) (ix2 i l) = bias w 1 i l := by
  rw [← bias_of]
  have : k0_pay68 (F := Ideal) subs8 (k0_pay65 (k0_pay63 lanesW (his w)) (k0_pay64 lanesW (his w))) (k0_pay66 lanes8) (k0_pay67 lanes8) 4#32 (Scalar.cmpi .eq 4#32 0#32) (ix2 i l)
      = if h : l.val < 1152 then
          Scalar.select (IntOp.andi (IntOp.cmpi .slt (BitVec.ofNat 32 l.val) (his w (ix2 i ⟨l.val, h⟩)))
            (IntOp.cmpi .sgt (BitVec.ofNat 32 l.val) (IntOp.addi (his w (ix2 i ⟨l.val, h⟩)) (BitVec.ofNat 32 (4294966272 + (1 : Fin 3).val))))) (0 : EReal) (Ideal.ofBits .f32 0xFF800000#32)
        else
          Scalar.select (IntOp.andi (IntOp.cmpi .sle (fdiv (BitVec.ofNat 32 (l.val - 1152)) (BitVec.ofNat 32 8)) (BitVec.ofNat 32 (1 : Fin 3).val))
            (IntOp.cmpi .eq (fmod (BitVec.ofNat 32 (l.val - 1152)) (BitVec.ofNat 32 8)) (fmod (BitVec.ofNat 32 i.val) (BitVec.ofNat 32 4)))) (0 : EReal) (Ideal.ofBits .f32 0xFF800000#32) := by
    pointwise [k0_pay68, k0_pay65, k0_pay63, k0_pay64, k0_pay66, k0_pay67] <;> rfl
  rw [this]
  split
  · rw [his_at]
  · rfl

theorem bias2_at (w : Fin 4 → BitVec 32) (i : Fin 8) (l : Fin 1280) :
    k0_pay74 (F := Ideal) (k0_pay69 lanesW (his w)) (k0_pay73 lanes8 subs8 (k0_pay70 lanes8) (k0_pay71 lanes8) k0_pay72) (FloatOps.ofBits .f32 0x00000000#32) (FloatOps.ofBits .f32 0xFF800000#32) (ix2 i l) = bias w 2 i l := by
  rw [← bias_of]
  have : k0_pay74 (F := Ideal) (k0_pay69 lanesW (his w)) (k0_pay73 lanes8 subs8 (k0_pay70 lanes8) (k0_pay71 lanes8) k0_pay72) (FloatOps.ofBits .f32 0x00000000#32) (FloatOps.ofBits .f32 0xFF800000#32) (ix2 i l)
      = if h : l.val < 1152 then
          Scalar.select (IntOp.andi (IntOp.cmpi .slt (BitVec.ofNat 32 l.val) (his w (ix2 i ⟨l.val, h⟩)))
            (IntOp.cmpi .sgt (BitVec.ofNat 32 l.val) (IntOp.addi (his w (ix2 i ⟨l.val, h⟩)) (BitVec.ofNat 32 (4294966272 + (2 : Fin 3).val))))) (0 : EReal) (Ideal.ofBits .f32 0xFF800000#32)
        else
          Scalar.select (IntOp.andi (IntOp.cmpi .sle (fdiv (BitVec.ofNat 32 (l.val - 1152)) (BitVec.ofNat 32 8)) (BitVec.ofNat 32 (2 : Fin 3).val))
            (IntOp.cmpi .eq (fmod (BitVec.ofNat 32 (l.val - 1152)) (BitVec.ofNat 32 8)) (fmod (BitVec.ofNat 32 i.val) (BitVec.ofNat 32 4)))) (0 : EReal) (Ideal.ofBits .f32 0xFF800000#32) := by
    pointwise [k0_pay74, k0_pay69, k0_pay73, k0_pay70, k0_pay71, k0_pay72] <;> rfl
  rw [this]
  split
  · rw [his_at]
  · rfl

/-- The values' scales: the window's, then the new tokens'. -/
theorem vscale_at (a : FVec Ideal S1x128 .f32) (v : Fin 4 → Vec Ideal S1x1x1152 .f32) (i : Fin 8) (l : Fin 1280) :
    k0_pay78 (F := Ideal) a seqs (v 0) (v 1) (v 2) (v 3) (ix2 i l)
      = if h : l.val < 1152 then v (seq i) (ix3 0 0 ⟨l.val, h⟩) else a (ix2 0 ⟨l.val - 1152, by have := l.isLt; omega⟩) := by
  have : k0_pay78 (F := Ideal) a seqs (v 0) (v 1) (v 2) (v 3) (ix2 i l)
      = if h : l.val < 1152 then
          Scalar.select (IntOp.cmpi .eq (seqs (ix2 i ⟨l.val, h⟩)) 3#32) (v 3 (ix3 0 0 ⟨l.val, h⟩))
            (Scalar.select (IntOp.cmpi .eq (seqs (ix2 i ⟨l.val, h⟩)) 2#32) (v 2 (ix3 0 0 ⟨l.val, h⟩))
              (Scalar.select (IntOp.cmpi .eq (seqs (ix2 i ⟨l.val, h⟩)) 1#32) (v 1 (ix3 0 0 ⟨l.val, h⟩)) (v 0 (ix3 0 0 ⟨l.val, h⟩))))
        else a (ix2 0 ⟨l.val - 1152, by have := l.isLt; omega⟩) := by
    pointwise [k0_pay78] <;> rfl
  rw [this]
  split
  · rw [seqs, seq_at, pick fun b => v b (ix3 0 0 ⟨l.val, ‹_›⟩)]
  · rfl

/-- The scores times the keys' scales and the named constant. -/
theorem scores_at (a : FVec Ideal S1x128 .f32) (q : FVec Ideal S192x256 .bf16) (v : Fin 4 → Vec Ideal S1x1x1152 .f32) (k : Vec Ideal S256x1280 .fp8e4m3)
    (s : Fin 3) (n a8 : Fin 8) (l : Fin 1280) :
    k0_pay79 (F := Ideal) a q (k0_pay75 seqs (v 0) (v 1) (v 2)) (k0_pay76 seqs) (k0_pay77 (v 3)) k (ix4 s n a8 l)
      = (∑ x : Fin 256, q (ix2 ⟨s.val * 64 + n.val * 8 + a8.val, by have := s.isLt; have := n.isLt; have := a8.isLt; omega⟩ x) * k (ix2 x l))
        * ((if h : l.val < 1152 then v (seq a8) (ix3 0 0 ⟨l.val, h⟩) else a (ix2 0 ⟨l.val - 1152, by have := l.isLt; omega⟩))
          * Named.named (F := Ideal) κ "score_scale_log2e" (φ := .f32) 0x3E38AA3B#32) := by
  have : k0_pay79 (F := Ideal) a q (k0_pay75 seqs (v 0) (v 1) (v 2)) (k0_pay76 seqs) (k0_pay77 (v 3)) k (ix4 s n a8 l)
      = (∑ x : Fin 256, q (ix2 ⟨s.val * 64 + n.val * 8 + a8.val, by have := s.isLt; have := n.isLt; have := a8.isLt; omega⟩ x) * k (ix2 x l))
        * ((if h : l.val < 1152 then
          Scalar.select (IntOp.cmpi .eq (seqs (ix2 a8 ⟨l.val, h⟩)) 3#32) (v 3 (ix3 0 0 ⟨l.val, h⟩))
            (Scalar.select (IntOp.cmpi .eq (seqs (ix2 a8 ⟨l.val, h⟩)) 2#32) (v 2 (ix3 0 0 ⟨l.val, h⟩))
              (Scalar.select (IntOp.cmpi .eq (seqs (ix2 a8 ⟨l.val, h⟩)) 1#32) (v 1 (ix3 0 0 ⟨l.val, h⟩)) (v 0 (ix3 0 0 ⟨l.val, h⟩))))
          else a (ix2 0 ⟨l.val - 1152, by have := l.isLt; omega⟩))
          * Named.named (F := Ideal) κ "score_scale_log2e" (φ := .f32) 0x3E38AA3B#32) := by
    pointwise [k0_pay79, k0_pay75, k0_pay76, k0_pay77] <;> rfl
  rw [this]
  congr 2
  split
  · rw [seqs, seq_at, pick fun b => v b (ix3 0 0 ⟨l.val, ‹_›⟩)]
  · rfl

/-- A comparison as a factor. -/
abbrev hotv (c : BitVec 1) : EReal := FloatOps.sitofp (F := Ideal) .f32 (BitVec.setWidth 32 c)

/-- The queries, each row in the sixty-four lanes of its own sequence. -/
theorem q_at (x : Vec Ideal S192x64 .bf16) (i : Fin 192) (l : Fin 256) :
    k0_pay54 (F := Ideal) (k0_pay49 (k0_pay48 (iota .tc S192x192 32 [0] iota_S192x192_d0_w32)) x) k0_pay50 k0_pay51 k0_pay52 k0_pay53 (ix2 i l)
      = if l.val / 64 = i.val % 4 then x (ix2 ⟨(i.val % 4) * 48 + i.val / 4, by have := i.isLt; omega⟩ ⟨l.val % 64, Nat.mod_lt _ (by decide)⟩) else 0 := by
  have hi := i.isLt
  have hl := l.isLt
  have : k0_pay54 (F := Ideal) (k0_pay49 (k0_pay48 (iota .tc S192x192 32 [0] iota_S192x192_d0_w32)) x) k0_pay50 k0_pay51 k0_pay52 k0_pay53 (ix2 i l)
      = Scalar.select (IntOp.cmpi .eq (fdiv (BitVec.ofNat 32 l.val) (BitVec.ofNat 32 64)) (fmod (BitVec.ofNat 32 i.val) (BitVec.ofNat 32 4)))
          (∑ x1 : Fin 64, (∑ x2 : Fin 192, hotv (IntOp.cmpi .eq (BitVec.ofNat 32 x2.val)
              (IntOp.addi (IntOp.muli (fmod (BitVec.ofNat 32 i.val) (BitVec.ofNat 32 4)) 48#32) (fdiv (BitVec.ofNat 32 i.val) (BitVec.ofNat 32 4)))) * (x (ix2 x2 x1) : EReal))
            * hotv (IntOp.cmpi .eq (fmod (BitVec.ofNat 32 l.val) (BitVec.ofNat 32 64)) (BitVec.ofNat 32 x1.val))) (0 : EReal) := by
    pointwise [k0_pay54, k0_pay49, k0_pay48, k0_pay50, k0_pay51, k0_pay52, k0_pay53] <;> rfl
  rw [this, fdiv_nat (by omega) (by decide) (by decide), fdiv_nat (by omega) (by decide) (by decide), fmod_nat (by omega) (by decide) (by decide),
    fmod_nat (by omega) (by decide) (by decide), eq_ofNat (by omega) (by omega), select_ofBool]
  simp only [decide_eq_true_eq]
  congr 1
  have e : IntOp.addi (IntOp.muli (BitVec.ofNat 32 (i.val % 4)) 48#32) (BitVec.ofNat 32 (i.val / 4)) = BitVec.ofNat 32 ((i.val % 4) * 48 + i.val / 4) := by
    show BitVec.ofNat 32 (i.val % 4) * BitVec.ofNat 32 48 + BitVec.ofNat 32 (i.val / 4) = _
    rw [BitVec.ofNat_add, BitVec.ofNat_mul]
  rw [e]
  rw [sum_hot_right (l.val % 64) (Nat.mod_lt _ (by decide)) (by decide) fun x1 : Fin 64 => ∑ x2 : Fin 192, hotv (IntOp.cmpi .eq (BitVec.ofNat 32 x2.val) (BitVec.ofNat 32 ((i.val % 4) * 48 + i.val / 4))) * x (ix2 x2 x1)]
  exact sum_hot' ((i.val % 4) * 48 + i.val / 4) (by omega) (by decide) fun x2 : Fin 192 => x (ix2 x2 ⟨l.val % 64, Nat.mod_lt _ (by decide)⟩)

end Cert.KernelIdeal.Val

end
-- ==== Proof.KernelSoft.lean ====
module

public import proofs.«01_k».proof.Proof.KernelAttn

@[expose] public section

set_option maxRecDepth 16384

noncomputable section

/-!
What the attention half of the body computes from the scores on: the softmax's weights, the weighted sums, and how the
rows are put together into the result.
-/

namespace Cert.KernelIdeal.Val

open Cert.KernelIdeal Cert.KernelIdeal.Gen Cert.Words
open Idealize.ShloMosaic Idealize.SL.Sem

/-- The largest of a row's scores. -/
def top {n : Nat} (f : Fin n → EReal) : EReal := Finset.univ.fold max (Ideal.ofBits .f32 0xFF800000#32) f

/-- A row's weights. -/
def wgt {n : Nat} (f : Fin n → EReal) (x : Fin n) : EReal := Ideal.exp2 (f x - top f)

/-- The three masks of the three new tokens. -/
def bias3 (b0 : FVec Ideal S1x8x1280 .f32) (b1 b2 : FVec Ideal S8x1280 .f32) (s : Fin 3) (a : Fin 8) (l : Fin 1280) : EReal :=
  if h : s.val < 1 then b0 (ix3 ⟨s.val, h⟩ a l) else if h : s.val - 1 < 1 then b1 (ix2 a l) else b2 (ix2 a l)

/-- A row's weighted sum over its sequence's lanes, divided by the weights' sum. -/
def rowOut (f v : Fin 1280 → EReal) (V : Fin 256 → Fin 1280 → EReal) (r : Fin 256) : EReal :=
  Ideal.div (∑ x : Fin 1280, wgt f x * v x * V r x) (∑ x : Fin 1280, wgt f x)

theorem sums_at (b1 b2 vs : FVec Ideal S8x1280 .f32) (sc : FVec Ideal S3x8x8x1280 .f32) (b0 : FVec Ideal S1x8x1280 .f32) (v : Vec Ideal S256x1280 .fp8e4m3)
    (s : Fin 3) (n a : Fin 8) (l : Fin 128) :
    k0_pay81 (F := Ideal) b1 b2 vs sc b0 v (ix3 ⟨s.val * 8 + n.val, by have := s.isLt; have := n.isLt; omega⟩ a l)
      = rowOut (fun x => sc (ix4 s n a x) + bias3 b0 b1 b2 s a x) (fun x => vs (ix2 a x)) (fun r x => v (ix2 r x))
          ⟨if a.val % 4 < 2 then l.val else 128 + l.val, by have := l.isLt; split <;> omega⟩ := by
  have ha := a.isLt
  have : k0_pay81 (F := Ideal) b1 b2 vs sc b0 v (ix3 ⟨s.val * 8 + n.val, by have := s.isLt; have := n.isLt; omega⟩ a l)
      = Ideal.div (Scalar.select (IntOp.cmpi .slt (fmod (BitVec.ofNat 32 a.val) (BitVec.ofNat 32 4)) 2#32)
          (∑ x : Fin 1280, wgt (fun x => sc (ix4 s n a x) + bias3 b0 b1 b2 s a x) x * vs (ix2 a x) * v (ix2 ⟨l.val, by have := l.isLt; omega⟩ x))
          (∑ x : Fin 1280, wgt (fun x => sc (ix4 s n a x) + bias3 b0 b1 b2 s a x) x * vs (ix2 a x) * v (ix2 ⟨128 + l.val, by have := l.isLt; omega⟩ x)))
        (∑ x : Fin 1280, wgt (fun x => sc (ix4 s n a x) + bias3 b0 b1 b2 s a x) x) := by
    pointwise [k0_pay81] <;> rfl
  rw [this, fmod_nat (by omega) (by decide) (by decide)]
  have sel : ∀ p q : EReal, Scalar.select (IntOp.cmpi .slt (BitVec.ofNat 32 (a.val % 4)) 2#32) p q = if a.val % 4 < 2 then p else q := by
    intro p q; fin_cases a <;> rfl
  rw [sel]
  unfold rowOut
  split <;> rfl

/-- The rows rotated where their lanes are the other half's. -/
theorem turned_at (o : FVec Ideal S24x8x128 .f32) (i : Fin 24) (a : Fin 8) (l : Fin 128) :
    k0_pay82 (F := Ideal) (iota .tc S24x8x128 32 [1] iota_S24x8x128_d1_w32) o 2#32 0#32 (ix3 i a l)
      = if a.val % 2 = a.val / 4 then o (ix3 i a l) else o (ix3 i a ⟨(l.val + 128 - 64) % 128, Nat.mod_lt _ (by decide)⟩) := by
  have ha := a.isLt
  have : k0_pay82 (F := Ideal) (iota .tc S24x8x128 32 [1] iota_S24x8x128_d1_w32) o 2#32 0#32 (ix3 i a l)
      = Scalar.select (IntOp.cmpi .eq (fmod (BitVec.ofNat 32 a.val) (BitVec.ofNat 32 2)) (fdiv (BitVec.ofNat 32 a.val) (BitVec.ofNat 32 4)))
          (o (ix3 i a l)) (o (ix3 i a ⟨(l.val + 128 - 64) % 128, Nat.mod_lt _ (by decide)⟩)) := by
    pointwise [k0_pay82] <;> rfl
  rw [this, fmod_nat (by omega) (by decide) (by decide), fdiv_nat (by omega) (by decide) (by decide), eq_ofNat (by omega) (by omega), select_ofBool]
  simp only [decide_eq_true_eq]

/-- One piece of the result: the first four rows' low lanes beside the last four rows' high lanes. -/
def piece (o : FVec Ideal S24x8x128 .f32) (i : Fin 24) : FVec Ideal S1x4x128 .bf16 := fun j =>
  if (j 2).val < 64 then o (ix3 i ⟨(j 1).val, by have : (j 1).val < 4 := (j 1).isLt; omega⟩ (j 2)) else o (ix3 i ⟨4 + (j 1).val, by have : (j 1).val < 4 := (j 1).isLt; omega⟩ (j 2))

/-- A piece's entry is the row of its sequence and head. -/
theorem piece_at (b1 b2 vs : FVec Ideal S8x1280 .f32) (sc : FVec Ideal S3x8x8x1280 .f32) (b0 : FVec Ideal S1x8x1280 .f32) (v : Vec Ideal S256x1280 .fp8e4m3)
    (s : Fin 3) (n : Fin 8) (b : Fin 4) (l : Fin 128) :
    piece (k0_pay82 (F := Ideal) (iota .tc S24x8x128 32 [1] iota_S24x8x128_d1_w32) (k0_pay81 (F := Ideal) b1 b2 vs sc b0 v) 2#32 0#32)
        ⟨s.val * 8 + n.val, by have := s.isLt; have := n.isLt; omega⟩ (ix3 0 b l)
      = rowOut (fun x => sc (ix4 s n ⟨b.val + 4 * (l.val / 64), by have := b.isLt; have := l.isLt; omega⟩ x) + bias3 b0 b1 b2 s ⟨b.val + 4 * (l.val / 64), by have := b.isLt; have := l.isLt; omega⟩ x)
          (fun x => vs (ix2 ⟨b.val + 4 * (l.val / 64), by have := b.isLt; have := l.isLt; omega⟩ x)) (fun r x => v (ix2 r x))
          ⟨b.val * 64 + l.val % 64, by have := b.isLt; omega⟩ := by
  have hb := b.isLt
  have hl := l.isLt
  have key : ∀ a : Fin 8, a.val % 4 = b.val → a.val / 4 = l.val / 64 →
      k0_pay82 (F := Ideal) (iota .tc S24x8x128 32 [1] iota_S24x8x128_d1_w32) (k0_pay81 (F := Ideal) b1 b2 vs sc b0 v) 2#32 0#32 (ix3 ⟨s.val * 8 + n.val, by have := s.isLt; have := n.isLt; omega⟩ a l)
        = rowOut (fun x => sc (ix4 s n a x) + bias3 b0 b1 b2 s a x) (fun x => vs (ix2 a x)) (fun r x => v (ix2 r x)) ⟨b.val * 64 + l.val % 64, by omega⟩ := by
    intro a h1 h2
    have ha := a.isLt
    rw [turned_at, sums_at, sums_at]
    split <;> congr 1 <;> refine Fin.ext ?_ <;> dsimp only <;> split <;> omega
  show (if l.val < 64 then _ else _) = _
  split
  · rename_i h
    have e : (⟨b.val + 4 * (l.val / 64), by omega⟩ : Fin 8) = ⟨b.val, by omega⟩ := Fin.ext (by dsimp only; omega)
    rw [e]
    exact key ⟨b.val, by omega⟩ (by dsimp only; omega) (by dsimp only; omega)
  · rename_i h
    have e : (⟨b.val + 4 * (l.val / 64), by omega⟩ : Fin 8) = ⟨4 + b.val, by omega⟩ := Fin.ext (by dsimp only; omega)
    rw [e]
    exact key ⟨4 + b.val, by omega⟩ (by dsimp only; omega) (by dsimp only; omega)

end Cert.KernelIdeal.Val

end
-- ==== Proof.KernelWindow.lean ====
module

public import proofs.«01_k».proof.Proof.KernelReads
public import proofs.«01_k».proof.Proof.KernelSoft
public import Idealize.ShloMosaic.Lib.ValueLayout

@[expose] public section

set_option maxRecDepth 16384

noncomputable section

/-!
What the transfers bring in: the four lengths, and for each sequence the window of the cache that its length names.
-/

namespace Cert.KernelIdeal.Run

open Cert.KernelIdeal Cert.KernelIdeal.Gen Cert.KernelIdeal.Val Cert.Words
open Idealize.ShloMosaic Idealize.SL.Sem
open Idealize.ShloMosaic.ValueIdx (reshapeEquiv_ix2_1ab shapeCast_1ab_ab_apply)

/-- Where a sequence's window starts: the first token of an aligned block of lanes. -/
def off (w : BitVec 32) : Nat := (Scalar.minsi 129920#32 (Scalar.maxsi 0#32 (Scalar.subi w 1024#32))).toNat / 128 * 128

theorem clip_le (w : BitVec 32) : (Scalar.minsi 129920#32 (Scalar.maxsi 0#32 (Scalar.subi w 1024#32))).toNat ≤ 129920 := by
  generalize Scalar.subi w 1024#32 = x
  unfold Scalar.minsi Scalar.maxsi IntOp.minsi IntOp.maxsi
  simp only [BitVec.slt, BitVec.toInt_eq_toNat_cond]
  have := x.isLt
  repeat' split
  all_goals simp_all <;> omega

theorem off_le (w : BitVec 32) : off w ≤ 129920 := by
  have := clip_le w
  unfold off; omega

/-- The start of the window as the body computes it. -/
theorem start_word (w : BitVec 32) :
    Scalar.muli (fdiv (Scalar.minsi 129920#32 (Scalar.maxsi 0#32 (Scalar.subi w 1024#32))) (BitVec.ofNat 32 128)) 128#32 = BitVec.ofNat 32 (off w) := by
  have h := clip_le w
  have e : Scalar.minsi 129920#32 (Scalar.maxsi 0#32 (Scalar.subi w 1024#32))
      = BitVec.ofNat 32 (Scalar.minsi 129920#32 (Scalar.maxsi 0#32 (Scalar.subi w 1024#32))).toNat := by simp
  unfold off
  generalize (Scalar.minsi 129920#32 (Scalar.maxsi 0#32 (Scalar.subi w 1024#32))).toNat = n at h e
  rw [e, fdiv_nat (by omega) (by decide) (by decide)]
  show BitVec.ofNat 32 _ * BitVec.ofNat 32 128 = _
  rw [← BitVec.ofNat_mul]

theorem start_nat (w : BitVec 32) :
    (Scalar.muli (fdiv (Scalar.minsi 129920#32 (Scalar.maxsi 0#32 (Scalar.subi w 1024#32))) (BitVec.ofNat 32 128)) 128#32).toNat = off w := by
  rw [start_word]
  have := off_le w
  simp; omega

theorem off1_eq (w : BitVec 32) : k0_off1 w = ![0, 0, off w] := by rw [← start_nat]; rfl
theorem off2_eq (w : BitVec 32) : k0_off2 w = ![0, 0, off w] := by rw [← start_nat]; rfl
theorem off3_eq (w : BitVec 32) : k0_off3 w = ![1, 0, off w] := by rw [← start_nat]; rfl
theorem off4_eq (w : BitVec 32) : k0_off4 w = ![1, 0, off w] := by rw [← start_nat]; rfl
theorem off5_eq (w : BitVec 32) : k0_off5 w = ![2, 0, off w] := by rw [← start_nat]; rfl
theorem off6_eq (w : BitVec 32) : k0_off6 w = ![2, 0, off w] := by rw [← start_nat]; rfl
theorem off7_eq (w : BitVec 32) : k0_off7 w = ![3, 0, off w] := by rw [← start_nat]; rfl
theorem off8_eq (w : BitVec 32) : k0_off8 w = ![3, 0, off w] := by rw [← start_nat]; rfl

/-- A window of codes, as a transfer brings it: at `(d, l)` the code of dimension `d` of token `n + l`. -/
theorem win64 (M : Memref sig .tc .hbm S4x64x131072 .fp8e4m3) (f : M.view.ty.Contents (Elt Ideal)) (b : Fin 4) (o : Fin 3 → Nat) (n : Nat) (ho : o = ![b.val, 0, n]) (hn : n + 1152 ≤ 131072)
    (inb : ∀ a, o a + S1x64x1152.size a ≤ S4x64x131072.size a) (hr) (hq) (d : Fin 64) (l : Fin 1152) :
    View.read (Elt Ideal) ((M.slice (Rect.unit o S1x64x1152.size inb) hr).squeeze S64x1152 hq).view f (ix2 d l)
      = M.view.read (Elt Ideal) f (ix3 b d ⟨n + l.val, by have := l.isLt; omega⟩) := by
  subst ho
  refine (congrFun (Memref.read_squeeze_slice M (Rect.unit ![b.val, 0, n] S1x64x1152.size inb) hr hq (show Shape.ShapeCasts _ _ from (show S1x64x1152.ShapeCasts S64x1152 by decide)) f) _).trans ?_
  refine (shapeCast_1ab_ab_apply _ _ d l).trans ?_
  refine congrArg (M.view.read (Elt Ideal) f) ?_
  funext a; fin_cases a <;> refine Fin.ext ?_
  · show b.val + 1 * 0 = b.val; omega
  · show 0 + 1 * d.val = d.val; omega
  · show n + 1 * l.val = n + l.val; omega

/-- A window of scales, likewise. -/
theorem win1 (M : Memref sig .tc .hbm S4x1x131072 .f32) (f : M.view.ty.Contents (Elt Ideal)) (b : Fin 4) (o : Fin 3 → Nat) (n : Nat) (ho : o = ![b.val, 0, n]) (hn : n + 1152 ≤ 131072)
    (inb : ∀ a, o a + S1x1x1152.size a ≤ S4x1x131072.size a) (hr) (hq) (l : Fin 1152) :
    View.read (Elt Ideal) ((M.slice (Rect.unit o S1x1x1152.size inb) hr).squeeze S1x1152 hq).view f (ix2 0 l)
      = M.view.read (Elt Ideal) f (ix3 b 0 ⟨n + l.val, by have := l.isLt; omega⟩) := by
  subst ho
  refine (congrFun (Memref.read_squeeze_slice M (Rect.unit ![b.val, 0, n] S1x1x1152.size inb) hr hq (show Shape.ShapeCasts _ _ from (show S1x1x1152.ShapeCasts S1x1152 by decide)) f) _).trans ?_
  refine (shapeCast_1ab_ab_apply _ _ 0 l).trans ?_
  refine congrArg (M.view.read (Elt Ideal) f) ?_
  funext a; fin_cases a <;> refine Fin.ext ?_
  · show b.val + 1 * 0 = b.val; omega
  · rfl
  · show n + 1 * l.val = n + l.val; omega

variable (c : Dev nD)

section
variable (fn : Bf (F := Ideal) c (Memref.whole main_arg7)) (s0 : Bf (F := Ideal) c (Memref.whole cc0_scratch0))

theorem r_eq : kernelRun.sl.r (F := Ideal) c fn s0 = fn (ix1 0) := by
  unfold kernelRun.sl.r
  rw [View.readAt_apply, View.read_write_univ]
  refine congrArg fn ?_
  funext a; fin_cases a; rfl
theorem r_1_eq : kernelRun.sl.r_1 (F := Ideal) c fn s0 = fn (ix1 1) := by
  unfold kernelRun.sl.r_1
  rw [View.readAt_apply, View.read_write_univ]
  refine congrArg fn ?_
  funext a; fin_cases a; rfl
theorem r_2_eq : kernelRun.sl.r_2 (F := Ideal) c fn s0 = fn (ix1 2) := by
  unfold kernelRun.sl.r_2
  rw [View.readAt_apply, View.read_write_univ]
  refine congrArg fn ?_
  funext a; fin_cases a; rfl
theorem r_3_eq : kernelRun.sl.r_3 (F := Ideal) c fn s0 = fn (ix1 3) := by
  unfold kernelRun.sl.r_3
  rw [View.readAt_apply, View.read_write_univ]
  refine congrArg fn ?_
  funext a; fin_cases a; rfl

/-- A sequence's length, counted from its window's start. -/
def rel (w : BitVec 32) : BitVec 32 := w - BitVec.ofNat 32 (off w)

theorem v29_eq : kernelRun.sl.v29 (F := Ideal) c fn s0 = rel (fn (ix1 0)) := by
  rw [rel, ← start_word, ← r_eq c fn s0]; rfl
theorem v53_eq : kernelRun.sl.v53 (F := Ideal) c fn s0 = rel (fn (ix1 1)) := by
  rw [rel, ← start_word, ← r_1_eq c fn s0]; rfl
theorem v77_eq : kernelRun.sl.v77 (F := Ideal) c fn s0 = rel (fn (ix1 2)) := by
  rw [rel, ← start_word, ← r_2_eq c fn s0]; rfl
theorem v101_eq : kernelRun.sl.v101 (F := Ideal) c fn s0 = rel (fn (ix1 3)) := by
  rw [rel, ← start_word, ← r_3_eq c fn s0]; rfl

end

/-- A row of four scale rows written one after another is the row written there. -/
theorem scale_rows {sp : Space} (M : Memref sig .tc sp S4x1x1152 .f32) (f : M.view.ty.Contents (Elt Ideal)) (w : Fin 4 → S1x1152.Idx → EReal)
    (b : Fin 4) (o : Nat) (hb : b.val = o) (hi hi0 hi1 hi2 hi3 hr0 hr1 hr2 hr3 hq0 hq1 hq2 hq3) (l : Fin 1152) :
    View.readAt (Elt Ideal) M.view (Rect.unit (s := S4x1x1152) ![o, 0, 0] S1x1x1152.size hi).toLoadRect
      (View.write (Elt Ideal) ((M.slice (Rect.unit ![3, 0, 0] S1x1x1152.size hi3) hr3).squeeze S1x1152 hq3).view
        (View.write (Elt Ideal) ((M.slice (Rect.unit ![2, 0, 0] S1x1x1152.size hi2) hr2).squeeze S1x1152 hq2).view
          (View.write (Elt Ideal) ((M.slice (Rect.unit ![1, 0, 0] S1x1x1152.size hi1) hr1).squeeze S1x1152 hq1).view
            (View.write (Elt Ideal) ((M.slice (Rect.unit ![0, 0, 0] S1x1x1152.size hi0) hr0).squeeze S1x1152 hq0).view
              f (w 0) Finset.univ) (w 1) Finset.univ) (w 2) Finset.univ) (w 3) Finset.univ) (ix3 0 0 l) = w b (ix2 0 l) := by
  have W : ∀ (r : Rect S4x1x1152) (hr) (hq : r.shape.Squeezes S1x1152) (f : M.view.ty.Contents (Elt Ideal)) (u : S1x1152.Idx → EReal),
      View.write (Elt Ideal) ((M.slice r hr).squeeze S1x1152 hq).view f u Finset.univ
        = M.view.writes (Elt Ideal) f [⟨r, fun x => u ((Shape.reshapeEquiv hq.numel_eq).symm x)⟩] := fun r hr hq f u =>
    View.write_reshape_univ (Val := Elt Ideal) (v := (M.slice r hr).view) hq.numel_eq f u
  rw [W, W, W, W, ← View.writes_append, ← View.writes_append, ← View.writes_append]
  have e : ∀ (h : (⟨2, ![1, 1152]⟩ : Shape).numel = (⟨3, ![1, 1, 1152]⟩ : Shape).numel) (x : S1x1x1152.Idx), (Shape.reshapeEquiv h).symm x = (ix2 0 (x 2) : S1x1152.Idx) := by
    intro h x
    refine (Equiv.symm_apply_eq _).2 (Eq.trans ?_ (reshapeEquiv_ix2_1ab h 0 (x 2)).symm)
    funext a; fin_cases a
    · exact Subsingleton.elim (α := Fin 1) _ _
    · exact Subsingleton.elim (α := Fin 1) _ _
    · rfl
  refine (View.read_writes_apply_of_pieces (Val := Elt Ideal) (e := .f32) _ _ (fun i : S4x1x1152.Idx => w (i 0) (ix2 0 (i 2))) _ ?_ _ ?_).trans ?_
  · intro p hp x
    have P : ∀ (k : Fin 4) (n : Nat) (hn : k.val = n) (hi) (hq : (⟨2, ![1, 1152]⟩ : Shape).numel = (⟨3, ![1, 1, 1152]⟩ : Shape).numel) (x : S1x1x1152.Idx),
        w k ((Shape.reshapeEquiv hq).symm x) = w ((Rect.unit (s := S4x1x1152) ![n, 0, 0] S1x1x1152.size hi).emb x 0) (ix2 0 ((Rect.unit (s := S4x1x1152) ![n, 0, 0] S1x1x1152.size hi).emb x 2)) := by
      intro k n hn hi hq x
      rw [e]
      have x0 : (x 0).val = 0 := by have : (x 0).val < 1 := (x 0).isLt; omega
      have e0 : (Rect.unit (s := S4x1x1152) ![n, 0, 0] S1x1x1152.size hi).emb x 0 = k := Fin.ext (by show n + 1 * (x 0).val = k.val; omega)
      have e2 : (Rect.unit (s := S4x1x1152) ![n, 0, 0] S1x1x1152.size hi).emb x 2 = x 2 := Fin.ext (by show 0 + 1 * (x 2).val = (x 2).val; omega)
      rw [e0, e2]
    simp only [List.cons_append, List.nil_append, List.mem_cons, List.not_mem_nil, or_false] at hp
    rcases hp with rfl | rfl | rfl | rfl
    · exact P 3 3 rfl hi3 hq3.numel_eq x
    · exact P 2 2 rfl hi2 hq2.numel_eq x
    · exact P 1 1 rfl hi1 hq1.numel_eq x
    · exact P 0 0 rfl hi0 hq0.numel_eq x
  · subst hb
    have M : ∀ (k : Fin 4) (n : Nat) (hn : k.val = n) (hi') , b = k → (Rect.unit (s := S4x1x1152) ![b.val, 0, 0] S1x1x1152.size hi).toLoadRect.idx (ix3 0 0 l) ∈ (Rect.unit (s := S4x1x1152) ![n, 0, 0] S1x1x1152.size hi').set := by
      intro k n hn hi' hk
      subst hk hn
      rw [Rect.mem_set_unit]
      intro a; fin_cases a
      · show b.val ≤ b.val + 1 * 0 ∧ b.val + 1 * 0 < b.val + 1; omega
      · show 0 ≤ 0 + 1 * 0 ∧ 0 + 1 * 0 < 0 + 1; omega
      · show 0 ≤ 0 + 1 * l.val ∧ 0 + 1 * l.val < 0 + 1152; have := l.isLt; omega
    rcases b with ⟨b, hb⟩
    obtain h | h | h | h : b = 3 ∨ b = 2 ∨ b = 1 ∨ b = 0 := by omega
    · exact ⟨_, List.mem_cons_self, M 3 3 rfl hi3 (Fin.ext h)⟩
    · exact ⟨_, List.mem_cons_of_mem _ List.mem_cons_self, M 2 2 rfl hi2 (Fin.ext h)⟩
    · exact ⟨_, List.mem_cons_of_mem _ (List.mem_cons_of_mem _ List.mem_cons_self), M 1 1 rfl hi1 (Fin.ext h)⟩
    · exact ⟨_, List.mem_cons_of_mem _ (List.mem_cons_of_mem _ (List.mem_cons_of_mem _ List.mem_cons_self)), M 0 0 rfl hi0 (Fin.ext h)⟩
  · have e0 : (Rect.unit (s := S4x1x1152) ![o, 0, 0] S1x1x1152.size hi).toLoadRect.idx (ix3 0 0 l) 0 = b := Fin.ext (by show o + 1 * 0 = b.val; omega)
    have e2 : (Rect.unit (s := S4x1x1152) ![o, 0, 0] S1x1x1152.size hi).toLoadRect.idx (ix3 0 0 l) 2 = l := Fin.ext (by show 0 + 1 * l.val = l.val; omega)
    show w _ (ix2 0 _) = _
    rw [e0, e2]

/-- The buffer of all the lanes: four windows of codes one under another, and beside them the new tokens' columns. -/
theorem lanes_writes {sp : Space} (v : View sig .tc sp S256x1280 .fp8e4m3) (w : Fin 4 → S64x1152.Idx → EReal) (u : S256x128.Idx → EReal) (h h0 h1 h2 h3 h4)
    (r : Fin 256) (l : Fin 1280) :
    v.readCov (Val := Elt Ideal) [⟨Rect.unit ![0, 1152] S256x128.size h4, u⟩, ⟨Rect.unit ![192, 0] S64x1152.size h3, w 3⟩,
        ⟨Rect.unit ![128, 0] S64x1152.size h2, w 2⟩, ⟨Rect.unit ![64, 0] S64x1152.size h1, w 1⟩, ⟨Rect.unit ![0, 0] S64x1152.size h0, w 0⟩]
      (Rect.unit ![0, 0] S256x1280.size h).toLoadRect (ix2 r l)
      = if hl : l.val < 1152 then w ⟨r.val / 64, by have := r.isLt; omega⟩ (ix2 ⟨r.val % 64, Nat.mod_lt _ (by decide)⟩ ⟨l.val, hl⟩)
        else u (ix2 r ⟨l.val - 1152, by have := l.isLt; omega⟩) := by
  have hrr := r.isLt
  have hll := l.isLt
  let G : S256x1280.Idx → EReal := fun i => if hl : (i 1).val < 1152 then w ⟨(i 0).val / 64, by have : (i 0).val < 256 := (i 0).isLt; omega⟩ (ix2 ⟨(i 0).val % 64, Nat.mod_lt _ (by decide)⟩ ⟨(i 1).val, hl⟩)
        else u (ix2 (i 0) ⟨(i 1).val - 1152, by have : (i 1).val < 1280 := (i 1).isLt; omega⟩)
  have ei : (Rect.unit (s := S256x1280) ![0, 0] S256x1280.size h).toLoadRect.idx (ix2 r l) = (ix2 r l : S256x1280.Idx) := by
    funext a; fin_cases a <;> refine Fin.ext ?_
    · show 0 + 1 * r.val = r.val; omega
    · show 0 + 1 * l.val = l.val; omega
  refine (View.read_writes_apply_of_pieces (Val := Elt Ideal) (e := .fp8e4m3) _ _ G _ ?_ _ ?_).trans (by rw [ei]; rfl)
  · have P : ∀ (k : Fin 4) (n : Nat) (hn : 64 * k.val = n) (hi) (x : S64x1152.Idx),
        w k x = G ((Rect.unit (s := S256x1280) ![n, 0] S64x1152.size hi).emb x) := by
      intro k n hn hi x
      have x0 : (x 0).val < 64 := (x 0).isLt
      have x1 : (x 1).val < 1152 := (x 1).isLt
      have hk := k.isLt
      have e0 : ((Rect.unit (s := S256x1280) ![n, 0] S64x1152.size hi).emb x 0).val = n + (x 0).val := by show n + 1 * (x 0).val = _; omega
      have e1 : ((Rect.unit (s := S256x1280) ![n, 0] S64x1152.size hi).emb x 1).val = (x 1).val := by show 0 + 1 * (x 1).val = _; omega
      generalize (Rect.unit (s := S256x1280) ![n, 0] S64x1152.size hi).emb x = y at e0 e1
      show _ = dite _ _ _
      rw [dif_pos (by omega)]
      have a : (⟨(y 0).val / 64, by omega⟩ : Fin 4) = k := Fin.ext (by show _ / 64 = _; omega)
      rw [a]
      refine congrArg (w k) ?_
      funext a; fin_cases a <;> refine Fin.ext ?_
      · show (x 0).val = _ % 64; omega
      · exact e1.symm
    intro p hp x
    simp only [List.mem_cons, List.not_mem_nil, or_false] at hp
    rcases hp with rfl | rfl | rfl | rfl | rfl
    · have x0 : (x 0).val < 256 := (x 0).isLt
      have x1 : (x 1).val < 128 := (x 1).isLt
      have e0 : ((Rect.unit (s := S256x1280) ![0, 1152] S256x128.size h4).emb x 0).val = (x 0).val := by show 0 + 1 * (x 0).val = _; omega
      have e1 : ((Rect.unit (s := S256x1280) ![0, 1152] S256x128.size h4).emb x 1).val = 1152 + (x 1).val := by show 1152 + 1 * (x 1).val = _; omega
      show u x = G ((Rect.unit (s := S256x1280) ![0, 1152] S256x128.size h4).emb x)
      generalize (Rect.unit (s := S256x1280) ![0, 1152] S256x128.size h4).emb x = y at e0 e1
      show _ = dite _ _ _
      rw [dif_neg (by omega)]
      refine congrArg u ?_
      funext a; fin_cases a <;> refine Fin.ext ?_
      · exact e0.symm
      · show (x 1).val = _ - 1152; omega
    · exact P 3 192 rfl h3 x
    · exact P 2 128 rfl h2 x
    · exact P 1 64 rfl h1 x
    · exact P 0 0 rfl h0 x
  · rw [ei]
    by_cases hl : l.val < 1152
    · have Q : ∀ (n : Nat) (hi), n ≤ r.val → r.val < n + 64 → (ix2 r l : S256x1280.Idx) ∈ (Rect.unit (s := S256x1280) ![n, 0] S64x1152.size hi).set := by
        intro n hi g1 g2
        rw [Rect.mem_set_unit]
        intro a; fin_cases a
        · show n ≤ r.val ∧ r.val < n + 64; omega
        · show 0 ≤ l.val ∧ l.val < 0 + 1152; omega
      obtain g | g | g | g : r.val / 64 = 3 ∨ r.val / 64 = 2 ∨ r.val / 64 = 1 ∨ r.val / 64 = 0 := by omega
      · exact ⟨_, List.mem_cons_of_mem _ List.mem_cons_self, Q 192 h3 (by omega) (by omega)⟩
      · exact ⟨_, List.mem_cons_of_mem _ (List.mem_cons_of_mem _ List.mem_cons_self), Q 128 h2 (by omega) (by omega)⟩
      · exact ⟨_, List.mem_cons_of_mem _ (List.mem_cons_of_mem _ (List.mem_cons_of_mem _ List.mem_cons_self)), Q 64 h1 (by omega) (by omega)⟩
      · exact ⟨_, List.mem_cons_of_mem _ (List.mem_cons_of_mem _ (List.mem_cons_of_mem _ (List.mem_cons_of_mem _ List.mem_cons_self))), Q 0 h0 (by omega) (by omega)⟩
    · refine ⟨_, List.mem_cons_self, ?_⟩
      rw [Rect.mem_set_unit]
      intro a; fin_cases a
      · show 0 ≤ r.val ∧ r.val < 0 + 256; omega
      · show 1152 ≤ l.val ∧ l.val < 1152 + 128; omega

end Cert.KernelIdeal.Run

end
-- ==== Proof.KernelOut.lean ====
module

public import proofs.«01_k».proof.Proof.KernelWindow

@[expose] public section

set_option maxRecDepth 16384

noncomputable section

/-!
The attention result as the kernel leaves it: for each new token, sequence and head a softmax over the lanes of the
sequence's window and of the new tokens.
-/

namespace Cert.KernelIdeal.Run

open Cert.KernelIdeal Cert.KernelIdeal.Gen Cert.KernelIdeal.Val Cert.Words
open Idealize.ShloMosaic Idealize.SL.Sem

/-! ## The pieces of the result -/

/-- Where a piece is stored. -/
theorem cut_inb (i : Fin 24) : ∀ a, (![i.val / 8, 0, i.val % 8 * 128] : Fin 3 → Nat) a + S1x4x128.size a ≤ S3x4x1024.size a := by
  have := i.isLt
  intro a; fin_cases a
  · show i.val / 8 + 1 ≤ 3; omega
  · show 0 + 4 ≤ 4; omega
  · show i.val % 8 * 128 + 128 ≤ 1024; omega

theorem cut_slices (i : Fin 24) : S24x8x128.Slices (![i.val, 0, 0] : Fin 3 → Nat) S1x8x128 := by
  fin_cases i <;> decide

/-- A piece, as the body makes it from the rows. -/
def cut (o : FVec Ideal S24x8x128 .f32) (i : Fin 24) : FVec Ideal S1x4x128 .bf16 :=
  shapeCast S1x4x128 (truncf .bf16 (select (cmpi .slt (iota .tc S4x128 32 [1] iota_S4x128_d1_w32) (broadcast S4x128 64#32))
    (extractStridedSlice S4x128 ![0, 0] (shapeCast S8x128 (extractStridedSlice S1x8x128 ![i.val, 0, 0] o (cut_slices i)) shapeCasts_S1x8x128_S8x128) slices_S8x128_o0_0_S4x128)
    (extractStridedSlice S4x128 ![4, 0] (shapeCast S8x128 (extractStridedSlice S1x8x128 ![i.val, 0, 0] o (cut_slices i)) shapeCasts_S1x8x128_S8x128) slices_S8x128_o4_0_S4x128)) bitsLt_bf16_f32)
    shapeCasts_S4x128_S1x4x128

theorem cut_at (o : FVec Ideal S24x8x128 .f32) (i : Fin 24) (b : Fin 4) (l : Fin 128) : cut o i (ix3 0 b l) = piece o i (ix3 0 b l) := by
  have hl := l.isLt
  have hb := b.isLt
  have : cut o i (ix3 0 b l) = Scalar.select (IntOp.cmpi .slt (BitVec.ofNat 32 l.val) 64#32) (o (ix3 i ⟨b.val, by omega⟩ l)) (o (ix3 i ⟨4 + b.val, by omega⟩ l)) := by
    pointwise [cut] <;> rfl
  rw [this]
  have e : IntOp.cmpi .slt (BitVec.ofNat 32 l.val) 64#32 = BitVec.ofBool (decide (l.val < 64)) := by
    show BitVec.ofBool _ = _
    congr 1
    simp only [BitVec.slt, BitVec.toInt_eq_toNat_cond, BitVec.toNat_ofNat]
    have : l.val % 2 ^ 32 = l.val := Nat.mod_eq_of_lt (by omega)
    simp [this]
    omega
  rw [e, select_ofBool]
  unfold Val.piece
  simp only [decide_eq_true_eq] <;> rfl

/-- A buffer of the pieces holds them side by side. -/
theorem cuts_writes {sp : Space} (v : View sig .tc sp S3x4x1024 .bf16) (f : v.ty.Contents (Elt Ideal)) (o : FVec Ideal S24x8x128 .f32) (s : Fin 3) (b : Fin 4) (k : Fin 1024) :
    v.read (Elt Ideal) (v.writes (Elt Ideal) f ((List.finRange 24).reverse.map fun i => ⟨Rect.unit ![i.val / 8, 0, i.val % 8 * 128] S1x4x128.size (cut_inb i), cut o i⟩)) (ix3 s b k)
      = piece o ⟨s.val * 8 + k.val / 128, by have := s.isLt; have := k.isLt; omega⟩ (ix3 0 b ⟨k.val % 128, Nat.mod_lt _ (by decide)⟩) := by
  have hs := s.isLt
  have hb := b.isLt
  have hk := k.isLt
  refine View.read_writes_apply_of_pieces (Val := Elt Ideal) (e := .bf16) _ _
    (fun i : S3x4x1024.Idx => piece o ⟨(i 0).val * 8 + (i 2).val / 128, by have : (i 0).val < 3 := (i 0).isLt; have : (i 2).val < 1024 := (i 2).isLt; omega⟩ (ix3 0 (i 1) ⟨(i 2).val % 128, Nat.mod_lt _ (by decide)⟩)) _ ?_ (ix3 s b k) ?_
  · intro p hp x
    obtain ⟨i, -, rfl⟩ := List.mem_map.mp hp
    have hi := i.isLt
    have x0 : (x 0).val < 1 := (x 0).isLt
    have x1 : (x 1).val < 4 := (x 1).isLt
    have x2 : (x 2).val < 128 := (x 2).isLt
    have e0 : ((Rect.unit (s := S3x4x1024) ![i.val / 8, 0, i.val % 8 * 128] S1x4x128.size (cut_inb i)).emb x 0).val = i.val / 8 := by show i.val / 8 + 1 * (x 0).val = _; omega
    have e1 : ((Rect.unit (s := S3x4x1024) ![i.val / 8, 0, i.val % 8 * 128] S1x4x128.size (cut_inb i)).emb x 1).val = (x 1).val := by show 0 + 1 * (x 1).val = _; omega
    have e2 : ((Rect.unit (s := S3x4x1024) ![i.val / 8, 0, i.val % 8 * 128] S1x4x128.size (cut_inb i)).emb x 2).val = i.val % 8 * 128 + (x 2).val := by show i.val % 8 * 128 + 1 * (x 2).val = _; omega
    show cut o i x = _
    generalize (Rect.unit (s := S3x4x1024) ![i.val / 8, 0, i.val % 8 * 128] S1x4x128.size (cut_inb i)).emb x = y at e0 e1 e2
    have ex : x = (ix3 0 (x 1) (x 2) : S1x4x128.Idx) := by
      funext a; fin_cases a
      · exact Subsingleton.elim (α := Fin 1) _ _
      · rfl
      · rfl
    refine (congrArg (cut o i) ex).trans ((cut_at o i (x 1) (x 2)).trans ?_)
    have f0 : (⟨(y 0).val * 8 + (y 2).val / 128, by omega⟩ : Fin 24) = i := Fin.ext (by show _ * 8 + _ / 128 = _; omega)
    have f1 : y 1 = x 1 := Fin.ext e1
    have f2 : (⟨(y 2).val % 128, Nat.mod_lt _ (by decide)⟩ : Fin 128) = x 2 := Fin.ext (by show _ % 128 = _; omega)
    show _ = piece o ⟨(y 0).val * 8 + (y 2).val / 128, _⟩ (ix3 0 (y 1) ⟨(y 2).val % 128, _⟩)
    rw [f0]
    refine congrArg (piece o i) ?_
    exact congr (congrArg (ix3 0) f1.symm) f2.symm
  · refine ⟨_, List.mem_map.mpr ⟨⟨s.val * 8 + k.val / 128, by omega⟩, by simp, rfl⟩, ?_⟩
    rw [Rect.mem_set_unit]
    intro a; fin_cases a
    · show (s.val * 8 + k.val / 128) / 8 ≤ s.val ∧ s.val < (s.val * 8 + k.val / 128) / 8 + 1; omega
    · show 0 ≤ b.val ∧ b.val < 0 + 4; omega
    · show (s.val * 8 + k.val / 128) % 8 * 128 ≤ k.val ∧ k.val < (s.val * 8 + k.val / 128) % 8 * 128 + 128; omega

/-! ## The lanes of a sequence -/

section
variable (fn : IVec S4 32) (fx : Vec Ideal S192x64 .bf16) (fkn fvn : Vec Ideal S3x4x64 .bf16) (fck fcv : Vec Ideal S4x64x131072 .fp8e4m3) (fcks fcvs : FVec Ideal S4x1x131072 .f32)

/-- A code of a lane: of the window, or of a new token. -/
def codeL (new : Vec Ideal S3x4x64 .bf16) (cache : Vec Ideal S4x64x131072 .fp8e4m3) (b : Fin 4) (d : Fin 64) (l : Fin 1280) : EReal :=
  if hl : l.val < 1152 then cache (ix3 b d ⟨off (fn (ix1 b)) + l.val, by have := off_le (fn (ix1 b)); omega⟩)
  else lanes (fun s b => code new s b d) (l.val - 1152)

/-- A scale of a lane, likewise. -/
def sclL (new : Vec Ideal S3x4x64 .bf16) (cache : FVec Ideal S4x1x131072 .f32) (b : Fin 4) (l : Fin 1280) : EReal :=
  if hl : l.val < 1152 then cache (ix3 b 0 ⟨off (fn (ix1 b)) + l.val, by have := off_le (fn (ix1 b)); omega⟩)
  else lanes (scl new) (l.val - 1152)

/-- Whether a lane is seen, as what is added to its score. -/
def maskL (s : Fin 3) (b : Fin 4) (l : Fin 1280) : EReal :=
  if l.val < 1152 then if seen (rel (fn (ix1 b))) s l.val then 0 else Ideal.ofBits .f32 0xFF800000#32
  else if (l.val - 1152) / 8 ≤ s.val ∧ (l.val - 1152) % 8 = b.val then 0 else Ideal.ofBits .f32 0xFF800000#32

/-- A query's entry. -/
def qrow (fx : Vec Ideal S192x64 .bf16) (i : Fin 192) (d : Fin 64) : EReal := fx (ix2 i d)

/-- A lane's score. -/
def scoreL (s : Fin 3) (b : Fin 4) (h : Fin 16) (l : Fin 1280) : EReal :=
  (∑ d : Fin 64, qrow fx ⟨b.val * 48 + s.val * 16 + h.val, by omega⟩ d * codeL fn fkn fck b d l)
    * (sclL fn fkn fcks b l * Named.named (F := Ideal) κ "score_scale_log2e" (φ := .f32) 0x3E38AA3B#32) + maskL fn s b l

/-- An entry of the attention result. -/
def outL (s : Fin 3) (b : Fin 4) (k : Fin 1024) : EReal :=
  Ideal.div (∑ l : Fin 1280, wgt (scoreL fn fx fkn fck fcks s b ⟨k.val / 64, by omega⟩) l * sclL fn fvn fcvs b l * codeL fn fvn fcv b ⟨k.val % 64, by omega⟩ l)
    (∑ l : Fin 1280, wgt (scoreL fn fx fkn fck fcks s b ⟨k.val / 64, by omega⟩) l)

end

/-- Only a sequence's own sixty-four of the lanes count. -/
theorem sum_own (b : Fin 4) (X : Fin 64 → EReal) (K : Fin 256 → EReal) :
    (∑ x : Fin 256, (if x.val / 64 = b.val then X ⟨x.val % 64, Nat.mod_lt _ (by decide)⟩ else 0) * K x)
      = ∑ d : Fin 64, X d * K ⟨b.val * 64 + d.val, by omega⟩ := by
  rw [← Equiv.sum_comp (finProdFinEquiv (m := 4) (n := 64)), Fintype.sum_prod_type, Finset.sum_eq_single b]
  · refine Finset.sum_congr rfl fun d _ => ?_
    have hd := d.isLt
    have hv : (finProdFinEquiv (m := 4) (n := 64) (b, d)).val = d.val + 64 * b.val := rfl
    have e : finProdFinEquiv (m := 4) (n := 64) (b, d) = ⟨b.val * 64 + d.val, by omega⟩ := Fin.ext (by rw [hv]; dsimp only; omega)
    rw [if_pos (by omega)]
    congr 2
    exact Fin.ext (by dsimp only; omega)
  · intro b' _ hb
    refine Finset.sum_eq_zero fun d _ => ?_
    have hv : (finProdFinEquiv (m := 4) (n := 64) (b', d)).val = d.val + 64 * b'.val := rfl
    have hd := d.isLt
    have hne : b'.val ≠ b.val := fun h => hb (Fin.ext h)
    rw [if_neg (by omega), zero_mul]
  · simp

/-! ## The run's values, lane by lane -/

variable (c : Dev nD)
variable (fn : Bf (F := Ideal) c (Memref.whole main_arg7)) (fx : Bf (F := Ideal) c (Memref.whole main_v0)) (fkn : Bf (F := Ideal) c (Memref.whole main_v2)) (fvn : Bf (F := Ideal) c (Memref.whole main_v4))
variable (fck : Bf (F := Ideal) c (Memref.whole main_v6)) (fcv : Bf (F := Ideal) c (Memref.whole main_v8)) (fcks : Bf (F := Ideal) c (Memref.whole main_v9)) (fcvs : Bf (F := Ideal) c (Memref.whole main_v10))
variable (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3))
variable (s6 : Bf (F := Ideal) c (Memref.whole cc0_scratch6)) (s7 : Bf (F := Ideal) c (Memref.whole cc0_scratch7)) (s8 : Bf (F := Ideal) c (Memref.whole cc0_scratch8))

/-- The four windows of the keys' codes. -/
def winK : Fin 4 → S64x1152.Idx → EReal :=
  ![kernelRun.sl.dma4 (F := Ideal) c fn fck s0, kernelRun.sl.dma4_4 (F := Ideal) c fn fck s0, kernelRun.sl.dma4_8 (F := Ideal) c fn fck s0, kernelRun.sl.dma4_12 (F := Ideal) c fn fck s0]
/-- The four windows of the values' codes. -/
def winV : Fin 4 → S64x1152.Idx → EReal :=
  ![kernelRun.sl.dma4_2 (F := Ideal) c fn fcv s0, kernelRun.sl.dma4_6 (F := Ideal) c fn fcv s0, kernelRun.sl.dma4_10 (F := Ideal) c fn fcv s0, kernelRun.sl.dma4_14 (F := Ideal) c fn fcv s0]
/-- The four windows of the keys' scales. -/
def winKs : Fin 4 → S1x1152.Idx → EReal :=
  ![kernelRun.sl.dma4_1 (F := Ideal) c fn fcks s0, kernelRun.sl.dma4_5 (F := Ideal) c fn fcks s0, kernelRun.sl.dma4_9 (F := Ideal) c fn fcks s0, kernelRun.sl.dma4_13 (F := Ideal) c fn fcks s0]
/-- The four windows of the values' scales. -/
def winVs : Fin 4 → S1x1152.Idx → EReal :=
  ![kernelRun.sl.dma4_3 (F := Ideal) c fn fcvs s0, kernelRun.sl.dma4_7 (F := Ideal) c fn fcvs s0, kernelRun.sl.dma4_11 (F := Ideal) c fn fcvs s0, kernelRun.sl.dma4_15 (F := Ideal) c fn fcvs s0]

theorem winK_at (b : Fin 4) (d : Fin 64) (l : Fin 1152) :
    winK c fn fck s0 b (ix2 d l) = fck (ix3 b d ⟨off (fn (ix1 b)) + l.val, by have := off_le (fn (ix1 b)); omega⟩) := by
  have hn : ∀ w, off w + 1152 ≤ 131072 := fun w => by have := off_le w; omega
  fin_cases b
  · show kernelRun.sl.dma4 (F := Ideal) c fn fck s0 (ix2 d l) = fck (ix3 0 d ⟨off (fn (ix1 0)) + l.val, by have := off_le (fn (ix1 0)); omega⟩)
    unfold kernelRun.sl.dma4
    exact win64 (Memref.whole main_v6) fck 0 _ (off (fn (ix1 0))) (by rw [off1_eq, r_eq]; rfl) (hn _) _ _ _ d l
  · show kernelRun.sl.dma4_4 (F := Ideal) c fn fck s0 (ix2 d l) = fck (ix3 1 d ⟨off (fn (ix1 1)) + l.val, by have := off_le (fn (ix1 1)); omega⟩)
    unfold kernelRun.sl.dma4_4
    exact win64 (Memref.whole main_v6) fck 1 _ (off (fn (ix1 1))) (by rw [off3_eq, r_1_eq]; rfl) (hn _) _ _ _ d l
  · show kernelRun.sl.dma4_8 (F := Ideal) c fn fck s0 (ix2 d l) = fck (ix3 2 d ⟨off (fn (ix1 2)) + l.val, by have := off_le (fn (ix1 2)); omega⟩)
    unfold kernelRun.sl.dma4_8
    exact win64 (Memref.whole main_v6) fck 2 _ (off (fn (ix1 2))) (by rw [off5_eq, r_2_eq]; rfl) (hn _) _ _ _ d l
  · show kernelRun.sl.dma4_12 (F := Ideal) c fn fck s0 (ix2 d l) = fck (ix3 3 d ⟨off (fn (ix1 3)) + l.val, by have := off_le (fn (ix1 3)); omega⟩)
    unfold kernelRun.sl.dma4_12
    exact win64 (Memref.whole main_v6) fck 3 _ (off (fn (ix1 3))) (by rw [off7_eq, r_3_eq]; rfl) (hn _) _ _ _ d l

theorem winV_at (b : Fin 4) (d : Fin 64) (l : Fin 1152) :
    winV c fn fcv s0 b (ix2 d l) = fcv (ix3 b d ⟨off (fn (ix1 b)) + l.val, by have := off_le (fn (ix1 b)); omega⟩) := by
  have hn : ∀ w, off w + 1152 ≤ 131072 := fun w => by have := off_le w; omega
  fin_cases b
  · show kernelRun.sl.dma4_2 (F := Ideal) c fn fcv s0 (ix2 d l) = fcv (ix3 0 d ⟨off (fn (ix1 0)) + l.val, by have := off_le (fn (ix1 0)); omega⟩)
    unfold kernelRun.sl.dma4_2
    exact win64 (Memref.whole main_v8) fcv 0 _ (off (fn (ix1 0))) (by rw [off1_eq, r_eq]; rfl) (hn _) _ _ _ d l
  · show kernelRun.sl.dma4_6 (F := Ideal) c fn fcv s0 (ix2 d l) = fcv (ix3 1 d ⟨off (fn (ix1 1)) + l.val, by have := off_le (fn (ix1 1)); omega⟩)
    unfold kernelRun.sl.dma4_6
    exact win64 (Memref.whole main_v8) fcv 1 _ (off (fn (ix1 1))) (by rw [off3_eq, r_1_eq]; rfl) (hn _) _ _ _ d l
  · show kernelRun.sl.dma4_10 (F := Ideal) c fn fcv s0 (ix2 d l) = fcv (ix3 2 d ⟨off (fn (ix1 2)) + l.val, by have := off_le (fn (ix1 2)); omega⟩)
    unfold kernelRun.sl.dma4_10
    exact win64 (Memref.whole main_v8) fcv 2 _ (off (fn (ix1 2))) (by rw [off5_eq, r_2_eq]; rfl) (hn _) _ _ _ d l
  · show kernelRun.sl.dma4_14 (F := Ideal) c fn fcv s0 (ix2 d l) = fcv (ix3 3 d ⟨off (fn (ix1 3)) + l.val, by have := off_le (fn (ix1 3)); omega⟩)
    unfold kernelRun.sl.dma4_14
    exact win64 (Memref.whole main_v8) fcv 3 _ (off (fn (ix1 3))) (by rw [off7_eq, r_3_eq]; rfl) (hn _) _ _ _ d l

theorem winKs_at (b : Fin 4) (l : Fin 1152) :
    winKs c fn fcks s0 b (ix2 0 l) = fcks (ix3 b 0 ⟨off (fn (ix1 b)) + l.val, by have := off_le (fn (ix1 b)); omega⟩) := by
  have hn : ∀ w, off w + 1152 ≤ 131072 := fun w => by have := off_le w; omega
  fin_cases b
  · show kernelRun.sl.dma4_1 (F := Ideal) c fn fcks s0 (ix2 0 l) = fcks (ix3 0 0 ⟨off (fn (ix1 0)) + l.val, by have := off_le (fn (ix1 0)); omega⟩)
    unfold kernelRun.sl.dma4_1
    exact win1 (Memref.whole main_v9) fcks 0 _ (off (fn (ix1 0))) (by rw [off2_eq, r_eq]; rfl) (hn _) _ _ _ l
  · show kernelRun.sl.dma4_5 (F := Ideal) c fn fcks s0 (ix2 0 l) = fcks (ix3 1 0 ⟨off (fn (ix1 1)) + l.val, by have := off_le (fn (ix1 1)); omega⟩)
    unfold kernelRun.sl.dma4_5
    exact win1 (Memref.whole main_v9) fcks 1 _ (off (fn (ix1 1))) (by rw [off4_eq, r_1_eq]; rfl) (hn _) _ _ _ l
  · show kernelRun.sl.dma4_9 (F := Ideal) c fn fcks s0 (ix2 0 l) = fcks (ix3 2 0 ⟨off (fn (ix1 2)) + l.val, by have := off_le (fn (ix1 2)); omega⟩)
    unfold kernelRun.sl.dma4_9
    exact win1 (Memref.whole main_v9) fcks 2 _ (off (fn (ix1 2))) (by rw [off6_eq, r_2_eq]; rfl) (hn _) _ _ _ l
  · show kernelRun.sl.dma4_13 (F := Ideal) c fn fcks s0 (ix2 0 l) = fcks (ix3 3 0 ⟨off (fn (ix1 3)) + l.val, by have := off_le (fn (ix1 3)); omega⟩)
    unfold kernelRun.sl.dma4_13
    exact win1 (Memref.whole main_v9) fcks 3 _ (off (fn (ix1 3))) (by rw [off8_eq, r_3_eq]; rfl) (hn _) _ _ _ l

theorem winVs_at (b : Fin 4) (l : Fin 1152) :
    winVs c fn fcvs s0 b (ix2 0 l) = fcvs (ix3 b 0 ⟨off (fn (ix1 b)) + l.val, by have := off_le (fn (ix1 b)); omega⟩) := by
  have hn : ∀ w, off w + 1152 ≤ 131072 := fun w => by have := off_le w; omega
  fin_cases b
  · show kernelRun.sl.dma4_3 (F := Ideal) c fn fcvs s0 (ix2 0 l) = fcvs (ix3 0 0 ⟨off (fn (ix1 0)) + l.val, by have := off_le (fn (ix1 0)); omega⟩)
    unfold kernelRun.sl.dma4_3
    exact win1 (Memref.whole main_v10) fcvs 0 _ (off (fn (ix1 0))) (by rw [off2_eq, r_eq]; rfl) (hn _) _ _ _ l
  · show kernelRun.sl.dma4_7 (F := Ideal) c fn fcvs s0 (ix2 0 l) = fcvs (ix3 1 0 ⟨off (fn (ix1 1)) + l.val, by have := off_le (fn (ix1 1)); omega⟩)
    unfold kernelRun.sl.dma4_7
    exact win1 (Memref.whole main_v10) fcvs 1 _ (off (fn (ix1 1))) (by rw [off4_eq, r_1_eq]; rfl) (hn _) _ _ _ l
  · show kernelRun.sl.dma4_11 (F := Ideal) c fn fcvs s0 (ix2 0 l) = fcvs (ix3 2 0 ⟨off (fn (ix1 2)) + l.val, by have := off_le (fn (ix1 2)); omega⟩)
    unfold kernelRun.sl.dma4_11
    exact win1 (Memref.whole main_v10) fcvs 2 _ (off (fn (ix1 2))) (by rw [off6_eq, r_2_eq]; rfl) (hn _) _ _ _ l
  · show kernelRun.sl.dma4_15 (F := Ideal) c fn fcvs s0 (ix2 0 l) = fcvs (ix3 3 0 ⟨off (fn (ix1 3)) + l.val, by have := off_le (fn (ix1 3)); omega⟩)
    unfold kernelRun.sl.dma4_15
    exact win1 (Memref.whole main_v10) fcvs 3 _ (off (fn (ix1 3))) (by rw [off8_eq, r_3_eq]; rfl) (hn _) _ _ _ l

/-- The new tokens' columns, as the sixteen-lane-wide codes give them. -/
theorem new_cols (v : Vec Ideal S3x4x64 .bf16) (a : FVec Ideal S24x64 .f32) (ha : ∀ (l : Fin 24) (d : Fin 64), a (ix2 l d) = lanes (fun s b => code v s b d) l.val) (l : Fin 128) (d : Fin 64) (z : EReal) (hz : z = 0) :
    (if h : l.val < 24 then a (ix2 ⟨l.val, h⟩ d) else z) = lanes (fun s b => code v s b d) l.val := by
  split
  · exact ha _ _
  · rw [hz, lanes, dif_neg (by omega)]

theorem v615_at (i : Fin 256) (l : Fin 128) :
    kernelRun.sl.v615 (F := Ideal) c fkn fvn s2 s3 (ix2 i l) = lanes (fun s b => code fkn s b ⟨i.val % 64, by omega⟩) l.val := by
  have : kernelRun.sl.v615 (F := Ideal) c fkn fvn s2 s3 = k0_pay46 (kernelRun.sl.v310 (F := Ideal) c fkn s2) (broadcast S104x64 (FloatOps.ofBits .f32 0#32)) (kernelRun.sl.v500 (F := Ideal) c fvn s3) (broadcast S104x64 (FloatOps.ofBits .f32 0#32)) := rfl
  rw [this, v310_eq, kcols_at]
  exact new_cols fkn _ (kwide_at fkn) l _ _ (Ideal.ofBits_zero .f32)

theorem v619_at (i : Fin 256) (l : Fin 128) :
    kernelRun.sl.v619 (F := Ideal) c fkn fvn s2 s3 (ix2 i l) = lanes (fun s b => code fvn s b ⟨i.val % 64, by omega⟩) l.val := by
  have : kernelRun.sl.v619 (F := Ideal) c fkn fvn s2 s3 = k0_pay47 (kernelRun.sl.v310 (F := Ideal) c fkn s2) (broadcast S104x64 (FloatOps.ofBits .f32 0#32)) (kernelRun.sl.v500 (F := Ideal) c fvn s3) (broadcast S104x64 (FloatOps.ofBits .f32 0#32)) := rfl
  rw [this, v500_eq, vcols_at]
  exact new_cols fvn _ (vwide_at fvn) l _ _ (Ideal.ofBits_zero .f32)

theorem v1134_at (b : Fin 4) (d : Fin 64) (l : Fin 1280) :
    kernelRun.sl.v1134 (F := Ideal) c fn fkn fvn fck s0 s2 s3 (ix2 ⟨b.val * 64 + d.val, by omega⟩ l) = codeL fn fkn fck b d l := by
  refine (lanes_writes (Memref.whole cc0_scratch4).view (winK c fn fck s0) (kernelRun.sl.v615 (F := Ideal) c fkn fvn s2 s3) _ _ _ _ _ _ ⟨b.val * 64 + d.val, by omega⟩ l).trans ?_
  have e0 : (⟨(b.val * 64 + d.val) / 64, by omega⟩ : Fin 4) = b := Fin.ext (by dsimp only; omega)
  have e1 : (⟨(b.val * 64 + d.val) % 64, by omega⟩ : Fin 64) = d := Fin.ext (by dsimp only; omega)
  unfold codeL
  split
  · dsimp only; rw [e0, e1]; exact winK_at c fn fck s0 b d _
  · rw [v615_at]; dsimp only; rw [e1]

theorem v1159_at (b : Fin 4) (d : Fin 64) (l : Fin 1280) :
    kernelRun.sl.v1159 (F := Ideal) c fn fkn fvn fcv s0 s2 s3 (ix2 ⟨b.val * 64 + d.val, by omega⟩ l) = codeL fn fvn fcv b d l := by
  refine (lanes_writes (Memref.whole cc0_scratch5).view (winV c fn fcv s0) (kernelRun.sl.v619 (F := Ideal) c fkn fvn s2 s3) _ _ _ _ _ _ ⟨b.val * 64 + d.val, by omega⟩ l).trans ?_
  have e0 : (⟨(b.val * 64 + d.val) / 64, by omega⟩ : Fin 4) = b := Fin.ext (by dsimp only; omega)
  have e1 : (⟨(b.val * 64 + d.val) % 64, by omega⟩ : Fin 64) = d := Fin.ext (by dsimp only; omega)
  unfold codeL
  split
  · dsimp only; rw [e0, e1]; exact winV_at c fn fcv s0 b d _
  · rw [v619_at]; dsimp only; rw [e1]

/-- The rows of scales as they are read back. -/
def rowKs : Fin 4 → Vec Ideal S1x1x1152 .f32 :=
  ![kernelRun.sl.v1076 (F := Ideal) c fn fcks s0 s6, kernelRun.sl.v1082 (F := Ideal) c fn fcks s0 s6, kernelRun.sl.v1089 (F := Ideal) c fn fcks s0 s6, kernelRun.sl.v1096 (F := Ideal) c fn fcks s0 s6]
def rowVs : Fin 4 → Vec Ideal S1x1x1152 .f32 :=
  ![kernelRun.sl.v1106 (F := Ideal) c fn fcvs s0 s7, kernelRun.sl.v1112 (F := Ideal) c fn fcvs s0 s7, kernelRun.sl.v1119 (F := Ideal) c fn fcvs s0 s7, kernelRun.sl.v1126 (F := Ideal) c fn fcvs s0 s7]

set_option maxHeartbeats 1000000 in
theorem rowKs_at (b : Fin 4) (l : Fin 1152) : rowKs c fn fcks s0 s6 b (ix3 0 0 l) = winKs c fn fcks s0 b (ix2 0 l) := by
  fin_cases b
  · show kernelRun.sl.v1076 (F := Ideal) c fn fcks s0 s6 (ix3 0 0 l) = winKs c fn fcks s0 0 (ix2 0 l)
    unfold kernelRun.sl.v1076
    exact scale_rows (Memref.whole cc0_scratch6) s6 (winKs c fn fcks s0) 0 0 rfl _ _ _ _ _ _ _ _ _ _ _ _ _ l
  · show kernelRun.sl.v1082 (F := Ideal) c fn fcks s0 s6 (ix3 0 0 l) = winKs c fn fcks s0 1 (ix2 0 l)
    unfold kernelRun.sl.v1082
    exact scale_rows (Memref.whole cc0_scratch6) s6 (winKs c fn fcks s0) 1 1 rfl _ _ _ _ _ _ _ _ _ _ _ _ _ l
  · show kernelRun.sl.v1089 (F := Ideal) c fn fcks s0 s6 (ix3 0 0 l) = winKs c fn fcks s0 2 (ix2 0 l)
    unfold kernelRun.sl.v1089
    exact scale_rows (Memref.whole cc0_scratch6) s6 (winKs c fn fcks s0) 2 2 rfl _ _ _ _ _ _ _ _ _ _ _ _ _ l
  · show kernelRun.sl.v1096 (F := Ideal) c fn fcks s0 s6 (ix3 0 0 l) = winKs c fn fcks s0 3 (ix2 0 l)
    unfold kernelRun.sl.v1096
    exact scale_rows (Memref.whole cc0_scratch6) s6 (winKs c fn fcks s0) 3 3 rfl _ _ _ _ _ _ _ _ _ _ _ _ _ l

set_option maxHeartbeats 1000000 in
theorem rowVs_at (b : Fin 4) (l : Fin 1152) : rowVs c fn fcvs s0 s7 b (ix3 0 0 l) = winVs c fn fcvs s0 b (ix2 0 l) := by
  fin_cases b
  · show kernelRun.sl.v1106 (F := Ideal) c fn fcvs s0 s7 (ix3 0 0 l) = winVs c fn fcvs s0 0 (ix2 0 l)
    unfold kernelRun.sl.v1106
    exact scale_rows (Memref.whole cc0_scratch7) s7 (winVs c fn fcvs s0) 0 0 rfl _ _ _ _ _ _ _ _ _ _ _ _ _ l
  · show kernelRun.sl.v1112 (F := Ideal) c fn fcvs s0 s7 (ix3 0 0 l) = winVs c fn fcvs s0 1 (ix2 0 l)
    unfold kernelRun.sl.v1112
    exact scale_rows (Memref.whole cc0_scratch7) s7 (winVs c fn fcvs s0) 1 1 rfl _ _ _ _ _ _ _ _ _ _ _ _ _ l
  · show kernelRun.sl.v1119 (F := Ideal) c fn fcvs s0 s7 (ix3 0 0 l) = winVs c fn fcvs s0 2 (ix2 0 l)
    unfold kernelRun.sl.v1119
    exact scale_rows (Memref.whole cc0_scratch7) s7 (winVs c fn fcvs s0) 2 2 rfl _ _ _ _ _ _ _ _ _ _ _ _ _ l
  · show kernelRun.sl.v1126 (F := Ideal) c fn fcvs s0 s7 (ix3 0 0 l) = winVs c fn fcvs s0 3 (ix2 0 l)
    unfold kernelRun.sl.v1126
    exact scale_rows (Memref.whole cc0_scratch7) s7 (winVs c fn fcvs s0) 3 3 rfl _ _ _ _ _ _ _ _ _ _ _ _ _ l

/-- The values' scales of the lanes. -/
theorem r_4_at (a : Fin 8) (l : Fin 1280) : kernelRun.sl.r_4 (F := Ideal) c fn fvn fcvs s0 s3 s7 (ix2 a l) = sclL fn fvn fcvs (seq a) l := by
  have : kernelRun.sl.r_4 (F := Ideal) c fn fvn fcvs s0 s3 s7 = k0_pay78 (kernelRun.sl.v577 (F := Ideal) c fvn s3) seqs (rowVs c fn fcvs s0 s7 0) (rowVs c fn fcvs s0 s7 1) (rowVs c fn fcvs s0 s7 2) (rowVs c fn fcvs s0 s7 3) := rfl
  rw [this, v577_eq, vscale_at]
  unfold sclL
  split
  · exact (rowVs_at c fn fcvs s0 s7 (seq a) _).trans (winVs_at c fn fcvs s0 (seq a) _)
  · exact vtile_at fvn _

/-- The queries as they are read. -/
theorem v669_eq : kernelRun.sl.v669 (F := Ideal) c fx s1 = fx := by
  unfold kernelRun.sl.v669 kernelRun.sl.dma0_1
  exact (View.readAt_full _ _ _).trans (View.read_write_univ _ _)

theorem v740_eq : kernelRun.sl.v740 (F := Ideal) c fx s1 = k0_pay54 (F := Ideal) (k0_pay49 (k0_pay48 (iota .tc S192x192 32 [0] iota_S192x192_d0_w32)) fx) k0_pay50 k0_pay51 k0_pay52 k0_pay53 := by
  have : kernelRun.sl.v740 (F := Ideal) c fx s1 = k0_pay54 (F := Ideal) (k0_pay49 (k0_pay48 (iota .tc S192x192 32 [0] iota_S192x192_d0_w32)) (kernelRun.sl.v669 (F := Ideal) c fx s1)) k0_pay50 k0_pay51 k0_pay52 k0_pay53 := rfl
  rw [this, v669_eq]

/-- The scores of the lanes, before the mask. -/
theorem r_5_at (s : Fin 3) (n a : Fin 8) (l : Fin 1280) :
    kernelRun.sl.r_5 (F := Ideal) c fn fx fkn fvn fck fcks s0 s1 s2 s3 s6 (ix4 s n a l)
      = (∑ d : Fin 64, qrow fx ⟨a.val % 4 * 48 + (s.val * 64 + n.val * 8 + a.val) / 4, by omega⟩ d * codeL fn fkn fck (seq a) d l)
        * (sclL fn fkn fcks (seq a) l * Named.named (F := Ideal) κ "score_scale_log2e" (φ := .f32) 0x3E38AA3B#32) := by
  have : kernelRun.sl.r_5 (F := Ideal) c fn fx fkn fvn fck fcks s0 s1 s2 s3 s6
      = k0_pay79 (kernelRun.sl.v387 (F := Ideal) c fkn s2) (kernelRun.sl.v740 (F := Ideal) c fx s1) (k0_pay75 seqs (rowKs c fn fcks s0 s6 0) (rowKs c fn fcks s0 s6 1) (rowKs c fn fcks s0 s6 2)) (k0_pay76 seqs)
          (k0_pay77 (rowKs c fn fcks s0 s6 3)) (kernelRun.sl.v1134 (F := Ideal) c fn fkn fvn fck s0 s2 s3) := rfl
  rw [this, v387_eq, v740_eq, scores_at]
  congr 1
  · have hm : (s.val * 64 + n.val * 8 + a.val) % 4 = (seq a).val := by show _ = a.val % 4; omega
    have hi : s.val * 64 + n.val * 8 + a.val < 192 := by omega
    have hx : ∀ x : Fin 256, k0_pay54 (F := Ideal) (k0_pay49 (k0_pay48 (iota .tc S192x192 32 [0] iota_S192x192_d0_w32)) fx) k0_pay50 k0_pay51 k0_pay52 k0_pay53 (ix2 ⟨s.val * 64 + n.val * 8 + a.val, hi⟩ x)
        = if x.val / 64 = (seq a).val then qrow fx ⟨a.val % 4 * 48 + (s.val * 64 + n.val * 8 + a.val) / 4, by omega⟩ ⟨x.val % 64, Nat.mod_lt _ (by decide)⟩ else 0 := fun x => by
      refine (q_at fx _ x).trans ?_
      by_cases h : x.val / 64 = (seq a).val
      · rw [if_pos h, if_pos (h.trans hm.symm)]
        refine congrArg (fun i => qrow fx i ⟨x.val % 64, Nat.mod_lt _ (by decide)⟩) (Fin.ext ?_)
        show (s.val * 64 + n.val * 8 + a.val) % 4 * 48 + (s.val * 64 + n.val * 8 + a.val) / 4 = _
        rw [hm]; rfl
      · rw [if_neg h, if_neg (fun h' => h (h'.trans hm))]
    refine (Finset.sum_congr rfl fun x _ => congrArg (· * kernelRun.sl.v1134 (F := Ideal) c fn fkn fvn fck s0 s2 s3 (ix2 x l)) (hx x)).trans ?_
    refine (sum_own (seq a) (fun d => qrow fx ⟨a.val % 4 * 48 + (s.val * 64 + n.val * 8 + a.val) / 4, by omega⟩ d) (fun x => kernelRun.sl.v1134 (F := Ideal) c fn fkn fvn fck s0 s2 s3 (ix2 x l))).trans ?_
    exact Finset.sum_congr rfl fun d _ => congrArg _ (v1134_at c fn fkn fvn fck s0 s2 s3 (seq a) d l)
  · congr 1
    unfold sclL
    split
    · exact (rowKs_at c fn fcks s0 s6 (seq a) _).trans (winKs_at c fn fcks s0 (seq a) _)
    · exact ktile_at fkn _

/-- The four lengths, each from its window's start. -/
def rels : Fin 4 → BitVec 32 := fun b => rel (fn (ix1 b))

theorem maskL_eq (s : Fin 3) (a : Fin 8) (l : Fin 1280) : bias (rels c fn) s a l = maskL fn s (seq a) l := rfl

theorem v843_at (a : Fin 8) (l : Fin 1280) : kernelRun.sl.v843 (F := Ideal) c fn s0 (ix2 a l) = maskL fn 0 (seq a) l := by
  have : kernelRun.sl.v843 (F := Ideal) c fn s0 = k0_pay62 lanes8 subs8 (k0_pay60 (kernelRun.sl.v29 (F := Ideal) c fn s0) (kernelRun.sl.v53 (F := Ideal) c fn s0) (kernelRun.sl.v77 (F := Ideal) c fn s0) (kernelRun.sl.v101 (F := Ideal) c fn s0) k0_pay55 k0_pay56 k0_pay57) (k0_pay61 lanes8) 8#32 0#32 := rfl
  rw [this, v29_eq, v53_eq, v77_eq, v101_eq]
  exact bias0_at (rels c fn) a l

theorem v915_at (a : Fin 8) (l : Fin 1280) : kernelRun.sl.v915 (F := Ideal) c fn s0 (ix2 a l) = maskL fn 1 (seq a) l := by
  have : kernelRun.sl.v915 (F := Ideal) c fn s0 = k0_pay68 subs8 (k0_pay65 (k0_pay63 lanesW (k0_pay59 (kernelRun.sl.v29 (F := Ideal) c fn s0) (kernelRun.sl.v53 (F := Ideal) c fn s0) (kernelRun.sl.v77 (F := Ideal) c fn s0) (kernelRun.sl.v101 (F := Ideal) c fn s0) k0_pay55 k0_pay56 k0_pay57))
      (k0_pay64 lanesW (k0_pay59 (kernelRun.sl.v29 (F := Ideal) c fn s0) (kernelRun.sl.v53 (F := Ideal) c fn s0) (kernelRun.sl.v77 (F := Ideal) c fn s0) (kernelRun.sl.v101 (F := Ideal) c fn s0) k0_pay55 k0_pay56 k0_pay57))) (k0_pay66 lanes8) (k0_pay67 lanes8) 4#32 (Scalar.cmpi .eq 4#32 0#32) := rfl
  rw [this, v29_eq, v53_eq, v77_eq, v101_eq]
  exact bias1_at (rels c fn) a l

theorem v987_at (a : Fin 8) (l : Fin 1280) : kernelRun.sl.v987 (F := Ideal) c fn s0 (ix2 a l) = maskL fn 2 (seq a) l := by
  have : kernelRun.sl.v987 (F := Ideal) c fn s0 = k0_pay74 (k0_pay69 lanesW (k0_pay59 (kernelRun.sl.v29 (F := Ideal) c fn s0) (kernelRun.sl.v53 (F := Ideal) c fn s0) (kernelRun.sl.v77 (F := Ideal) c fn s0) (kernelRun.sl.v101 (F := Ideal) c fn s0) k0_pay55 k0_pay56 k0_pay57))
      (k0_pay73 lanes8 subs8 (k0_pay70 lanes8) (k0_pay71 lanes8) k0_pay72) (FloatOps.ofBits .f32 0) (FloatOps.ofBits .f32 0xFF800000) := rfl
  rw [this, v29_eq, v53_eq, v77_eq, v101_eq]
  exact bias2_at (rels c fn) a l

theorem r_6_at (a : Fin 8) (l : Fin 1280) : kernelRun.sl.r_6 (F := Ideal) c fn s0 (ix3 0 a l) = maskL fn 0 (seq a) l := by
  have : kernelRun.sl.r_6 (F := Ideal) c fn s0 (ix3 0 a l) = kernelRun.sl.v843 (F := Ideal) c fn s0 (ix2 a l) := by
    have : kernelRun.sl.r_6 (F := Ideal) c fn s0 = k0_pay80 (kernelRun.sl.v843 (F := Ideal) c fn s0) := rfl
    rw [this]
    generalize kernelRun.sl.v843 (F := Ideal) c fn s0 = v
    pointwise [k0_pay80] <;> rfl
  rw [this, v843_at]

theorem S8_24_eq : kernelRun.sl.S8_24 (F := Ideal) c fn fx fkn fvn fck fcv fcks fcvs s0 s1 s2 s3 s6 s7
    = (List.finRange 24).reverse.map fun i => ⟨Rect.unit ![i.val / 8, 0, i.val % 8 * 128] S1x4x128.size (cut_inb i), cut (kernelRun.sl.v1229 (F := Ideal) c fn fx fkn fvn fck fcv fcks fcvs s0 s1 s2 s3 s6 s7) i⟩ := rfl

theorem dma85_eq : kernelRun.sl.dma85 (F := Ideal) c fn fx fkn fvn fck fcv fcks fcvs s0 s1 s2 s3 s6 s7 s8
      = View.read (Elt Ideal) (Memref.whole cc0_scratch8).view ((Memref.whole cc0_scratch8).view.writes (Elt Ideal) s8 (kernelRun.sl.S8_24 (F := Ideal) c fn fx fkn fvn fck fcv fcks fcvs s0 s1 s2 s3 s6 s7)) := rfl

theorem v1229_eq : kernelRun.sl.v1229 (F := Ideal) c fn fx fkn fvn fck fcv fcks fcvs s0 s1 s2 s3 s6 s7
      = k0_pay82 (F := Ideal) (iota .tc S24x8x128 32 [1] iota_S24x8x128_d1_w32) (k0_pay81 (F := Ideal) (kernelRun.sl.v915 (F := Ideal) c fn s0) (kernelRun.sl.v987 (F := Ideal) c fn s0)
          (kernelRun.sl.r_4 (F := Ideal) c fn fvn fcvs s0 s3 s7) (kernelRun.sl.r_5 (F := Ideal) c fn fx fkn fvn fck fcks s0 s1 s2 s3 s6) (kernelRun.sl.r_6 (F := Ideal) c fn s0)
          (kernelRun.sl.v1159 (F := Ideal) c fn fkn fvn fcv s0 s2 s3)) 2#32 0#32 := rfl

/-- The three positions' masks. -/
theorem bias3_eq (s : Fin 3) (a : Fin 8) (x : Fin 1280) :
    bias3 (kernelRun.sl.r_6 (F := Ideal) c fn s0) (kernelRun.sl.v915 (F := Ideal) c fn s0) (kernelRun.sl.v987 (F := Ideal) c fn s0) s a x = maskL fn s (seq a) x := by
  fin_cases s
  · exact r_6_at c fn s0 a x
  · exact v915_at c fn s0 a x
  · exact v987_at c fn s0 a x

/-- A score and its mask, by the sequence `b` of the sublane and the query head `h`. -/
theorem score_at (s : Fin 3) (n a : Fin 8) (b : Fin 4) (h : Fin 16) (hb : a.val % 4 = b.val) (hh : (n.val * 8 + a.val) / 4 = h.val) (x : Fin 1280) :
    kernelRun.sl.r_5 (F := Ideal) c fn fx fkn fvn fck fcks s0 s1 s2 s3 s6 (ix4 s n a x)
      + bias3 (kernelRun.sl.r_6 (F := Ideal) c fn s0) (kernelRun.sl.v915 (F := Ideal) c fn s0) (kernelRun.sl.v987 (F := Ideal) c fn s0) s a x
      = scoreL fn fx fkn fck fcks s b h x := by
  have hq : seq a = b := Fin.ext hb
  have hn := n.isLt
  have ha := a.isLt
  have hr : (⟨a.val % 4 * 48 + (s.val * 64 + n.val * 8 + a.val) / 4, by omega⟩ : Fin 192)
      = ⟨b.val * 48 + s.val * 16 + h.val, by omega⟩ := Fin.ext (by show a.val % 4 * 48 + (s.val * 64 + n.val * 8 + a.val) / 4 = b.val * 48 + s.val * 16 + h.val; omega)
  rw [bias3_eq, r_5_at, hq, hr]
  rfl

/-- What the run leaves in its attention result. -/
theorem dma85_at (s : Fin 3) (b : Fin 4) (k : Fin 1024) :
    kernelRun.sl.dma85 (F := Ideal) c fn fx fkn fvn fck fcv fcks fcvs s0 s1 s2 s3 s6 s7 s8 (ix3 s b k) = outL fn fx fkn fvn fck fcv fcks fcvs s b k := by
  have hk := k.isLt
  have hb := b.isLt
  rw [dma85_eq, S8_24_eq]
  refine (cuts_writes (Memref.whole cc0_scratch8).view s8 _ s b k).trans ?_
  rw [v1229_eq]
  refine (piece_at _ _ _ _ _ _ s ⟨k.val / 128, by omega⟩ b ⟨k.val % 128, Nat.mod_lt _ (by decide)⟩).trans ?_
  have ha : b.val + 4 * (k.val % 128 / 64) < 8 := by omega
  have hq : seq ⟨b.val + 4 * (k.val % 128 / 64), ha⟩ = b := Fin.ext (by show (b.val + 4 * (k.val % 128 / 64)) % 4 = b.val; omega)
  have hsc := fun x : Fin 1280 => score_at c fn fx fkn fvn fck fcks s0 s1 s2 s3 s6 s ⟨k.val / 128, by omega⟩ ⟨b.val + 4 * (k.val % 128 / 64), ha⟩ b ⟨k.val / 64, by omega⟩
    (by show (b.val + 4 * (k.val % 128 / 64)) % 4 = b.val; omega) (by show (k.val / 128 * 8 + (b.val + 4 * (k.val % 128 / 64))) / 4 = k.val / 64; omega) x
  refine (congrArg (fun f => rowOut f _ _ _) (funext hsc)).trans ?_
  unfold rowOut outL
  congr 1
  refine Finset.sum_congr rfl fun x _ => ?_
  refine congrArg₂ (fun y z : EReal => y * z) (congrArg (fun y : EReal => wgt (scoreL fn fx fkn fck fcks s b ⟨k.val / 64, by omega⟩) x * y) ?_) ?_
  · exact (r_4_at c fn fvn fcvs s0 s3 s7 _ x).trans (by rw [hq])
  · have hd : (⟨b.val * 64 + k.val % 128 % 64, by omega⟩ : Fin 256) = ⟨b.val * 64 + (⟨k.val % 64, Nat.mod_lt _ (by decide)⟩ : Fin 64).val, by show b.val * 64 + k.val % 64 < 256; omega⟩ := Fin.ext (by show b.val * 64 + k.val % 128 % 64 = b.val * 64 + k.val % 64; omega)
    exact (congrArg (fun i => kernelRun.sl.v1159 (F := Ideal) c fn fkn fvn fcv s0 s2 s3 (ix2 i x)) hd).trans (v1159_at c fn fkn fvn fcv s0 s2 s3 b ⟨k.val % 64, Nat.mod_lt _ (by decide)⟩ x)

end Cert.KernelIdeal.Run

end
-- ==== Proof.KernelValue.lean ====
module

public import proofs.«01_k».proof.Proof.KernelIdealFrame
public import Idealize.ShloMosaic.Lib.Pipeline.FrameSuffixV
public import Idealize.ShloMosaic.Lib.StableHlo.RunRead

@[expose] public section

set_option maxRecDepth 16384

noncomputable section

/-!
The kernel's run with its results named: whatever the body leaves in its five result arrays, if that is the same whatever
the work buffers and the results held before, `@main`'s results are those arrays transposed (and reshaped).
-/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The five result arrays' contents. -/
abbrev Outs (F : FTy → Type) [FloatOps F] [Named F] (c : Dev nD) : Type :=
  Bf (F := F) c (Memref.whole main_v11_0) × Bf (F := F) c (Memref.whole main_v11_1) × Bf (F := F) c (Memref.whole main_v11_2) × Bf (F := F) c (Memref.whole main_v11_3) × Bf (F := F) c (Memref.whole main_v11_4)

/-- The body leaves `g`, whatever the results and the work buffers held before. -/
def Leaves (g : (c : Dev nD) → Outs F c) : Prop :=
  ∀ (c : Dev nD) o0 o1 o2 o3 o4 s0 s1 s2 s3 s4 s5 s6 s7 s8 s9 s10 s11 s12,
    (kernelRun c (V m c main_arg7) (V m c main_v0) (V m c main_v2) (V m c main_v4) (V m c main_v6) (V m c main_v8) (V m c main_v9) (V m c main_v10) o0 o1 o2 o3 o4 s0 s1 s2 s3 s4 s5 s6 s7 s8 s9 s10 s11 s12).1 = g c

variable (g : (c : Dev nD) → Outs F c)

/-- The buffers after the body: the results at `g`. -/
def after (c : Dev nD) : (b : Ref sig .tc) → Buf (Elt F) ((c.tc : Thread nD τ).loc b) :=
  Function.update (Function.update (Function.update (Function.update (Function.update (V m c) main_v11_0 (g c).1) main_v11_1 (g c).2.1) main_v11_2 (g c).2.2.1) main_v11_3 (g c).2.2.2.1) main_v11_4 (g c).2.2.2.2

theorem after_0 (c : Dev nD) : after m g c main_v11_0 = (g c).1 := by
  unfold after
  rw [Function.update_of_ne (by decide : (main_v11_0 : Ref sig .tc) ≠ main_v11_4)]
  rw [Function.update_of_ne (by decide : (main_v11_0 : Ref sig .tc) ≠ main_v11_3)]
  rw [Function.update_of_ne (by decide : (main_v11_0 : Ref sig .tc) ≠ main_v11_2)]
  rw [Function.update_of_ne (by decide : (main_v11_0 : Ref sig .tc) ≠ main_v11_1)]
  rw [Function.update_self]

theorem after_1 (c : Dev nD) : after m g c main_v11_1 = (g c).2.1 := by
  unfold after
  rw [Function.update_of_ne (by decide : (main_v11_1 : Ref sig .tc) ≠ main_v11_4)]
  rw [Function.update_of_ne (by decide : (main_v11_1 : Ref sig .tc) ≠ main_v11_3)]
  rw [Function.update_of_ne (by decide : (main_v11_1 : Ref sig .tc) ≠ main_v11_2)]
  rw [Function.update_self]

theorem after_2 (c : Dev nD) : after m g c main_v11_2 = (g c).2.2.1 := by
  unfold after
  rw [Function.update_of_ne (by decide : (main_v11_2 : Ref sig .tc) ≠ main_v11_4)]
  rw [Function.update_of_ne (by decide : (main_v11_2 : Ref sig .tc) ≠ main_v11_3)]
  rw [Function.update_self]

theorem after_3 (c : Dev nD) : after m g c main_v11_3 = (g c).2.2.2.1 := by
  unfold after
  rw [Function.update_of_ne (by decide : (main_v11_3 : Ref sig .tc) ≠ main_v11_4)]
  rw [Function.update_self]

theorem after_4 (c : Dev nD) : after m g c main_v11_4 = (g c).2.2.2.2 := by
  unfold after
  rw [Function.update_self]

/-- The results, each whole at the given contents. -/
abbrev results (c : Dev nD) (W : (b : Ref sig .tc) → Buf (Elt F) ((c.tc : Thread nD τ).loc b)) : sProp 𝕄 :=
  iprop(pt c (Memref.whole main_v11_0) (W main_v11_0) ∗ pt c (Memref.whole main_v11_1) (W main_v11_1) ∗ pt c (Memref.whole main_v11_2) (W main_v11_2) ∗ pt c (Memref.whole main_v11_3) (W main_v11_3) ∗ pt c (Memref.whole main_v11_4) (W main_v11_4))

theorem results_eq (W : (c : Dev nD) → (b : Ref sig .tc) → Buf (Elt F) ((c.tc : Thread nD τ).loc b)) (c : Dev nD) :
    (bigSep R (fun b => ((c : Thread nD τ).loc b) ↦{fullShare} W c b) : sProp 𝕄) = results c (W c) := by
  unfold R
  rw [BI.bigSep_eq_bigSepL_of_eq [main_v11_0, main_v11_1, main_v11_2, main_v11_3, main_v11_4] (by decide) (by decide)]; rfl

theorem invV_eq (W : (c : Dev nD) → (b : Ref sig .tc) → Buf (Elt F) ((c.tc : Thread nD τ).loc b)) (c : Dev nD) :
    (Pipeline.ΦDRV osem (cfg0.spec) H R (V m) W c : sProp 𝕄)
      = iprop(workRest c ∗ sems0 c ∗ operands c (V m c main_arg7) (V m c main_v0) (V m c main_v2) (V m c main_v4) (V m c main_v6) (V m c main_v8) (V m c main_v9) (V m c main_v10) ∗ results c (W c)) := by
  unfold Pipeline.ΦDRV
  rw [scoped_eq, ownSems_eq, operands_eq, results_eq]

/-- The proof data: the results at their entry contents before the point, at `g` after it. -/
def datsV (_ : Fin 1) (c : Dev nD) : Dat τ (Elt F) Unit ℕ (Pipeline.UD sig nD τ) ℕ cfg0 c where
  A w := w.elim0
  after w t := w.elim0
  Φ t := Pipeline.ΦDRV osem (cfg0.spec) H R (V m) (if t.val = 0 then V m else after m g) c
  q _ := fullShare
  owed _ := 0

set_option maxHeartbeats 1000000 in
theorem sound_bodyV (hG : Leaves m g) (c : Dev nD) (t : Fin cfg0.N) :
    iprop(Pipeline.ΦDRV osem (cfg0.spec) H R (V m) (V m) c ∗ (datsV m g 0 c).owesAt () t.castSucc)
      ⊢ wp Idealize.ShloMosaic.frame (wpE (defs₀ (F := F)) Variants.none c none) Set.univ (bodyAt0 t)
          (fun _ => iprop(Pipeline.ΦDRV osem (cfg0.spec) H R (V m) (after m g) c ∗ (datsV m g 0 c).owesAt () t.succ)) := by
  unfold bodyAt0
  rw [invV_eq, invV_eq]
  unfold Dat.owesAt Pipeline.owesWithin
  rw [show (datsV m g 0 c).owed t.castSucc = 0 from rfl, show (datsV m g 0 c).owed t.succ = 0 from rfl]
  unfold workRest results
  rw [after_0, after_1, after_2, after_3, after_4]
  iintro ⟨⟨⟨⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩, ⟨%s12, S12⟩, ⟨%s0, S0⟩⟩, HZ, HH, ⟨O0, O1, O2, O3, O4⟩⟩, ⟨%W, -, HW⟩⟩
  obtain ⟨K, hK⟩ : ∃ K, K = kernelRun c (V m c main_arg7) (V m c main_v0) (V m c main_v2) (V m c main_v4) (V m c main_v6) (V m c main_v8) (V m c main_v9) (V m c main_v10) (V m c main_v11_0) (V m c main_v11_1) (V m c main_v11_2) (V m c main_v11_3) (V m c main_v11_4)
    s0 s1 s2 s3 s4 s5 s6 s7 s8 s9 s10 s11 s12 := ⟨_, rfl⟩
  have hg : K.1 = g c := hK ▸ hG c (V m c main_v11_0) (V m c main_v11_1) (V m c main_v11_2) (V m c main_v11_3) (V m c main_v11_4) s0 s1 s2 s3 s4 s5 s6 s7 s8 s9 s10 s11 s12
  clear hK
  obtain ⟨K, k⟩ := K
  replace hg : K = g c := hg
  subst hg
  iapply (k W _)
  isplitl [HH]; · iexact HH
  isplitl [O0 O1 O2 O3 O4]; · iframe O0 O1 O2 O3 O4
  isplitl [S1 S2 S3 S4 S5 S6 S7 S8 S9 S10 S11 S12 S0]; · iframe S1 S2 S3 S4 S5 S6 S7 S8 S9 S10 S11 S12 S0
  isplitl [HZ]; · iexact HZ
  isplitl [HW]; · iexact HW
  unfold works
  iintro ⟨HH, ⟨O0, O1, O2, O3, O4⟩, ⟨S0, S1, S2, S3, S4, S5, S6, S7, S8, S9, S10, S11, S12⟩, HZ, ⟨%W', HW'⟩⟩
  isplitr [HW']
  · isplitl [S1 S2 S3 S4 S5 S6 S7 S8 S9 S10 S11 S12 S0]; · iframe S1 S2 S3 S4 S5 S6 S7 S8 S9 S10 S11 S12 S0
    isplitl [HZ]; · iexact HZ
    isplitl [HH]; · iexact HH
    iframe O0 O1 O2 O3 O4
  · iexists W'; isplitr; · ipureintro; exact fun _ _ => Or.inl trivial
    iexact HW'

theorem body_obligationV (hG : Leaves m g) (c : Dev nD) :
    BodyObligation (datsV (F := F) m g 0 c) (defs₀ (F := F)) Variants.none () Set.univ := fun t => by
  rw [defs₀_row]
  have ht : t.val = 0 := by have : t.val < 1 := t.isLt; omega
  rw [show (datsV m g 0 c).Φ t.castSucc = Pipeline.ΦDRV osem (cfg0.spec) H R (V m) (V m) c from by
      show Pipeline.ΦDRV osem (cfg0.spec) H R (V m) (if t.val = 0 then V m else after m g) c = _
      rw [if_pos ht],
    show (datsV m g 0 c).Φ t.succ = Pipeline.ΦDRV osem (cfg0.spec) H R (V m) (after m g) c from by
      show Pipeline.ΦDRV osem (cfg0.spec) H R (V m) (if t.val + 1 = 0 then V m else after m g) c = _
      rw [if_neg (by omega)]]
  refine triple_restated (sound_bodyV m g hG c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    rw [show (Finset.univ : Finset (Fin cfg0.W)) = ∅ from rfl, bigSep_empty]
    iempintro

/-- The buffers as the lines after the region find them. -/
abbrev Vout (c : Dev nD) : Valuation τ sig (Elt F) :=
  Pipeline.withArrays (cfg0.spec) c (Pipeline.withR (V0 m c) R c (after m g c)) fun w => (datsV m g 0 c).arrAt w cfg0.N

/-- The run: every buffer outside the region ends as the lines after it leave it, the results being `g`. -/
theorem run_mainV (hG : Leaves m g) : θ_run defs (onTc (τ := τ) (main (F := F))) (s₀ m ρ)
    (fun r => ∀ c : Dev nD, ∀ b ∈ Pipeline.restRefs sig (cfg0.spec),
      r.2.mem ((c.tc : Thread nD τ).loc b) = StableHlo.after hostOps1 (Vout m g c) (Proc.devRef .tc b)) :=
  Pipeline.θ_run_frame_dmaR_aroundV (Q' := _) cfgs (datsV m g) (0 : Fin 1) launch0 osem defs₀ Variants.none ownSemFacts H R H_sub R_sub m ρ main
    (hbody := fun c => (body_obligationV m g hG c).loose) (hshare := fun c w => w.elim0)
    (howed := fun _ _ => rfl) (V₀ := V0 m) (opss := [hostOps1]) (hsub := sfx_sub) (hfresh := sfx_fresh) (hkeep := sfx_keeps)
    (G := after m g) (hmain := hmainU m) (hA := fun _ w => w.elim0)
    (hin := fun _ => .rfl) (hout := fun _ => .rfl)
    (hQ' := fun r h c b hb => by simpa using (h.1 c).2 b hb)

theorem Vout_0 (c : Dev nD) : Vout m g c (Proc.devRef .tc main_v11_0) = (g c).1 := by
  unfold Vout
  rw [Pipeline.withArrays_of_ne _ _ _ _ _ (fun w => w.elim0)]
  exact (Pipeline.withR_of_mem _ _ _ _ _ (by decide)).trans (after_0 m g c)

theorem Vout_1 (c : Dev nD) : Vout m g c (Proc.devRef .tc main_v11_1) = (g c).2.1 := by
  unfold Vout
  rw [Pipeline.withArrays_of_ne _ _ _ _ _ (fun w => w.elim0)]
  exact (Pipeline.withR_of_mem _ _ _ _ _ (by decide)).trans (after_1 m g c)

theorem Vout_2 (c : Dev nD) : Vout m g c (Proc.devRef .tc main_v11_2) = (g c).2.2.1 := by
  unfold Vout
  rw [Pipeline.withArrays_of_ne _ _ _ _ _ (fun w => w.elim0)]
  exact (Pipeline.withR_of_mem _ _ _ _ _ (by decide)).trans (after_2 m g c)

theorem Vout_3 (c : Dev nD) : Vout m g c (Proc.devRef .tc main_v11_3) = (g c).2.2.2.1 := by
  unfold Vout
  rw [Pipeline.withArrays_of_ne _ _ _ _ _ (fun w => w.elim0)]
  exact (Pipeline.withR_of_mem _ _ _ _ _ (by decide)).trans (after_3 m g c)

theorem Vout_4 (c : Dev nD) : Vout m g c (Proc.devRef .tc main_v11_4) = (g c).2.2.2.2 := by
  unfold Vout
  rw [Pipeline.withArrays_of_ne _ _ _ _ _ (fun w => w.elim0)]
  exact (Pipeline.withR_of_mem _ _ _ _ _ (by decide)).trans (after_4 m g c)

theorem tail_0 (c : Dev nD) : StableHlo.after hostOps1 (Vout m g c) (Proc.devRef .tc main_v12)
    = transpose S4x3x1024 [1, 0, 2] (g c).1 transposes_S3x4x1024_S4x3x1024_1_0_2 := by
  after_reads_simp [hostOps1]
  exact congrArg (fun x : (⟨S3x4x1024, .bf16⟩ : BufTy).Contents (Elt F) => transpose S4x3x1024 [1, 0, 2] x transposes_S3x4x1024_S4x3x1024_1_0_2) (Vout_0 m g c)

theorem tail_1 (c : Dev nD) : StableHlo.after hostOps1 (Vout m g c) (Proc.devRef .tc main_v14)
    = shapeCast S4x3x1x64 (transpose S4x3x64 [1, 0, 2] (g c).2.1 transposes_S3x4x64_S4x3x64_1_0_2) shapeCasts_S4x3x64_S4x3x1x64 := by
  after_reads_simp [hostOps1]
  exact congrArg (fun x : (⟨S3x4x64, .fp8e4m3⟩ : BufTy).Contents (Elt F) => shapeCast S4x3x1x64 (transpose S4x3x64 [1, 0, 2] x transposes_S3x4x64_S4x3x64_1_0_2) shapeCasts_S4x3x64_S4x3x1x64) (Vout_1 m g c)

theorem tail_2 (c : Dev nD) : StableHlo.after hostOps1 (Vout m g c) (Proc.devRef .tc main_v15)
    = transpose S4x3x1 [2, 0, 1] (g c).2.2.1 transposes_S3x1x4_S4x3x1_2_0_1 := by
  after_reads_simp [hostOps1]
  exact congrArg (fun x : (⟨S3x1x4, .f32⟩ : BufTy).Contents (Elt F) => transpose S4x3x1 [2, 0, 1] x transposes_S3x1x4_S4x3x1_2_0_1) (Vout_2 m g c)

theorem tail_3 (c : Dev nD) : StableHlo.after hostOps1 (Vout m g c) (Proc.devRef .tc main_v17)
    = shapeCast S4x3x1x64 (transpose S4x3x64 [1, 0, 2] (g c).2.2.2.1 transposes_S3x4x64_S4x3x64_1_0_2) shapeCasts_S4x3x64_S4x3x1x64 := by
  after_reads_simp [hostOps1]
  exact congrArg (fun x : (⟨S3x4x64, .fp8e4m3⟩ : BufTy).Contents (Elt F) => shapeCast S4x3x1x64 (transpose S4x3x64 [1, 0, 2] x transposes_S3x4x64_S4x3x64_1_0_2) shapeCasts_S4x3x64_S4x3x1x64) (Vout_3 m g c)

theorem tail_4 (c : Dev nD) : StableHlo.after hostOps1 (Vout m g c) (Proc.devRef .tc main_v18)
    = transpose S4x3x1 [2, 0, 1] (g c).2.2.2.2 transposes_S3x1x4_S4x3x1_2_0_1 := by
  after_reads_simp [hostOps1]
  exact congrArg (fun x : (⟨S3x1x4, .f32⟩ : BufTy).Contents (Elt F) => transpose S4x3x1 [2, 0, 1] x transposes_S3x1x4_S4x3x1_2_0_1) (Vout_4 m g c)

end Cert.KernelIdeal.Run

end
-- ==== Proof.KernelResult.lean ====
module

public import proofs.«01_k».proof.Proof.KernelOut
public import proofs.«01_k».proof.Proof.KernelValue
public import Idealize.ShloMosaic.Lib.Pipeline.ValueKit

/-!
# The kernel's five results from its eight arguments
-/

set_option maxRecDepth 16384

@[expose] public section

noncomputable section

namespace Cert.KernelIdeal.Run

open Cert.KernelIdeal Cert.KernelIdeal.Gen Cert.KernelIdeal.Val
open Idealize.ShloMosaic Idealize.SL.Sem

/-- The queries as rows. -/
def rowsOf (x : Vec Ideal S4x3x16x64 .bf16) : Vec Ideal S192x64 .bf16 := shapeCast S192x64 x shapeCasts_S4x3x16x64_S192x64

/-- The new keys (or values), new token first. -/
def newOf (x : Vec Ideal S4x3x1x64 .bf16) : Vec Ideal S3x4x64 .bf16 :=
  transpose S3x4x64 [1, 0, 2] (shapeCast S4x3x64 x shapeCasts_S4x3x1x64_S4x3x64) transposes_S4x3x64_S3x4x64_1_0_2

/-- The cache's codes, tokens last. -/
def cacheOf (x : Vec Ideal S4x131072x1x64 .fp8e4m3) : Vec Ideal S4x64x131072 .fp8e4m3 :=
  transpose S4x64x131072 [0, 2, 1] (shapeCast S4x131072x64 x shapeCasts_S4x131072x1x64_S4x131072x64) transposes_S4x131072x64_S4x64x131072_0_2_1

/-- The cache's scales, tokens last. -/
def scalesOf (x : FVec Ideal S4x131072x1 .f32) : FVec Ideal S4x1x131072 .f32 := shapeCast S4x1x131072 x shapeCasts_S4x131072x1_S4x1x131072

theorem newOf_at (x : Vec Ideal S4x3x1x64 .bf16) (s : Fin 3) (b : Fin 4) (d : Fin 64) : newOf x (ix3 s b d) = x (ix4 b s 0 d) := by
  unfold newOf
  pointwise

theorem cacheOf_at (x : Vec Ideal S4x131072x1x64 .fp8e4m3) (b : Fin 4) (d : Fin 64) (t : Fin 131072) : cacheOf x (ix3 b d t) = x (ix4 b t 0 d) := by
  unfold cacheOf
  pointwise

theorem scalesOf_at (x : FVec Ideal S4x131072x1 .f32) (b : Fin 4) (t : Fin 131072) : scalesOf x (ix3 b 0 t) = x (ix3 b t 0) := by
  unfold scalesOf
  pointwise

theorem rowsOf_at (x : Vec Ideal S4x3x16x64 .bf16) (b : Fin 4) (s : Fin 3) (h : Fin 16) (d : Fin 64) :
    rowsOf x (ix2 ⟨b.val * 48 + s.val * 16 + h.val, by omega⟩ d) = x (ix4 b s h d) := by
  unfold rowsOf
  pointwise

variable (m : (l : Loc nD τ sig) → Buf (Elt Ideal) l) (ρ : Dev nD → PrngReg)

theorem V_0 (c : Dev nD) : V m c main_v0 = rowsOf (m ((c.tc : Thread nD τ).loc main_arg0)) := by entry_read; rfl
theorem V_2 (c : Dev nD) : V m c main_v2 = newOf (m ((c.tc : Thread nD τ).loc main_arg1)) := by entry_read; rfl
theorem V_4 (c : Dev nD) : V m c main_v4 = newOf (m ((c.tc : Thread nD τ).loc main_arg2)) := by entry_read; rfl
theorem V_6 (c : Dev nD) : V m c main_v6 = cacheOf (m ((c.tc : Thread nD τ).loc main_arg3)) := by entry_read; rfl
theorem V_8 (c : Dev nD) : V m c main_v8 = cacheOf (m ((c.tc : Thread nD τ).loc main_arg4)) := by entry_read; rfl
theorem V_9 (c : Dev nD) : V m c main_v9 = scalesOf (m ((c.tc : Thread nD τ).loc main_arg5)) := by entry_read; rfl
theorem V_10 (c : Dev nD) : V m c main_v10 = scalesOf (m ((c.tc : Thread nD τ).loc main_arg6)) := by entry_read; rfl
theorem V_7 (c : Dev nD) : V m c main_arg7 = m ((c.tc : Thread nD τ).loc main_arg7) := by entry_read; rfl

/-- The attention result's array, before its axes are swapped. -/
def outArr (x0 : Vec Ideal S4x3x16x64 .bf16) (x1 x2 : Vec Ideal S4x3x1x64 .bf16) (x3 x4 : Vec Ideal S4x131072x1x64 .fp8e4m3) (x5 x6 : FVec Ideal S4x131072x1 .f32) (x7 : IVec S4 32) : FVec Ideal S3x4x1024 .bf16 :=
  fun i => outL x7 (rowsOf x0) (newOf x1) (newOf x2) (cacheOf x3) (cacheOf x4) (scalesOf x5) (scalesOf x6) (i 0) (i 1) (i 2)

/-- The new codes' array. -/
def codeArr (x : Vec Ideal S4x3x1x64 .bf16) : FVec Ideal S3x4x64 .fp8e4m3 := fun i => code (newOf x) (i 0) (i 1) (i 2)

/-- The new scales' array. -/
def sclArr (x : Vec Ideal S4x3x1x64 .bf16) : FVec Ideal S3x1x4 .f32 := fun i => scl (newOf x) (i 0) (i 2)

theorem leaves_of (c : Dev nD) (x0 : Vec Ideal S4x3x16x64 .bf16) (x1 x2 : Vec Ideal S4x3x1x64 .bf16) (x3 x4 : Vec Ideal S4x131072x1x64 .fp8e4m3) (x5 x6 : FVec Ideal S4x131072x1 .f32) (x7 : IVec S4 32)
    o0 o1 o2 o3 o4 s0 s1 s2 s3 s4 s5 s6 s7 s8 s9 s10 s11 s12 :
    (kernelRun (F := Ideal) c x7 (rowsOf x0) (newOf x1) (newOf x2) (cacheOf x3) (cacheOf x4) (scalesOf x5) (scalesOf x6) o0 o1 o2 o3 o4 s0 s1 s2 s3 s4 s5 s6 s7 s8 s9 s10 s11 s12).1
      = (outArr x0 x1 x2 x3 x4 x5 x6 x7, codeArr x1, sclArr x1, codeArr x2, sclArr x2) := by
  refine (run_leaves c _ _ _ _ _ _ _ _ _ _ _ _ _ _ _ _ _ _ _ _ _ _ _ _ _ _).trans ?_
  have h : kernelRun.sl.dma85 (F := Ideal) c x7 (rowsOf x0) (newOf x1) (newOf x2) (cacheOf x3) (cacheOf x4) (scalesOf x5) (scalesOf x6) s0 s1 s2 s3 s6 s7 s8
      = outArr x0 x1 x2 x3 x4 x5 x6 x7 := by
    funext i
    obtain ⟨s, b, k, rfl⟩ : ∃ (s : Fin 3) (b : Fin 4) (k : Fin 1024), i = ix3 s b k := ⟨i 0, i 1, i 2, by funext a; fin_cases a <;> rfl⟩
    refine (dma85_at _ _ _ _ _ _ _ _ _ _ _ _ _ _ _ _ s b k).trans ?_
    unfold outArr
    rfl
  rw [h]
  unfold codeArr sclArr
  rfl

/-- What the body leaves. -/
def left (c : Dev nD) : Outs Ideal c :=
  (outArr (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)),
    codeArr (m ((c.tc : Thread nD τ).loc main_arg1)), sclArr (m ((c.tc : Thread nD τ).loc main_arg1)),
    codeArr (m ((c.tc : Thread nD τ).loc main_arg2)), sclArr (m ((c.tc : Thread nD τ).loc main_arg2)))

theorem leaves : Leaves m (left m) := by
  intro c o0 o1 o2 o3 o4 s0 s1 s2 s3 s4 s5 s6 s7 s8 s9 s10 s11 s12
  rw [V_0, V_2, V_4, V_6, V_8, V_9, V_10, V_7]
  exact leaves_of c _ _ _ _ _ _ _ _ _ _ _ _ _ _ _ _ _ _ _ _ _ _ _ _ _ _

theorem outT_at (y : FVec Ideal S3x4x1024 .bf16) (b : Fin 4) (s : Fin 3) (k : Fin 1024) :
    transpose S4x3x1024 [1, 0, 2] y transposes_S3x4x1024_S4x3x1024_1_0_2 (ix3 b s k) = y (ix3 s b k) := by
  pointwise

theorem codeT_at (y : FVec Ideal S3x4x64 .fp8e4m3) (b : Fin 4) (s : Fin 3) (d : Fin 64) :
    shapeCast S4x3x1x64 (transpose S4x3x64 [1, 0, 2] y transposes_S3x4x64_S4x3x64_1_0_2) shapeCasts_S4x3x64_S4x3x1x64 (ix4 b s 0 d) = y (ix3 s b d) := by
  pointwise

theorem sclT_at (y : FVec Ideal S3x1x4 .f32) (b : Fin 4) (s : Fin 3) :
    transpose S4x3x1 [2, 0, 1] y transposes_S3x1x4_S4x3x1_2_0_1 (ix3 b s 0) = y (ix3 s 0 b) := by
  pointwise

/-- The run: the five results from the eight arguments, which it leaves as they were. -/
theorem run_results : θ_run defs (onTc (τ := τ) (main (F := Ideal))) ⟨m, fun _ => 0, ρ⟩ (fun r => ∀ c : Dev nD,
      r.2.mem ((c.tc : Thread nD τ).loc main_v12) = transpose S4x3x1024 [1, 0, 2] (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) transposes_S3x4x1024_S4x3x1024_1_0_2
      ∧ r.2.mem ((c.tc : Thread nD τ).loc main_v14) = shapeCast S4x3x1x64 (transpose S4x3x64 [1, 0, 2] (codeArr (m ((c.tc : Thread nD τ).loc main_arg1))) transposes_S3x4x64_S4x3x64_1_0_2) shapeCasts_S4x3x64_S4x3x1x64
      ∧ r.2.mem ((c.tc : Thread nD τ).loc main_v15) = transpose S4x3x1 [2, 0, 1] (sclArr (m ((c.tc : Thread nD τ).loc main_arg1))) transposes_S3x1x4_S4x3x1_2_0_1
      ∧ r.2.mem ((c.tc : Thread nD τ).loc main_v17) = shapeCast S4x3x1x64 (transpose S4x3x64 [1, 0, 2] (codeArr (m ((c.tc : Thread nD τ).loc main_arg2))) transposes_S3x4x64_S4x3x64_1_0_2) shapeCasts_S4x3x64_S4x3x1x64
      ∧ r.2.mem ((c.tc : Thread nD τ).loc main_v18) = transpose S4x3x1 [2, 0, 1] (sclArr (m ((c.tc : Thread nD τ).loc main_arg2))) transposes_S3x1x4_S4x3x1_2_0_1) := by
  refine (θ_run defs _ _).mono (fun r h c => ?_) (run_mainV m ρ (left m) (leaves m))
  exact ⟨(h c main_v12 (by decide)).trans (tail_0 m (left m) c), (h c main_v14 (by decide)).trans (tail_1 m (left m) c), (h c main_v15 (by decide)).trans (tail_2 m (left m) c),
    (h c main_v17 (by decide)).trans (tail_3 m (left m) c), (h c main_v18 (by decide)).trans (tail_4 m (left m) c)⟩

end Cert.KernelIdeal.Run

end
-- ==== Proof.RefQuant.lean ====
module

public import proofs.«01_k».proof.Proof.Gen.ReferenceIdeal.Frame
public import Idealize.ShloMosaic.Lib.Pipeline.ValueKit
public import proofs.«01_k».proof.Proof.QuantMath

@[expose] public section

set_option maxRecDepth 16384

noncomputable section

/-!
The reference's quantiser: the scales and the codes of the new keys and values, and the window's start.
-/

namespace Cert.ReferenceIdeal.Val

open Cert.ReferenceIdeal Cert.ReferenceIdeal.Gen
open Idealize.ShloMosaic Idealize.SL.Sem

/-- Each row's largest magnitude. -/
def rmax (x : Vec Ideal S4x3x1x64 .bf16) : FVec Ideal S4x3x1 .f32 :=
  Host.reduce FloatOps.maximumf (Host.absf (extf .f32 x bitsLt_bf16_f32)) (constant (F := Ideal) S_ .f32 0xFF800000#32) reducesTo_S4x3x1x64_S4x3x1_d3 h_S_

/-- Each row's exponent. -/
def rexp (x : Vec Ideal S4x3x1x64 .bf16) : FVec Ideal S4x3x1 .f32 :=
  select (cmpf .oeq (rmax x) (broadcastInDim S4x3x1 ![] bcast_S_S4x3x1 (constant (F := Ideal) S_ .f32 0x00000000#32)))
    (broadcastInDim S4x3x1 ![] bcast_S_S4x3x1 (constant (F := Ideal) S_ .f32 0x00000000#32))
    (addf (Host.floor (Host.divf (Host.log (mulf (rmax x) (broadcastInDim S4x3x1 ![] bcast_S_S4x3x1 (constant (F := Ideal) S_ .f32 0x3B124925#32))))
        (broadcastInDim S4x3x1 ![] bcast_S_S4x3x1 (Host.log (constant (F := Ideal) S_ .f32 0x40000000#32)))))
      (broadcastInDim S4x3x1 ![] bcast_S_S4x3x1 (constant (F := Ideal) S_ .f32 0x3F800000#32)))

/-- Each row's scale. -/
def rscale (x : Vec Ideal S4x3x1x64 .bf16) : FVec Ideal S4x3x1 .f32 :=
  Host.powf (broadcastInDim S4x3x1 ![] bcast_S_S4x3x1 (constant (F := Ideal) S_ .f32 0x40000000#32)) (rexp x)

/-- The codes. -/
def rcode (x : Vec Ideal S4x3x1x64 .bf16) : FVec Ideal S4x3x1x64 .fp8e4m3 :=
  Host.convertf .fp8e4m3 (minimumf (maximumf (mulf (extf .f32 x bitsLt_bf16_f32)
      (broadcastInDim S4x3x1x64 ![0, 1, 2, 3] bcast_S4x3x1x1_S4x3x1x64_0_1_2_3 (broadcastInDim S4x3x1x1 ![0, 1, 2] bcast_S4x3x1_S4x3x1x1_0_1_2
        (Host.powf (broadcastInDim S4x3x1 ![] bcast_S_S4x3x1 (constant (F := Ideal) S_ .f32 0x40000000#32)) (Host.negf (rexp x))))))
      (broadcastInDim S4x3x1x64 ![] bcast_S_S4x3x1x64 (constant (F := Ideal) S_ .f32 0xC3E00000#32)))
    (broadcastInDim S4x3x1x64 ![] bcast_S_S4x3x1x64 (constant (F := Ideal) S_ .f32 0x43E00000#32)))

/-- Where each sequence's window starts. -/
def rstart (n : IVec S4 32) : IVec S4 32 :=
  minsi (maxsi (subi n (broadcastInDim S4 ![] bcast_S_S4 (constantI S_ 32 1024#32))) (broadcastInDim S4 ![] bcast_S_S4 (constantI S_ 32 0#32)))
    (broadcastInDim S4 ![] bcast_S_S4 (constantI S_ 32 130048#32))

/-- The position of each of the window's tokens. -/
def rpos (n : IVec S4 32) : IVec S4x1024 32 :=
  addi (broadcastInDim S4x1024 ![0, 1] bcast_S4x1_S4x1024_0_1 (broadcastInDim S4x1 ![0] bcast_S4_S4x1_0 (rstart n)))
    (broadcastInDim S4x1024 ![0, 1] bcast_S1x1024_S4x1024_0_1 (broadcastInDim S1x1024 ![1] bcast_S1024_S1x1024_1 (iotaInDim S1024 32 0)))

/-- The window of the cache's codes. -/
def rwin (n : IVec S4 32) (x : FVec Ideal S4x131072x1x64 .fp8e4m3) : FVec Ideal S4x1024x1x64 .fp8e4m3 :=
  Host.gather gather_S4x131072x1x64_S4x1_S4x1024x1x64_123_n_0_0_1_1_11024164 x (broadcastInDim S4x1 ![0] bcast_S4_S4x1_0 (rstart n))

/-- The window of the cache's scales. -/
def rwins (n : IVec S4 32) (x : FVec Ideal S4x131072x1 .f32) : FVec Ideal S4x1024x1 .f32 :=
  Host.gather gather_S4x131072x1_S4x1_S4x1024x1_12_n_0_0_1_1_110241 x (broadcastInDim S4x1 ![0] bcast_S4_S4x1_0 (rstart n))

variable (m : (l : Loc nD τ sig) → Buf (Elt Ideal) l)

theorem V_v17 (c : Dev nD) : V m c main_v17 = rscale (m ((c.tc : Thread nD τ).loc main_arg1)) := by entry_read; rfl
theorem V_v28 (c : Dev nD) : V m c main_v28 = rcode (m ((c.tc : Thread nD τ).loc main_arg1)) := by entry_read; rfl
theorem V_v46 (c : Dev nD) : V m c main_v46 = rscale (m ((c.tc : Thread nD τ).loc main_arg2)) := by entry_read; rfl
theorem V_v57 (c : Dev nD) : V m c main_v57 = rcode (m ((c.tc : Thread nD τ).loc main_arg2)) := by entry_read; rfl
theorem V_v58 (c : Dev nD) : V m c main_v58 = shapeCast S4x3x1x16x64 (m ((c.tc : Thread nD τ).loc main_arg0)) shapeCasts_S4x3x16x64_S4x3x1x16x64 := by entry_read; rfl
theorem V_v70 (c : Dev nD) : V m c main_v70 = rpos (m ((c.tc : Thread nD τ).loc main_arg7)) := by entry_read; rfl
theorem V_v72 (c : Dev nD) : V m c main_v72 = rwin (m ((c.tc : Thread nD τ).loc main_arg7)) (m ((c.tc : Thread nD τ).loc main_arg3)) := by entry_read; rfl
theorem V_v74 (c : Dev nD) : V m c main_v74 = rwin (m ((c.tc : Thread nD τ).loc main_arg7)) (m ((c.tc : Thread nD τ).loc main_arg4)) := by entry_read; rfl
theorem V_v76 (c : Dev nD) : V m c main_v76 = rwins (m ((c.tc : Thread nD τ).loc main_arg7)) (m ((c.tc : Thread nD τ).loc main_arg5)) := by entry_read; rfl
theorem V_v78 (c : Dev nD) : V m c main_v78 = rwins (m ((c.tc : Thread nD τ).loc main_arg7)) (m ((c.tc : Thread nD τ).loc main_arg6)) := by entry_read; rfl

end Cert.ReferenceIdeal.Val

end
-- ==== Proof.RefQuantAt.lean ====
module

public import proofs.«01_k».proof.Proof.RefQuant

/-!
# The reference's quantiser, one entry at a time
-/

set_option maxRecDepth 16384

@[expose] public section

noncomputable section

namespace Cert.ReferenceIdeal.Val

open Cert.ReferenceIdeal Cert.ReferenceIdeal.Gen Cert.Quant
open Idealize.ShloMosaic Idealize.SL.Sem

/-- A row's largest magnitude. -/
def rowMax (x : Vec Ideal S4x3x1x64 .bf16) (b : Fin 4) (s : Fin 3) : EReal :=
  Finset.univ.fold max (Ideal.ofBits .f32 0xFF800000#32) fun d => (FloatOps.absf (F := Ideal) (φ := .f32) (x (ix4 b s 0 d)) : Ideal .f32)

variable (x : Vec Ideal S4x3x1x64 .bf16) (b : Fin 4) (s : Fin 3) (d : Fin 64)

theorem rmax_at : rmax x (ix3 b s 0) = rowMax x b s := by
  unfold rmax rowMax
  pointwise

theorem rexp_at : rexp x (ix3 b s 0) = eref (rowMax x b s) := by
  rw [← rmax_at]
  unfold rexp eref
  generalize rmax x = y
  pointwise

theorem rscale_at : rscale x (ix3 b s 0) = Ideal.pow (Ideal.ofBits .f32 0x40000000#32) (eref (rowMax x b s)) := by
  rw [← rexp_at]
  unfold rscale
  generalize rexp x = y
  pointwise

theorem rcode_at : rcode x (ix4 b s 0 d) = min (Ideal.ofBits .f32 0x43E00000#32) (max (Ideal.ofBits .f32 0xC3E00000#32)
    ((x (ix4 b s 0 d) : EReal) * Ideal.pow (Ideal.ofBits .f32 0x40000000#32) (-(eref (rowMax x b s))))) := by
  rw [← rexp_at, min_comm, max_comm]
  unfold rcode
  generalize rexp x = y
  pointwise

end Cert.ReferenceIdeal.Val

end
-- ==== Proof.QuantEq.lean ====
module

public import proofs.«01_k».proof.Proof.KernelResult
public import proofs.«01_k».proof.Proof.RefQuantAt

/-!
# The two quantisers agree

On a row in range the kernel's scale and codes, from the exponent its ladder of comparisons finds, are the reference's, from a
logarithm.
-/

set_option maxRecDepth 16384

@[expose] public section

noncomputable section

namespace Cert.QuantEq

open Idealize.ShloMosaic Cert.Quant Cert.KernelIdeal.Run Cert.KernelIdeal.Val Cert.ReferenceIdeal.Val
open Cert.ReferenceIdeal (S4x3x1x64 S4x3x1)

/-- Every row of the array is in range. -/
def Rows (x : Vec Ideal S4x3x1x64 .bf16) : Prop := ∀ (b : Fin 4) (s : Fin 3), InRange (rowMax x b s)

variable (x : Vec Ideal S4x3x1x64 .bf16)

theorem amax_eq (s : Fin 3) (b : Fin 4) : amax (newOf x) s b = rowMax x b s := by
  unfold amax rowMax
  refine congrArg (fun f : Fin 64 → EReal => Finset.univ.fold max (Ideal.ofBits .f32 0xFF800000#32) f) (funext fun d => ?_)
  exact congrArg (fun y : EReal => (FloatOps.absf (F := Ideal) (φ := .bf16) y : EReal)) (newOf_at x s b d)

theorem scl_eq (h : Rows x) (s : Fin 3) (b : Fin 4) : scl (newOf x) s b = rscale x (ix3 b s 0) := by
  rw [rscale_at]
  unfold scl
  rw [amax_eq]
  exact (scale_eq (h b s)).1

theorem code_eq (h : Rows x) (s : Fin 3) (b : Fin 4) (d : Fin 64) : code (newOf x) s b d = rcode x (ix4 b s 0 d) := by
  rw [rcode_at]
  unfold code
  rw [amax_eq, newOf_at]
  exact congrArg (fun y : EReal => min (Ideal.ofBits .f32 0x43E00000#32) (max (Ideal.ofBits .f32 0xC3E00000#32) ((x (ix4 b s 0 d) : EReal) * y))) (scale_eq (h b s)).2

/-- The kernel's scales, as returned. -/
theorem scales_eq (h : Rows x) :
    transpose Cert.KernelIdeal.S4x3x1 [2, 0, 1] (sclArr x) Cert.KernelIdeal.Gen.transposes_S3x1x4_S4x3x1_2_0_1 = rscale x := by
  funext i
  obtain ⟨b, s, rfl⟩ : ∃ (b : Fin 4) (s : Fin 3), i = ix3 b s 0 := ⟨i 0, i 1, by funext a; fin_cases a <;> first | rfl | exact Fin.ext (by have := (i 2).isLt; show (i 2).val = 0; exact Nat.lt_one_iff.mp this)⟩
  rw [sclT_at]
  exact scl_eq x h s b

/-- The kernel's codes, as returned. -/
theorem codes_eq (h : Rows x) :
    shapeCast Cert.KernelIdeal.S4x3x1x64 (transpose Cert.KernelIdeal.S4x3x64 [1, 0, 2] (codeArr x) Cert.KernelIdeal.Gen.transposes_S3x4x64_S4x3x64_1_0_2) Cert.KernelIdeal.Gen.shapeCasts_S4x3x64_S4x3x1x64
      = rcode x := by
  funext i
  obtain ⟨b, s, d, rfl⟩ : ∃ (b : Fin 4) (s : Fin 3) (d : Fin 64), i = ix4 b s 0 d := ⟨i 0, i 1, i 3, by funext a; fin_cases a <;> first | rfl | exact Fin.ext (by have := (i 2).isLt; show (i 2).val = 0; exact Nat.lt_one_iff.mp this)⟩
  rw [codeT_at]
  exact code_eq x h s b d

end Cert.QuantEq

end
-- ==== Proof.RefRun.lean ====
module

public import proofs.«01_k».proof.Proof.Gen.ReferenceIdeal.Frame
public import Idealize.ShloMosaic.Lib.Pipeline.ValueKit
public import Idealize.ShloMosaic.Lib.Pointwise

@[expose] public section

set_option maxRecDepth 16384

noncomputable section

/-!
What the reference's one region leaves: each code it is handed, read as a number.
-/

namespace Cert.ReferenceIdeal.Val

open Cert.ReferenceIdeal Cert.ReferenceIdeal.Gen
open Idealize.ShloMosaic Idealize.SL.Sem

variable (m : (l : Loc nD τ sig) → Buf (Elt Ideal) l)

theorem zero4 : (![0, 0, 0, 0] : Fin 4 → Nat) = 0 := by funext a; fin_cases a <;> rfl

theorem whole_0 (f : (⟨S4x3x1x64, .fp8e4m3⟩ : BufTy).Contents (Elt Ideal)) : ((cfg0.win 0).blk t0_0).view.read (Elt Ideal) f = f := by
  funext j
  have h0 : win0_0.index t0_0 0 = 0 := rfl
  have h1 : win0_0.index t0_0 1 = 0 := rfl
  have h2 : win0_0.index t0_0 2 = 0 := rfl
  have h3 : win0_0.index t0_0 3 = 0 := rfl
  blk_ext! <;> simp only [h0, h1, h2, h3, Nat.zero_mul, Nat.zero_add]

theorem block_0 (c : Dev nD) : iblk (F := Ideal) m c 0 t0_0 = V m c main_v28 := by
  unfold iblk
  generalize V m c = f
  exact whole_0 _

theorem out_4 (x0 x1 : Vec Ideal S4x3x1x64 .fp8e4m3) (x2 x3 : Vec Ideal S4x1024x1x64 .fp8e4m3) : out0_4 x0 x1 x2 x3 = x0 := by
  unfold out0_4
  rw [View.canon_unit_zero zero4, View.ld_unit_zero zero4]
  funext j
  unfold k0_pay1
  rw [shapeCast_self]
  rfl

/-- The numbers of `main_v28`'s codes. -/
theorem region_4 (c : Dev nD) : (dats (F := Ideal) m 0 c).arrAt 4 cfg0.N = V m c main_v28 := by
  refine (dats (F := Ideal) m 0 c).arrAt_eq_of_after_last 4 t0_0 (by decide +kernel) _ fun j => ?_
  blk_simp
  rw [after0_4, out_4, block_0]

theorem whole_1 (f : (⟨S4x3x1x64, .fp8e4m3⟩ : BufTy).Contents (Elt Ideal)) : ((cfg0.win 1).blk t0_0).view.read (Elt Ideal) f = f := by
  funext j
  have h0 : win0_1.index t0_0 0 = 0 := rfl
  have h1 : win0_1.index t0_0 1 = 0 := rfl
  have h2 : win0_1.index t0_0 2 = 0 := rfl
  have h3 : win0_1.index t0_0 3 = 0 := rfl
  blk_ext! <;> simp only [h0, h1, h2, h3, Nat.zero_mul, Nat.zero_add]

theorem block_1 (c : Dev nD) : iblk (F := Ideal) m c 1 t0_0 = V m c main_v57 := by
  unfold iblk
  generalize V m c = f
  exact whole_1 _

theorem out_5 (x0 x1 : Vec Ideal S4x3x1x64 .fp8e4m3) (x2 x3 : Vec Ideal S4x1024x1x64 .fp8e4m3) : out0_5 x0 x1 x2 x3 = x1 := by
  unfold out0_5
  rw [View.canon_unit_zero zero4, View.ld_unit_zero zero4]
  funext j
  unfold k0_pay2
  rw [shapeCast_self]
  rfl

/-- The numbers of `main_v57`'s codes. -/
theorem region_5 (c : Dev nD) : (dats (F := Ideal) m 0 c).arrAt 5 cfg0.N = V m c main_v57 := by
  refine (dats (F := Ideal) m 0 c).arrAt_eq_of_after_last 5 t0_0 (by decide +kernel) _ fun j => ?_
  blk_simp
  rw [after0_5, out_5, block_1]

theorem whole_2 (f : (⟨S4x1024x1x64, .fp8e4m3⟩ : BufTy).Contents (Elt Ideal)) : ((cfg0.win 2).blk t0_0).view.read (Elt Ideal) f = f := by
  funext j
  have h0 : win0_2.index t0_0 0 = 0 := rfl
  have h1 : win0_2.index t0_0 1 = 0 := rfl
  have h2 : win0_2.index t0_0 2 = 0 := rfl
  have h3 : win0_2.index t0_0 3 = 0 := rfl
  blk_ext! <;> simp only [h0, h1, h2, h3, Nat.zero_mul, Nat.zero_add]

theorem block_2 (c : Dev nD) : iblk (F := Ideal) m c 2 t0_0 = V m c main_v72 := by
  unfold iblk
  generalize V m c = f
  exact whole_2 _

theorem out_6 (x0 x1 : Vec Ideal S4x3x1x64 .fp8e4m3) (x2 x3 : Vec Ideal S4x1024x1x64 .fp8e4m3) : out0_6 x0 x1 x2 x3 = x2 := by
  unfold out0_6
  rw [View.canon_unit_zero zero4, View.ld_unit_zero zero4]
  funext j
  unfold k0_pay3
  rw [shapeCast_self]
  rfl

/-- The numbers of `main_v72`'s codes. -/
theorem region_6 (c : Dev nD) : (dats (F := Ideal) m 0 c).arrAt 6 cfg0.N = V m c main_v72 := by
  refine (dats (F := Ideal) m 0 c).arrAt_eq_of_after_last 6 t0_0 (by decide +kernel) _ fun j => ?_
  blk_simp
  rw [after0_6, out_6, block_2]

theorem whole_3 (f : (⟨S4x1024x1x64, .fp8e4m3⟩ : BufTy).Contents (Elt Ideal)) : ((cfg0.win 3).blk t0_0).view.read (Elt Ideal) f = f := by
  funext j
  have h0 : win0_3.index t0_0 0 = 0 := rfl
  have h1 : win0_3.index t0_0 1 = 0 := rfl
  have h2 : win0_3.index t0_0 2 = 0 := rfl
  have h3 : win0_3.index t0_0 3 = 0 := rfl
  blk_ext! <;> simp only [h0, h1, h2, h3, Nat.zero_mul, Nat.zero_add]

theorem block_3 (c : Dev nD) : iblk (F := Ideal) m c 3 t0_0 = V m c main_v74 := by
  unfold iblk
  generalize V m c = f
  exact whole_3 _

theorem out_7 (x0 x1 : Vec Ideal S4x3x1x64 .fp8e4m3) (x2 x3 : Vec Ideal S4x1024x1x64 .fp8e4m3) : out0_7 x0 x1 x2 x3 = x3 := by
  unfold out0_7
  rw [View.canon_unit_zero zero4, View.ld_unit_zero zero4]
  funext j
  unfold k0_pay4
  rw [shapeCast_self]
  rfl

/-- The numbers of `main_v74`'s codes. -/
theorem region_7 (c : Dev nD) : (dats (F := Ideal) m 0 c).arrAt 7 cfg0.N = V m c main_v74 := by
  refine (dats (F := Ideal) m 0 c).arrAt_eq_of_after_last 7 t0_0 (by decide +kernel) _ fun j => ?_
  blk_simp
  rw [after0_7, out_7, block_3]

end Cert.ReferenceIdeal.Val

end
-- ==== Proof.RefAttn.lean ====
module

public import proofs.«01_k».proof.Proof.RefRun
public import proofs.«01_k».proof.Proof.RefQuant
public import Idealize.ShloMosaic.Lib.StableHlo.RunRead

@[expose] public section

set_option maxRecDepth 16384

noncomputable section

/-!
The reference's attention, from the codes and scales it attends with.
-/

namespace Cert.ReferenceIdeal.Val

open Cert.ReferenceIdeal Cert.ReferenceIdeal.Gen
open Idealize.ShloMosaic Idealize.SL.Sem

section
variable (n : IVec S4 32) (pos : IVec S4x1024 32) (q : FVec Ideal S4x3x1x16x64 .bf16) (kc vc : FVec Ideal S4x1024x1x64 .bf16) (kn vn : FVec Ideal S4x3x1x64 .bf16)
  (kcs vcs : FVec Ideal S4x1024x1 .f32) (kns vns : FVec Ideal S4x3x1 .f32)

/-- Which cached tokens each new token sees. -/
def rseen : IVec S4x3x1024 1 :=
  andi (broadcastInDim S4x3x1024 ![0, 1, 2] bcast_S4x1x1024_S4x3x1024_0_1_2
      (cmpi .slt (broadcastInDim S4x1x1024 ![0, 2] bcast_S4x1024_S4x1x1024_0_2 pos) (broadcastInDim S4x1x1024 ![0, 1, 2] bcast_S4x1x1_S4x1x1024_0_1_2 (broadcastInDim S4x1x1 ![0] bcast_S4_S4x1x1_0 n))))
    (cmpi .sgt (broadcastInDim S4x3x1024 ![0, 1, 2] bcast_S4x1x1024_S4x3x1024_0_1_2 (broadcastInDim S4x1x1024 ![0, 2] bcast_S4x1024_S4x1x1024_0_2 pos))
      (broadcastInDim S4x3x1024 ![0, 1, 2] bcast_S4x3x1_S4x3x1024_0_1_2
        (subi (broadcastInDim S4x3x1 ![0, 1] bcast_S4x3_S4x3x1_0_1
            (addi (broadcastInDim S4x3 ![0, 1] bcast_S4x1_S4x3_0_1 (broadcastInDim S4x1 ![0] bcast_S4_S4x1_0 n)) (broadcastInDim S4x3 ![0, 1] bcast_S1x3_S4x3_0_1 (broadcastInDim S1x3 ![1] bcast_S3_S1x3_1 (iotaInDim S3 32 0)))))
          (broadcastInDim S4x3x1 ![] bcast_S_S4x3x1 (constantI S_ 32 1024#32)))))

/-- The cached tokens' scores. -/
def rsc : FVec Ideal S4x1x16x3x1024 .f32 :=
  select (broadcastInDim S4x1x16x3x1024 ![0, 1, 2, 3, 4] bcast_S4x1x1x3x1024_S4x1x16x3x1024_0_1_2_3_4 (broadcastInDim S4x1x1x3x1024 ![0, 3, 4] bcast_S4x3x1024_S4x1x1x3x1024_0_3_4 (rseen n pos)))
    (mulf (transpose S4x1x16x3x1024 [0, 1, 4, 3, 2] (Host.dotGeneral dot_S4x1024x1x64_S4x3x1x16x64_S4x1x1024x3x16_3_4_1_13_02_02 none kc q) transposes_S4x1x1024x3x16_S4x1x16x3x1024_0_1_4_3_2)
      (broadcastInDim S4x1x16x3x1024 ![0, 1, 2, 3, 4] bcast_S4x1x1x1x1024_S4x1x16x3x1024_0_1_2_3_4
        (mulf (broadcastInDim S4x1x1x1x1024 ![0, 1, 4] bcast_S4x1x1024_S4x1x1x1x1024_0_1_4 (transpose S4x1x1024 [0, 2, 1] kcs transposes_S4x1024x1_S4x1x1024_0_2_1))
          (broadcastInDim S4x1x1x1x1024 ![] bcast_S_S4x1x1x1x1024 (constant (F := Ideal) S_ .f32 0x3E000000#32)))))
    (broadcastInDim S4x1x16x3x1024 ![] bcast_S_S4x1x16x3x1024 (constant (F := Ideal) S_ .f32 0xFF800000#32))

/-- The new tokens' scores. -/
def rsn : FVec Ideal S4x1x16x3x3 .f32 :=
  select (broadcastInDim S4x1x16x3x3 ![3, 4] bcast_S3x3_S4x1x16x3x3_3_4
      (cmpi .sle (broadcastInDim S3x3 ![0, 1] bcast_S1x3_S3x3_0_1 (broadcastInDim S1x3 ![1] bcast_S3_S1x3_1 (iotaInDim S3 32 0)))
        (broadcastInDim S3x3 ![0, 1] bcast_S3x1_S3x3_0_1 (broadcastInDim S3x1 ![0] bcast_S3_S3x1_0 (iotaInDim S3 32 0)))))
    (mulf (transpose S4x1x16x3x3 [0, 1, 4, 3, 2] (Host.dotGeneral dot_S4x3x1x64_S4x3x1x16x64_S4x1x3x3x16_3_4_1_13_02_02 none kn q) transposes_S4x1x3x3x16_S4x1x16x3x3_0_1_4_3_2)
      (broadcastInDim S4x1x16x3x3 ![0, 1, 2, 3, 4] bcast_S4x1x1x1x3_S4x1x16x3x3_0_1_2_3_4
        (mulf (broadcastInDim S4x1x1x1x3 ![0, 1, 4] bcast_S4x1x3_S4x1x1x1x3_0_1_4 (transpose S4x1x3 [0, 2, 1] kns transposes_S4x3x1_S4x1x3_0_2_1))
          (broadcastInDim S4x1x1x1x3 ![] bcast_S_S4x1x1x1x3 (constant (F := Ideal) S_ .f32 0x3E000000#32)))))
    (broadcastInDim S4x1x16x3x3 ![] bcast_S_S4x1x16x3x3 (constant (F := Ideal) S_ .f32 0xFF800000#32))

variable (sc : FVec Ideal S4x1x16x3x1024 .f32) (sn : FVec Ideal S4x1x16x3x3 .f32)

/-- The largest score. -/
def rtop : FVec Ideal S4x1x16x3x1 .f32 :=
  broadcastInDim S4x1x16x3x1 ![0, 1, 2, 3] bcast_S4x1x16x3_S4x1x16x3x1_0_1_2_3
    (maximumf (Host.reduce FloatOps.maximumf sc (constant (F := Ideal) S_ .f32 0xFF800000#32) reducesTo_S4x1x16x3x1024_S4x1x16x3_d4 h_S_)
      (Host.reduce FloatOps.maximumf sn (constant (F := Ideal) S_ .f32 0xFF800000#32) reducesTo_S4x1x16x3x3_S4x1x16x3_d4 h_S_))

/-- The cached tokens' weights. -/
def rec : FVec Ideal S4x1x16x3x1024 .f32 :=
  Host.exp (subf sc (broadcastInDim S4x1x16x3x1024 ![0, 1, 2, 3, 4] bcast_S4x1x16x3x1_S4x1x16x3x1024_0_1_2_3_4 (rtop sc sn)))

/-- The new tokens' weights. -/
def ren : FVec Ideal S4x1x16x3x3 .f32 :=
  Host.exp (subf sn (broadcastInDim S4x1x16x3x3 ![0, 1, 2, 3, 4] bcast_S4x1x16x3x1_S4x1x16x3x3_0_1_2_3_4 (rtop sc sn)))

/-- The sum of the weights. -/
def rden (ec : FVec Ideal S4x1x16x3x1024 .f32) (en : FVec Ideal S4x1x16x3x3 .f32) : FVec Ideal S4x1x16x3x1 .f32 :=
  addf (broadcastInDim S4x1x16x3x1 ![0, 1, 2, 3] bcast_S4x1x16x3_S4x1x16x3x1_0_1_2_3 (Host.reduceAdd ec (constant (F := Ideal) S_ .f32 0x00000000#32) reducesTo_S4x1x16x3x1024_S4x1x16x3_d4 h_S_))
    (broadcastInDim S4x1x16x3x1 ![0, 1, 2, 3] bcast_S4x1x16x3_S4x1x16x3x1_0_1_2_3 (Host.reduceAdd en (constant (F := Ideal) S_ .f32 0x00000000#32) reducesTo_S4x1x16x3x3_S4x1x16x3_d4 h_S_))

/-- The weighted sum of the values. -/
def rnum (ec : FVec Ideal S4x1x16x3x1024 .f32) (en : FVec Ideal S4x1x16x3x3 .f32) : FVec Ideal S4x3x1x16x64 .f32 :=
  addf
    (transpose S4x3x1x16x64 [0, 4, 1, 3, 2] (Host.dotGeneral dot_S4x1024x1x64_S4x1x16x3x1024_S4x1x64x16x3_1_4_3_23_02_01 none vc
      (truncf .bf16 (mulf ec (broadcastInDim S4x1x16x3x1024 ![0, 1, 2, 3, 4] bcast_S4x1x1x1x1024_S4x1x16x3x1024_0_1_2_3_4 (broadcastInDim S4x1x1x1x1024 ![0, 1, 4] bcast_S4x1x1024_S4x1x1x1x1024_0_1_4 (transpose S4x1x1024 [0, 2, 1] vcs transposes_S4x1024x1_S4x1x1024_0_2_1)))) bitsLt_bf16_f32))
      transposes_S4x1x64x16x3_S4x3x1x16x64_0_4_1_3_2)
    (transpose S4x3x1x16x64 [0, 4, 1, 3, 2] (Host.dotGeneral dot_S4x3x1x64_S4x1x16x3x3_S4x1x64x16x3_1_4_3_23_02_01 none vn
      (truncf .bf16 (mulf en (broadcastInDim S4x1x16x3x3 ![0, 1, 2, 3, 4] bcast_S4x1x1x1x3_S4x1x16x3x3_0_1_2_3_4 (broadcastInDim S4x1x1x1x3 ![0, 1, 4] bcast_S4x1x3_S4x1x1x1x3_0_1_4 (transpose S4x1x3 [0, 2, 1] vns transposes_S4x3x1_S4x1x3_0_2_1)))) bitsLt_bf16_f32))
      transposes_S4x1x64x16x3_S4x3x1x16x64_0_4_1_3_2)

/-- The quotient. -/
def rquo (den : FVec Ideal S4x1x16x3x1 .f32) (num : FVec Ideal S4x3x1x16x64 .f32) : FVec Ideal S4x3x1024 .bf16 :=
  truncf .bf16 (shapeCast S4x3x1024 (Host.divf num
    (broadcastInDim S4x3x1x16x64 ![0, 1, 2, 3, 4] bcast_S4x3x1x16x1_S4x3x1x16x64_0_1_2_3_4 (transpose S4x3x1x16x1 [0, 3, 1, 2, 4] den transposes_S4x1x16x3x1_S4x3x1x16x1_0_3_1_2_4)))
    shapeCasts_S4x3x1x16x64_S4x3x1024) bitsLt_bf16_f32

/-- The attention result from the scores. -/
def rfin : FVec Ideal S4x3x1024 .bf16 :=
  rquo (rden (rec sc sn) (ren sc sn)) (rnum vc vn vcs vns (rec sc sn) (ren sc sn))

/-- The attention result. -/
def rattn : FVec Ideal S4x3x1024 .bf16 :=
  rfin vc vn vcs vns (rsc n pos q kc kcs) (rsn q kn kns)
end

/-- The lines after the region, from any contents. -/
theorem tail_read (c : Dev nD) (W : ∀ b, Buf (Elt Ideal) (c, b)) :
    StableHlo.after (List.flatten [hostOps1 (F := Ideal), hostOps1_1, hostOps1_2, hostOps1_3, hostOps1_4]) W (Proc.devRef .tc main_v158)
      = rattn (W (Proc.devRef .tc main_arg7)) (W (Proc.devRef .tc main_v70)) (W (Proc.devRef .tc main_v58)) (W (Proc.devRef .tc main_v79_2)) (W (Proc.devRef .tc main_v79_3))
          (W (Proc.devRef .tc main_v79_0)) (W (Proc.devRef .tc main_v79_1)) (W (Proc.devRef .tc main_v76)) (W (Proc.devRef .tc main_v78)) (W (Proc.devRef .tc main_v17)) (W (Proc.devRef .tc main_v46)) := by
  after_reads_simp [hostOps1, hostOps1_1, hostOps1_2, hostOps1_3, hostOps1_4]
  rfl

end Cert.ReferenceIdeal.Val

end
-- ==== Proof.RefAt.lean ====
module

public import proofs.«01_k».proof.Proof.RefAttn

/-!
# The reference's intermediate arrays, one entry at a time

The windows of the cache, the positions, the scores, their largest, the weights, the denominators and the
numerators, each as a plain formula of the entry's coordinates.
-/

set_option maxRecDepth 16384

@[expose] public section

noncomputable section

namespace Cert.ReferenceIdeal.Val

open Cert.ReferenceIdeal Cert.ReferenceIdeal.Gen
open Idealize.ShloMosaic Idealize.SL.Sem

/-! ## The window -/

/-- The window's start word at a sequence, from that sequence's length. -/
def startW (w : BitVec 32) : BitVec 32 := IntOp.minsi (IntOp.maxsi (IntOp.subi w 1024#32) 0#32) 130048#32

/-- The window's start as a number. -/
def startN (w : BitVec 32) : Nat := (startW w).toNat

theorem startW_le (w : BitVec 32) : (startW w).toInt.toNat = startN w ∧ startN w ≤ 130048 := by
  unfold startN startW
  have h0 : (0#32).toInt = 0 := by decide
  have h1 : (130048#32).toInt = 130048 := by decide
  have key : 0 ≤ (IntOp.minsi (IntOp.maxsi (IntOp.subi w 1024#32) 0#32) 130048#32).toInt ∧ (IntOp.minsi (IntOp.maxsi (IntOp.subi w 1024#32) 0#32) 130048#32).toInt ≤ 130048 := by
    generalize IntOp.subi w 1024#32 = y
    unfold IntOp.minsi IntOp.maxsi
    simp only [BitVec.slt_eq_decide, BitVec.sle_eq_decide]
    split_ifs <;> simp_all <;> omega
  generalize IntOp.minsi (IntOp.maxsi (IntOp.subi w 1024#32) 0#32) 130048#32 = z at key ⊢
  have := BitVec.toInt_eq_toNat_cond z
  have := z.isLt
  split_ifs at * <;> omega

theorem startN_lt (w : BitVec 32) (t : Fin 1024) : startN w + t.val < 131072 := by
  have := (startW_le w).2
  omega

theorem rstart_at (n : IVec S4 32) (b : Fin 4) : rstart n (ix1 b) = startW (n (ix1 b)) := by
  unfold rstart startW
  pointwise

theorem rpos_at (n : IVec S4 32) (b : Fin 4) (t : Fin 1024) :
    rpos n (ix2 b t) = startW (n (ix1 b)) + BitVec.ofNat 32 t.val := by
  rw [← rstart_at]
  unfold rpos
  generalize rstart n = y
  pointwise
  rfl

theorem startOf_at (n : IVec S4 32) (b : Fin 4) :
    (broadcastInDim S4x1 ![0] bcast_S4_S4x1_0 (rstart n)) (ix2 b 0) = startW (n (ix1 b)) := by
  rw [← rstart_at]
  generalize rstart n = y
  pointwise

theorem rwin_at (n : IVec S4 32) (x : FVec Ideal S4x131072x1x64 .fp8e4m3) (b : Fin 4) (t : Fin 1024) (d : Fin 64) :
    rwin n x (ix4 b t 0 d) = x (ix4 b ⟨startN (n (ix1 b)) + t.val, startN_lt _ t⟩ 0 d) := by
  unfold rwin Host.gather
  have hs := startOf_at n b
  generalize broadcastInDim S4x1 ![0] bcast_S4_S4x1_0 (rstart n) = y at hs ⊢
  have hi : (gather_S4x131072x1x64_S4x1_S4x1024x1x64_123_n_0_0_1_1_11024164).siIdx (ix4 b t 0 d) ⟨0, by decide⟩ = ix2 b 0 := by
    funext a
    fin_cases a <;> rfl
  obtain ⟨h1, h2⟩ := startW_le (n (ix1 b))
  refine congrArg x (funext fun a => Fin.ext ?_)
  fin_cases a
  · show 0 + b.val + 0 = b.val
    omega
  · show min ((y ((gather_S4x131072x1x64_S4x1_S4x1024x1x64_123_n_0_0_1_1_11024164).siIdx (ix4 b t 0 d) ⟨0, by decide⟩)).toInt.toNat) (131072 - 1024) + 0 + t.val = startN (n (ix1 b)) + t.val
    rw [hi, hs, h1]
    omega
  · rfl
  · show 0 + 0 + d.val = d.val
    omega

theorem rwins_at (n : IVec S4 32) (x : FVec Ideal S4x131072x1 .f32) (b : Fin 4) (t : Fin 1024) :
    rwins n x (ix3 b t 0) = x (ix3 b ⟨startN (n (ix1 b)) + t.val, startN_lt _ t⟩ 0) := by
  unfold rwins Host.gather
  have hs := startOf_at n b
  generalize broadcastInDim S4x1 ![0] bcast_S4_S4x1_0 (rstart n) = y at hs ⊢
  have hi : (gather_S4x131072x1_S4x1_S4x1024x1_12_n_0_0_1_1_110241).siIdx (ix3 b t 0) ⟨0, by decide⟩ = ix2 b 0 := by
    funext a
    fin_cases a <;> rfl
  obtain ⟨h1, h2⟩ := startW_le (n (ix1 b))
  refine congrArg x (funext fun a => Fin.ext ?_)
  fin_cases a
  · show 0 + b.val + 0 = b.val
    omega
  · show min ((y ((gather_S4x131072x1_S4x1_S4x1024x1_12_n_0_0_1_1_110241).siIdx (ix3 b t 0) ⟨0, by decide⟩)).toInt.toNat) (131072 - 1024) + 0 + t.val = startN (n (ix1 b)) + t.val
    rw [hi, hs, h1]
    omega
  · rfl

/-! ## Scores and weights -/

variable (n : IVec S4 32) (pos : IVec S4x1024 32) (q : FVec Ideal S4x3x1x16x64 .bf16) (kc vc : FVec Ideal S4x1024x1x64 .bf16) (kn vn : FVec Ideal S4x3x1x64 .bf16)
  (kcs vcs : FVec Ideal S4x1024x1 .f32) (kns vns : FVec Ideal S4x3x1 .f32)
variable (sc : FVec Ideal S4x1x16x3x1024 .f32) (sn : FVec Ideal S4x1x16x3x3 .f32)

theorem rseen_at (b : Fin 4) (s : Fin 3) (t : Fin 1024) :
    rseen n pos (ix3 b s t) = IntOp.andi (IntOp.cmpi .slt (pos (ix2 b t)) (n (ix1 b)))
      (IntOp.cmpi .sgt (pos (ix2 b t)) (IntOp.subi (IntOp.addi (n (ix1 b)) (BitVec.ofNat 32 s.val)) 1024#32)) := by
  unfold rseen
  pointwise

theorem rsc_at (b : Fin 4) (h : Fin 16) (s : Fin 3) (t : Fin 1024) :
    rsc n pos q kc kcs (ix5 b 0 h s t) = Scalar.select (rseen n pos (ix3 b s t))
      ((∑ d, kc (ix4 b t 0 d) * q (ix5 b s 0 h d)) * (kcs (ix3 b t 0) * Ideal.ofBits .f32 0x3E000000#32)) (Ideal.ofBits .f32 0xFF800000#32) := by
  unfold rsc
  generalize rseen n pos = y
  pointwise

theorem rsn_at (b : Fin 4) (h : Fin 16) (s j : Fin 3) :
    rsn q kn kns (ix5 b 0 h s j) = Scalar.select (IntOp.cmpi .sle (BitVec.ofNat 32 j.val) (BitVec.ofNat 32 s.val))
      ((∑ d, kn (ix4 b j 0 d) * q (ix5 b s 0 h d)) * (kns (ix3 b j 0) * Ideal.ofBits .f32 0x3E000000#32)) (Ideal.ofBits .f32 0xFF800000#32) := by
  unfold rsn
  pointwise

theorem rtop_at (b : Fin 4) (h : Fin 16) (s : Fin 3) : rtop sc sn (ix5 b 0 h s 0)
    = max (Finset.univ.fold max (Ideal.ofBits .f32 0xFF800000#32) fun t => sc (ix5 b 0 h s t))
        (Finset.univ.fold max (Ideal.ofBits .f32 0xFF800000#32) fun j => sn (ix5 b 0 h s j)) := by
  unfold rtop
  pointwise

theorem rec_at (b : Fin 4) (h : Fin 16) (s : Fin 3) (t : Fin 1024) :
    rec sc sn (ix5 b 0 h s t) = Ideal.exp (sc (ix5 b 0 h s t) - rtop sc sn (ix5 b 0 h s 0)) := by
  unfold rec
  generalize rtop sc sn = y
  pointwise

theorem ren_at (b : Fin 4) (h : Fin 16) (s j : Fin 3) :
    ren sc sn (ix5 b 0 h s j) = Ideal.exp (sn (ix5 b 0 h s j) - rtop sc sn (ix5 b 0 h s 0)) := by
  unfold ren
  generalize rtop sc sn = y
  pointwise

theorem rden_at (b : Fin 4) (h : Fin 16) (s : Fin 3) :
    rden sc sn (ix5 b 0 h s 0) = ∑ t, sc (ix5 b 0 h s t) + ∑ j, sn (ix5 b 0 h s j) := by
  unfold rden
  pointwise

theorem rnum_at (b : Fin 4) (h : Fin 16) (s : Fin 3) (d : Fin 64) : rnum vc vn vcs vns sc sn (ix5 b s 0 h d)
    = ∑ t, vc (ix4 b t 0 d) * (sc (ix5 b 0 h s t) * vcs (ix3 b t 0))
      + ∑ j, vn (ix4 b j 0 d) * (sn (ix5 b 0 h s j) * vns (ix3 b j 0)) := by
  unfold rnum
  pointwise

theorem rquo_at (den : FVec Ideal S4x1x16x3x1 .f32) (num : FVec Ideal S4x3x1x16x64 .f32) (b : Fin 4) (s : Fin 3) (k : Fin 1024) :
    rquo den num (ix3 b s k) = Ideal.div (num (ix5 b s 0 ⟨k.val / 64, by omega⟩ ⟨k.val % 64, by omega⟩)) (den (ix5 b 0 ⟨k.val / 64, by omega⟩ s 0)) := by
  unfold rquo
  pointwise

end Cert.ReferenceIdeal.Val

end
-- ==== Proof.SoftMath.lean ====
module

public import Idealize.ShloMosaic.Lib.Pointwise
public import Idealize.ShloMosaic.Lib.IdealHost

/-!
# Softmax over what is seen

A softmax over an index set some of whose entries are masked is the softmax over the entries that are seen. So two softmaxes
over different index sets agree as soon as what they see corresponds, one to one. The one takes powers of two of scores
scaled by `1 / ln 2`, the other powers of `e`.
-/

@[expose] public section

noncomputable section

namespace Cert.Soft

open Idealize.ShloMosaic

/-- The factor between the two kinds of score. -/
def lg : ℝ := (Real.log 2)⁻¹

theorem lg_pos : 0 < lg := inv_pos.mpr (Real.log_pos (by norm_num))

theorem exp2_mul (y : EReal) : Ideal.exp2 (y * (lg : EReal)) = Ideal.exp y := by
  induction y with
  | bot => rw [EReal.bot_mul_coe_of_pos lg_pos]; rfl
  | top => rw [EReal.top_mul_coe_of_pos lg_pos]; rfl
  | coe r =>
    rw [← EReal.coe_mul]
    show ((Real.rpow 2 (r * lg) : ℝ) : EReal) = ((Real.exp r : ℝ) : EReal)
    congr 1
    show (2 : ℝ) ^ (r * lg) = Real.exp r
    have h : Real.log 2 ≠ 0 := (Real.log_pos (by norm_num)).ne'
    rw [Real.rpow_def_of_pos (by norm_num), lg]
    congr 1
    field_simp

theorem sub_mul_lg (x y : EReal) : x * (lg : EReal) - y * (lg : EReal) = (x - y) * (lg : EReal) := by
  induction x with
  | bot =>
    rw [EReal.bot_mul_coe_of_pos lg_pos]
    simp only [sub_eq_add_neg, EReal.bot_add]
    rw [EReal.bot_mul_coe_of_pos lg_pos]
  | top =>
    induction y with
    | bot => simp [EReal.top_mul_coe_of_pos lg_pos, EReal.bot_mul_coe_of_pos lg_pos]
    | top => simp [sub_eq_add_neg, EReal.top_mul_coe_of_pos lg_pos, EReal.bot_mul_coe_of_pos lg_pos]
    | coe r => rw [EReal.top_mul_coe_of_pos lg_pos, ← EReal.coe_mul, EReal.top_sub_coe, EReal.top_sub_coe, EReal.top_mul_coe_of_pos lg_pos]
  | coe q =>
    induction y with
    | bot => rw [EReal.bot_mul_coe_of_pos lg_pos, ← EReal.coe_mul, EReal.coe_sub_bot, EReal.coe_sub_bot, EReal.top_mul_coe_of_pos lg_pos]
    | top => rw [EReal.top_mul_coe_of_pos lg_pos, sub_eq_add_neg, sub_eq_add_neg, EReal.neg_top, EReal.add_bot, EReal.add_bot, EReal.bot_mul_coe_of_pos lg_pos]
    | coe r =>
      rw [← EReal.coe_mul, ← EReal.coe_mul, ← EReal.coe_sub, ← EReal.coe_sub, ← EReal.coe_mul, sub_mul]

theorem exp2_sub (x y : EReal) : Ideal.exp2 (x * (lg : EReal) - y * (lg : EReal)) = Ideal.exp (x - y) := by
  rw [sub_mul_lg, exp2_mul]

theorem exp2_bot_sub (y : EReal) : Ideal.exp2 (⊥ - y) = 0 := by
  rw [sub_eq_add_neg, EReal.bot_add]; rfl

theorem exp_bot_sub (y : EReal) : Ideal.exp (⊥ - y) = 0 := by
  rw [sub_eq_add_neg, EReal.bot_add]; rfl

/-- What an index set sees corresponds, one to one, to what another sees. -/
structure Covers {K T : Type} (p : K → Bool) (q : T → Bool) (e : K → T) : Prop where
  maps : ∀ i, p i = true → q (e i) = true
  inj : ∀ i j, p i = true → p j = true → e i = e j → i = j
  surj : ∀ t, q t = true → ∃ i, p i = true ∧ e i = t

section
variable {K T : Type} [Fintype K] [Fintype T] {p : K → Bool} {q : T → Bool} {e : K → T} (h : Covers p q e)
include h

theorem Covers.sum (f : T → EReal) : ∑ i, (if p i then f (e i) else 0) = ∑ t, if q t then f t else 0 := by
  rw [← Finset.sum_filter, ← Finset.sum_filter]
  refine Finset.sum_bij (fun i _ => e i) (fun i hi => ?_) (fun i hi j hj hij => ?_) (fun t ht => ?_) (fun i _ => rfl)
  · simpa using h.maps i (by simpa using hi)
  · exact h.inj i j (by simpa using hi) (by simpa using hj) hij
  · obtain ⟨i, hi, rfl⟩ := h.surj t (by simpa using ht)
    exact ⟨i, by simpa using hi, rfl⟩

theorem Covers.sup (f : T → EReal) : (Finset.univ.sup fun i => if p i then f (e i) else ⊥) = Finset.univ.sup fun t => if q t then f t else ⊥ := by
  refine le_antisymm (Finset.sup_le fun i _ => ?_) (Finset.sup_le fun t _ => ?_)
  · by_cases hi : p i = true
    · rw [if_pos hi]
      refine le_trans (le_of_eq ?_) (Finset.le_sup (f := fun t => if q t then f t else ⊥) (Finset.mem_univ (e i)))
      exact (if_pos (h.maps i hi)).symm
    · rw [if_neg hi]; exact bot_le
  · by_cases ht : q t = true
    · obtain ⟨i, hi, rfl⟩ := h.surj t ht
      rw [if_pos ht]
      refine le_trans (le_of_eq ?_) (Finset.le_sup (f := fun i => if p i then f (e i) else ⊥) (Finset.mem_univ i))
      exact (if_pos hi).symm
    · rw [if_neg ht]; exact bot_le

end

section
variable {T : Type} [Fintype T] (q : T → Bool) (s v u : T → EReal)

/-- The largest score seen. -/
def best : EReal := Finset.univ.sup fun t => if q t then s t else ⊥

/-- The weights' sum. -/
def den : EReal := ∑ t, if q t then Ideal.exp (s t - best q s) else 0

/-- The weighted sum of codes `u`, scaled by `v`. -/
def num : EReal := ∑ t, if q t then Ideal.exp (s t - best q s) * v t * u t else 0

theorem best_mul : (Finset.univ.sup fun t => if q t then s t * (lg : EReal) else ⊥) = best q s * (lg : EReal) := by
  have hm : Monotone fun x : EReal => x * (lg : EReal) := fun x y hxy => mul_le_mul_of_nonneg_right hxy (by exact_mod_cast lg_pos.le)
  rw [best, Finset.comp_sup_eq_sup_comp (fun x : EReal => x * (lg : EReal)) (fun x y => hm.map_max) (EReal.bot_mul_coe_of_pos lg_pos)]
  refine Finset.sup_congr rfl fun t _ => ?_
  show _ = (if q t then s t else ⊥) * (lg : EReal)
  split
  · rfl
  · rw [EReal.bot_mul_coe_of_pos lg_pos]

variable {K : Type} [Fintype K] {p : K → Bool} {e : K → T}

/-- Powers of two of scaled scores, their masked ones minus infinity. -/
theorem two_top (h : Covers p q e) (f : K → EReal) (hf : ∀ i, f i = if p i then s (e i) * (lg : EReal) else ⊥) :
    Finset.univ.sup f = best q s * (lg : EReal) := by
  rw [← best_mul, ← h.sup fun t => s t * (lg : EReal)]
  exact Finset.sup_congr rfl fun i _ => hf i

theorem two_wgt (h : Covers p q e) (f : K → EReal) (hf : ∀ i, f i = if p i then s (e i) * (lg : EReal) else ⊥) (i : K) :
    Ideal.exp2 (f i - Finset.univ.sup f) = if p i then Ideal.exp (s (e i) - best q s) else 0 := by
  rw [two_top q s h f hf, hf i]
  split
  · rw [exp2_sub]
  · rw [exp2_bot_sub]

theorem two_den (h : Covers p q e) (f : K → EReal) (hf : ∀ i, f i = if p i then s (e i) * (lg : EReal) else ⊥) :
    ∑ i, Ideal.exp2 (f i - Finset.univ.sup f) = den q s := by
  rw [den, ← h.sum fun t => Ideal.exp (s t - best q s)]
  exact Finset.sum_congr rfl fun i _ => two_wgt q s h f hf i

theorem two_num (h : Covers p q e) (f : K → EReal) (hf : ∀ i, f i = if p i then s (e i) * (lg : EReal) else ⊥)
    (v' u' : K → EReal) (hv : ∀ i, p i = true → v' i = v (e i)) (hu : ∀ i, p i = true → u' i = u (e i)) :
    ∑ i, Ideal.exp2 (f i - Finset.univ.sup f) * v' i * u' i = num q s v u := by
  rw [num, ← h.sum fun t => Ideal.exp (s t - best q s) * v t * u t]
  refine Finset.sum_congr rfl fun i _ => ?_
  rw [two_wgt q s h f hf i]
  by_cases hi : p i = true
  · rw [if_pos hi, if_pos hi, hv i hi, hu i hi]
  · rw [if_neg hi, if_neg hi, zero_mul, zero_mul]

/-- Powers of `e`, over two index sets at once. -/
theorem e_top {J : Type} [Fintype J] {p : K ⊕ J → Bool} {e : K ⊕ J → T} (h : Covers p q e) (f : K → EReal) (g : J → EReal)
    (hf : ∀ i, f i = if p (.inl i) then s (e (.inl i)) else ⊥) (hg : ∀ i, g i = if p (.inr i) then s (e (.inr i)) else ⊥) :
    max (Finset.univ.sup f) (Finset.univ.sup g) = best q s := by
  rw [best, ← h.sup s]
  refine le_antisymm (max_le (Finset.sup_le fun i _ => ?_) (Finset.sup_le fun i _ => ?_)) (Finset.sup_le fun i _ => ?_)
  · rw [hf i]; exact Finset.le_sup (f := fun i => if p i then s (e i) else ⊥) (Finset.mem_univ (Sum.inl i))
  · rw [hg i]; exact Finset.le_sup (f := fun i => if p i then s (e i) else ⊥) (Finset.mem_univ (Sum.inr i))
  · rcases i with i | i
    · rw [← hf i]; exact le_max_of_le_left (Finset.le_sup (Finset.mem_univ i))
    · rw [← hg i]; exact le_max_of_le_right (Finset.le_sup (Finset.mem_univ i))

theorem e_wgt (b : Bool) (x y : EReal) : Ideal.exp ((if b then x else ⊥) - y) = if b then Ideal.exp (x - y) else 0 := by
  split
  · rfl
  · rw [exp_bot_sub]

theorem e_den {J : Type} [Fintype J] {p : K ⊕ J → Bool} {e : K ⊕ J → T} (h : Covers p q e) (f : K → EReal) (g : J → EReal)
    (hf : ∀ i, f i = if p (.inl i) then s (e (.inl i)) else ⊥) (hg : ∀ i, g i = if p (.inr i) then s (e (.inr i)) else ⊥) (m : EReal) (hm : m = best q s) :
    ∑ i, Ideal.exp (f i - m) + ∑ i, Ideal.exp (g i - m) = den q s := by
  rw [den, ← h.sum fun t => Ideal.exp (s t - best q s), Fintype.sum_sum_type, hm]
  congr 1
  · exact Finset.sum_congr rfl fun i _ => by rw [hf i, e_wgt]
  · exact Finset.sum_congr rfl fun i _ => by rw [hg i, e_wgt]

theorem e_num {J : Type} [Fintype J] {p : K ⊕ J → Bool} {e : K ⊕ J → T} (h : Covers p q e) (f : K → EReal) (g : J → EReal)
    (hf : ∀ i, f i = if p (.inl i) then s (e (.inl i)) else ⊥) (hg : ∀ i, g i = if p (.inr i) then s (e (.inr i)) else ⊥) (m : EReal) (hm : m = best q s)
    (v' u' : K → EReal) (w' z' : J → EReal) (hv : ∀ i, v' i = v (e (.inl i))) (hu : ∀ i, u' i = u (e (.inl i)))
    (hw : ∀ i, w' i = v (e (.inr i))) (hz : ∀ i, z' i = u (e (.inr i))) :
    ∑ i, u' i * (Ideal.exp (f i - m) * v' i) + ∑ i, z' i * (Ideal.exp (g i - m) * w' i) = num q s v u := by
  rw [num, ← h.sum fun t => Ideal.exp (s t - best q s) * v t * u t, Fintype.sum_sum_type, hm]
  congr 1
  · refine Finset.sum_congr rfl fun i _ => ?_
    rw [hf i, e_wgt, hv i, hu i, mul_comm]
    split
    · rfl
    · rw [zero_mul, zero_mul]
  · refine Finset.sum_congr rfl fun i _ => ?_
    rw [hg i, e_wgt, hw i, hz i, mul_comm]
    split
    · rfl
    · rw [zero_mul, zero_mul]

end

end Cert.Soft

end
-- ==== Proof.SeenTokens.lean ====
module

public import proofs.«01_k».proof.Proof.KernelOut
public import proofs.«01_k».proof.Proof.RefAt
public import proofs.«01_k».proof.Proof.SoftMath

/-!
# Which tokens are seen

A token of the cache is seen by a new token when it lies in the sliding window before it, whatever the sequence's length word.
The kernel reads 1152 tokens from a start that is a multiple of 128, the reference 1024 from the window's own start: both
hold every token that is seen, and each masks the rest.
-/

set_option maxRecDepth 16384

@[expose] public section

noncomputable section

namespace Cert.Seen

open Idealize.ShloMosaic Cert.KernelIdeal.Run Cert.KernelIdeal.Val Cert.ReferenceIdeal.Val

/-- Whether token `t` of the cache is seen by new token `s`, the sequence's length word being `w`. -/
def vis (w : BitVec 32) (s : Fin 3) (t : Nat) : Bool :=
  (BitVec.ofNat 32 t).slt w && ((w + BitVec.ofNat 32 s.val) - 1024#32).slt (BitVec.ofNat 32 t)

theorem int_bounds (x : BitVec 32) : -2147483648 ≤ x.toInt ∧ x.toInt < 2147483648 := by
  have := BitVec.toInt_eq_toNat_cond x
  have := x.isLt
  split_ifs at * <;> omega

theorem int_sub (x y : BitVec 32) : ∃ k : Int, (x - y).toInt = x.toInt - y.toInt + k * 4294967296 := by
  refine ⟨((x - y).toInt - (x.toInt - y.toInt)) / 4294967296, ?_⟩
  have h := BitVec.toInt_sub (x := x) (y := y)
  have h2 := Int.emod_emod_of_dvd
  rw [h, Int.bmod_def]
  split_ifs <;> omega

theorem int_add (x y : BitVec 32) : ∃ k : Int, (x + y).toInt = x.toInt + y.toInt + k * 4294967296 := by
  refine ⟨((x + y).toInt - (x.toInt + y.toInt)) / 4294967296, ?_⟩
  have h := BitVec.toInt_add (x := x) (y := y)
  rw [h, Int.bmod_def]
  split_ifs <;> omega

theorem int_ofNat (n : Nat) (h : n < 2147483648) : (BitVec.ofNat 32 n).toInt = n := by
  have h1 := BitVec.toInt_eq_toNat_cond (BitVec.ofNat 32 n)
  rw [BitVec.toNat_ofNat] at h1
  split_ifs at h1 <;> omega

theorem nat_of_int (x : BitVec 32) (h : 0 ≤ x.toInt) : (x.toNat : Int) = x.toInt := by
  have := BitVec.toInt_eq_toNat_cond x
  have := x.isLt
  split_ifs at * <;> omega

theorem slt_iff (x y : BitVec 32) : x.slt y = true ↔ x.toInt < y.toInt := by
  rw [BitVec.slt_eq_decide, decide_eq_true_eq]

theorem off_int (w : BitVec 32) : (off w : Int) = min 129920 (max 0 (w - 1024#32).toInt) / 128 * 128 := by
  have h : (Scalar.minsi 129920#32 (Scalar.maxsi 0#32 (Scalar.subi w 1024#32))).toInt = min 129920 (max 0 (w - 1024#32).toInt) := by
    show (IntOp.minsi 129920#32 (IntOp.maxsi 0#32 (w - 1024#32))).toInt = _
    generalize w - 1024#32 = x
    have h0 : (0#32).toInt = 0 := by decide
    have h1 : (129920#32).toInt = 129920 := by decide
    unfold IntOp.minsi IntOp.maxsi
    simp only [slt_iff, h0, h1]
    split_ifs <;> omega
  have h2 := nat_of_int _ (by rw [h]; omega)
  unfold off
  rw [h] at h2
  omega

theorem start_int (w : BitVec 32) : (startN w : Int) = min 130048 (max 0 (w - 1024#32).toInt) := by
  have h : (startW w).toInt = min 130048 (max 0 (w - 1024#32).toInt) := by
    show (IntOp.minsi (IntOp.maxsi (w - 1024#32) 0#32) 130048#32).toInt = _
    generalize w - 1024#32 = x
    have h0 : (0#32).toInt = 0 := by decide
    have h1 : (130048#32).toInt = 130048 := by decide
    unfold IntOp.minsi IntOp.maxsi
    simp only [slt_iff, h0, h1]
    split_ifs <;> omega
  have h2 := nat_of_int (startW w) (by rw [h]; omega)
  unfold startN
  rw [h2, h]

theorem vis_iff (w : BitVec 32) (s : Fin 3) (t : Nat) (ht : t < 131072) :
    vis w s t = true ↔ (t : Int) < w.toInt ∧ ((w + BitVec.ofNat 32 s.val) - 1024#32).toInt < t := by
  unfold vis
  rw [Bool.and_eq_true, slt_iff, slt_iff, int_ofNat t (by omega)]

theorem vis_off (w : BitVec 32) (s : Fin 3) (t : Nat) (ht : t < 131072) (h : vis w s t = true) : off w ≤ t ∧ t < off w + 1152 := by
  rw [vis_iff w s t ht] at h
  have ho := off_int w
  have hs := s.isLt
  have c := int_ofNat s.val (by omega)
  have c2 : (1024#32).toInt = 1024 := by decide
  obtain ⟨k1, e1⟩ := int_sub w 1024#32
  obtain ⟨k2, e2⟩ := int_add w (BitVec.ofNat 32 s.val)
  obtain ⟨k3, e3⟩ := int_sub (w + BitVec.ofNat 32 s.val) 1024#32
  have b0 := int_bounds w
  have b1 := int_bounds (w - 1024#32)
  have b2 := int_bounds (w + BitVec.ofNat 32 s.val)
  have b3 := int_bounds (w + BitVec.ofNat 32 s.val - 1024#32)
  omega

theorem vis_start (w : BitVec 32) (s : Fin 3) (t : Nat) (ht : t < 131072) (h : vis w s t = true) : startN w ≤ t ∧ t < startN w + 1024 := by
  rw [vis_iff w s t ht] at h
  have ho := start_int w
  have hs := s.isLt
  have c := int_ofNat s.val (by omega)
  have c2 : (1024#32).toInt = 1024 := by decide
  obtain ⟨k1, e1⟩ := int_sub w 1024#32
  obtain ⟨k2, e2⟩ := int_add w (BitVec.ofNat 32 s.val)
  obtain ⟨k3, e3⟩ := int_sub (w + BitVec.ofNat 32 s.val) 1024#32
  have b0 := int_bounds w
  have b1 := int_bounds (w - 1024#32)
  have b2 := int_bounds (w + BitVec.ofNat 32 s.val)
  have b3 := int_bounds (w + BitVec.ofNat 32 s.val - 1024#32)
  omega

theorem seen_eq (w : BitVec 32) (s : Fin 3) (l : Nat) (hl : l < 1152) : seen (rel w) s l = vis w s (off w + l) := by
  have hol := off_le w
  rw [Bool.eq_iff_iff, vis_iff w s _ (by omega)]
  unfold seen
  rw [Bool.and_eq_true, slt_iff, slt_iff, int_ofNat l (by omega)]
  have ho := off_int w
  have hs := s.isLt
  have c := int_ofNat s.val (by omega)
  have c2 : (1024#32).toInt = 1024 := by decide
  have c3 := int_ofNat (off w) (by omega)
  have c4 : (BitVec.ofNat 32 (4294966272 + s.val)).toInt = (s.val : Int) - 1024 := by
    have : ∀ s : Fin 3, (BitVec.ofNat 32 (4294966272 + s.val)).toInt = (s.val : Int) - 1024 := by decide
    exact this s
  obtain ⟨k1, e1⟩ := int_sub w 1024#32
  obtain ⟨k2, e2⟩ := int_add w (BitVec.ofNat 32 s.val)
  obtain ⟨k3, e3⟩ := int_sub (w + BitVec.ofNat 32 s.val) 1024#32
  obtain ⟨k4, e4⟩ := int_sub w (BitVec.ofNat 32 (off w))
  obtain ⟨k5, e5⟩ := int_add (rel w) (BitVec.ofNat 32 (4294966272 + s.val))
  have b0 := int_bounds w
  have b1 := int_bounds (w - 1024#32)
  have b2 := int_bounds (w + BitVec.ofNat 32 s.val)
  have b3 := int_bounds (w + BitVec.ofNat 32 s.val - 1024#32)
  have b4 := int_bounds (rel w)
  have b5 := int_bounds (rel w + BitVec.ofNat 32 (4294966272 + s.val))
  have e4' : (rel w).toInt = w.toInt - (BitVec.ofNat 32 (off w)).toInt + k4 * 4294967296 := e4
  omega

/-- All tokens: the cache's, then the three new ones. -/
abbrev Tok : Type := Fin 131072 ⊕ Fin 3

/-- Which tokens new token `s` sees. -/
def tokSeen (w : BitVec 32) (s : Fin 3) : Tok → Bool
  | .inl t => vis w s t.val
  | .inr j => decide (j ≤ s)

/-- A kernel lane's token. -/
def laneTok (w : BitVec 32) (l : Fin 1280) : Tok :=
  if hl : l.val < 1152 then .inl ⟨off w + l.val, by have := off_le w; omega⟩ else .inr ⟨(l.val - 1152) / 8 % 3, Nat.mod_lt _ (by decide)⟩

/-- Which lanes the kernel leaves unmasked. -/
def laneSeen (w : BitVec 32) (s : Fin 3) (b : Fin 4) (l : Fin 1280) : Bool :=
  if l.val < 1152 then seen (rel w) s l.val else decide ((l.val - 1152) / 8 ≤ s.val ∧ (l.val - 1152) % 8 = b.val)

theorem lanes_cover (w : BitVec 32) (s : Fin 3) (b : Fin 4) : Soft.Covers (laneSeen w s b) (tokSeen w s) (laneTok w) where
  maps l h := by
    unfold laneSeen at h
    unfold laneTok
    by_cases hl : l.val < 1152
    · rw [if_pos hl, seen_eq w s _ hl] at h
      rw [dif_pos hl]
      exact h
    · rw [if_neg hl] at h
      rw [dif_neg hl]
      have h := of_decide_eq_true h
      have := s.isLt
      exact decide_eq_true (Fin.le_def.mpr (by show (l.val - 1152) / 8 % 3 ≤ s.val; omega))
  inj i j hi hj hij := by
    unfold laneSeen at hi hj
    unfold laneTok at hij
    have := s.isLt
    by_cases h1 : i.val < 1152 <;> by_cases h2 : j.val < 1152
    · rw [dif_pos h1, dif_pos h2] at hij
      have := congrArg Fin.val (Sum.inl.inj hij)
      dsimp only at this
      exact Fin.ext (by omega)
    · rw [dif_pos h1, dif_neg h2] at hij
      exact absurd hij (by simp)
    · rw [dif_neg h1, dif_pos h2] at hij
      exact absurd hij (by simp)
    · rw [dif_neg h1, dif_neg h2] at hij
      rw [if_neg h1] at hi
      rw [if_neg h2] at hj
      have hi := of_decide_eq_true hi
      have hj := of_decide_eq_true hj
      have := congrArg Fin.val (Sum.inr.inj hij)
      dsimp only at this
      exact Fin.ext (by omega)
  surj t ht := by
    rcases t with t | j
    · have ht : vis w s t.val = true := ht
      obtain ⟨h1, h2⟩ := vis_off w s t.val t.isLt ht
      refine ⟨⟨t.val - off w, by omega⟩, ?_, ?_⟩
      · unfold laneSeen
        have hl : t.val - off w < 1152 := by omega
        rw [if_pos hl, seen_eq w s _ hl]
        rw [Nat.add_sub_cancel' h1]
        exact ht
      · unfold laneTok
        rw [dif_pos (by dsimp only; omega)]
        exact congrArg Sum.inl (Fin.ext (Nat.add_sub_cancel' h1))
    · have ht : j ≤ s := of_decide_eq_true ht
      have ht := Fin.le_def.mp ht
      have := s.isLt
      have hb := b.isLt
      refine ⟨⟨1152 + (8 * j.val + b.val), by omega⟩, ?_, ?_⟩
      · unfold laneSeen
        rw [if_neg (by dsimp only; omega)]
        exact decide_eq_true ⟨by dsimp only; omega, by dsimp only; omega⟩
      · unfold laneTok
        rw [dif_neg (by dsimp only; omega)]
        exact congrArg Sum.inr (Fin.ext (by dsimp only; omega))

/-- The token of an entry of the reference's window, or of a new token. -/
def refTok (w : BitVec 32) : Fin 1024 ⊕ Fin 3 → Tok
  | .inl t => .inl ⟨startN w + t.val, startN_lt w t⟩
  | .inr j => .inr j

/-- Which of them the reference leaves unmasked. -/
def refSeen (w : BitVec 32) (s : Fin 3) (i : Fin 1024 ⊕ Fin 3) : Bool := tokSeen w s (refTok w i)

theorem ref_cover (w : BitVec 32) (s : Fin 3) : Soft.Covers (refSeen w s) (tokSeen w s) (refTok w) where
  maps _ h := h
  inj i j _ _ hij := by
    rcases i with i | i <;> rcases j with j | j
    · have := congrArg Fin.val (Sum.inl.inj hij)
      dsimp only at this
      exact congrArg Sum.inl (Fin.ext (by omega))
    · exact absurd hij (by simp [refTok])
    · exact absurd hij (by simp [refTok])
    · exact congrArg Sum.inr (Sum.inr.inj hij)
  surj t ht := by
    rcases t with t | j
    · obtain ⟨h1, h2⟩ := vis_start w s t.val t.isLt ht
      have e : refTok w (.inl ⟨t.val - startN w, by omega⟩) = .inl t := congrArg Sum.inl (Fin.ext (Nat.add_sub_cancel' h1))
      exact ⟨.inl ⟨t.val - startN w, by omega⟩, by unfold refSeen; rw [e]; exact ht, e⟩
    · exact ⟨.inr j, ht, rfl⟩

/-- The reference's mask of its window is that. -/
theorem rseen_eq (n : IVec Cert.ReferenceIdeal.S4 32) (b : Fin 4) (s : Fin 3) (t : Fin 1024) :
    rseen n (rpos n) (ix3 b s t) = BitVec.ofBool (refSeen (n (ix1 b)) s (.inl t)) := by
  rw [rseen_at, rpos_at]
  generalize n (ix1 b) = w
  have hp : startW w + BitVec.ofNat 32 t.val = BitVec.ofNat 32 (startN w + t.val) := by
    apply BitVec.eq_of_toNat_eq
    have := (startW_le w).2
    have ht := t.isLt
    have e : (startW w).toNat = startN w := rfl
    rw [BitVec.toNat_add, BitVec.toNat_ofNat, BitVec.toNat_ofNat, e]
    omega
  rw [hp]
  show BitVec.ofBool _ &&& BitVec.ofBool _ = BitVec.ofBool (vis w s (startN w + t.val))
  have key : ∀ x y : Bool, BitVec.ofBool x &&& BitVec.ofBool y = BitVec.ofBool (x && y) := by decide
  exact key _ _

end Cert.Seen

end
-- ==== Proof.RefValue.lean ====
module

public import proofs.«01_k».proof.Proof.RefAttn

@[expose] public section

set_option maxRecDepth 16384

noncomputable section

/-!
What the reference's run leaves in its results, from the arguments.
-/

namespace Cert.ReferenceIdeal.Val

open Cert.ReferenceIdeal Cert.ReferenceIdeal.Gen
open Idealize.ShloMosaic Idealize.SL.Sem

variable (m : (l : Loc nD τ sig) → Buf (Elt Ideal) l) (ρ : Dev nD → PrngReg)

/-- What the lines after the region find. -/
def found (c : Dev nD) : (b : DevRef τ sig) → Buf (Elt Ideal) (c, b) :=
  Pipeline.withArrays spec0 c (V0 m c) fun w => (dats m 0 c).arrAt w cfg0.N

theorem found_v79_0 (c : Dev nD) : found m c (Proc.devRef .tc main_v79_0) = V m c main_v28 :=
  (Pipeline.withArrays_arr spec0 (by decide) c (V0 m c) _ 4).trans (region_4 m c)

theorem found_v79_1 (c : Dev nD) : found m c (Proc.devRef .tc main_v79_1) = V m c main_v57 :=
  (Pipeline.withArrays_arr spec0 (by decide) c (V0 m c) _ 5).trans (region_5 m c)

theorem found_v79_2 (c : Dev nD) : found m c (Proc.devRef .tc main_v79_2) = V m c main_v72 :=
  (Pipeline.withArrays_arr spec0 (by decide) c (V0 m c) _ 6).trans (region_6 m c)

theorem found_v79_3 (c : Dev nD) : found m c (Proc.devRef .tc main_v79_3) = V m c main_v74 :=
  (Pipeline.withArrays_arr spec0 (by decide) c (V0 m c) _ 7).trans (region_7 m c)

theorem found_arg7 (c : Dev nD) : found m c (Proc.devRef .tc main_arg7) = V m c main_arg7 :=
  Pipeline.withArrays_of_ne spec0 c (V0 m c) _ main_arg7 (by decide)

theorem found_v70 (c : Dev nD) : found m c (Proc.devRef .tc main_v70) = V m c main_v70 :=
  Pipeline.withArrays_of_ne spec0 c (V0 m c) _ main_v70 (by decide)

theorem found_v58 (c : Dev nD) : found m c (Proc.devRef .tc main_v58) = V m c main_v58 :=
  Pipeline.withArrays_of_ne spec0 c (V0 m c) _ main_v58 (by decide)

theorem found_v76 (c : Dev nD) : found m c (Proc.devRef .tc main_v76) = V m c main_v76 :=
  Pipeline.withArrays_of_ne spec0 c (V0 m c) _ main_v76 (by decide)

theorem found_v78 (c : Dev nD) : found m c (Proc.devRef .tc main_v78) = V m c main_v78 :=
  Pipeline.withArrays_of_ne spec0 c (V0 m c) _ main_v78 (by decide)

theorem found_v17 (c : Dev nD) : found m c (Proc.devRef .tc main_v17) = V m c main_v17 :=
  Pipeline.withArrays_of_ne spec0 c (V0 m c) _ main_v17 (by decide)

theorem found_v46 (c : Dev nD) : found m c (Proc.devRef .tc main_v46) = V m c main_v46 :=
  Pipeline.withArrays_of_ne spec0 c (V0 m c) _ main_v46 (by decide)

theorem rest_v17 (c : Dev nD) :
    Pipeline.afterTail₀ cfgs (dats m) 0 (V0 m) [hostOps1, hostOps1_1, hostOps1_2, hostOps1_3, hostOps1_4] c main_v17 = V m c main_v17 := by
  unfold Pipeline.afterTail₀
  rw [List.flatten_cons, List.flatten_cons, List.flatten_cons, List.flatten_cons, List.flatten_cons, List.flatten_nil, List.append_nil, StableHlo.after_append, StableHlo.after_append, StableHlo.after_append, StableHlo.after_append,
    StableHlo.after_of_writes_sub (r := main_v17) hostOps1_4 _ hostOps1_4_writes (by decide +kernel),
    StableHlo.after_of_writes_sub (r := main_v17) hostOps1_3 _ hostOps1_3_writes (by decide +kernel),
    StableHlo.after_of_writes_sub (r := main_v17) hostOps1_2 _ hostOps1_2_writes (by decide +kernel),
    StableHlo.after_of_writes_sub (r := main_v17) hostOps1_1 _ hostOps1_1_writes (by decide +kernel),
    StableHlo.after_of_writes_sub (r := main_v17) hostOps1 _ hostOps1_writes (by decide +kernel),
    Pipeline.withArrays_of_ne _ c (V0 m c) _ main_v17 (by exact (by decide : ∀ w, Pipeline.arrRef spec0 w ≠ main_v17))]

theorem rest_v46 (c : Dev nD) :
    Pipeline.afterTail₀ cfgs (dats m) 0 (V0 m) [hostOps1, hostOps1_1, hostOps1_2, hostOps1_3, hostOps1_4] c main_v46 = V m c main_v46 := by
  unfold Pipeline.afterTail₀
  rw [List.flatten_cons, List.flatten_cons, List.flatten_cons, List.flatten_cons, List.flatten_cons, List.flatten_nil, List.append_nil, StableHlo.after_append, StableHlo.after_append, StableHlo.after_append, StableHlo.after_append,
    StableHlo.after_of_writes_sub (r := main_v46) hostOps1_4 _ hostOps1_4_writes (by decide +kernel),
    StableHlo.after_of_writes_sub (r := main_v46) hostOps1_3 _ hostOps1_3_writes (by decide +kernel),
    StableHlo.after_of_writes_sub (r := main_v46) hostOps1_2 _ hostOps1_2_writes (by decide +kernel),
    StableHlo.after_of_writes_sub (r := main_v46) hostOps1_1 _ hostOps1_1_writes (by decide +kernel),
    StableHlo.after_of_writes_sub (r := main_v46) hostOps1 _ hostOps1_writes (by decide +kernel),
    Pipeline.withArrays_of_ne _ c (V0 m c) _ main_v46 (by exact (by decide : ∀ w, Pipeline.arrRef spec0 w ≠ main_v46))]

/-- The attention result, from the arguments. -/
def attnOf (q : Vec Ideal S4x3x16x64 .bf16) (k v : Vec Ideal S4x3x1x64 .bf16) (ck cv : FVec Ideal S4x131072x1x64 .fp8e4m3) (cks cvs : FVec Ideal S4x131072x1 .f32) (n : IVec S4 32) : FVec Ideal S4x3x1024 .bf16 :=
  rattn n (rpos n) (shapeCast S4x3x1x16x64 q shapeCasts_S4x3x16x64_S4x3x1x16x64) (rwin n ck) (rwin n cv) (rcode k) (rcode v) (rwins n cks) (rwins n cvs) (rscale k) (rscale v)

theorem rest_v158 (c : Dev nD) :
    Pipeline.afterTail₀ cfgs (dats m) 0 (V0 m) [hostOps1, hostOps1_1, hostOps1_2, hostOps1_3, hostOps1_4] c main_v158
      = attnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (tail_read c (found m c)).trans ?_
  rw [found_v79_0, found_v79_1, found_v79_2, found_v79_3, found_arg7, found_v70, found_v58, found_v76, found_v78, found_v17, found_v46,
    V_main_arg7, V_v28, V_v57, V_v72, V_v74, V_v70, V_v58, V_v76, V_v78, V_v17, V_v46]
  rfl

/-- The results of the reference's run. -/
theorem run_value : θ_run defs (onTc (τ := τ) (main (F := Ideal))) ⟨m, fun _ => 0, ρ⟩ (fun r => ∀ c : Dev nD,
      r.2.mem ((c.tc : Thread nD τ).loc main_v158) = attnOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v28) = rcode (m ((c.tc : Thread nD τ).loc main_arg1))
      ∧ r.2.mem ((c.tc : Thread nD τ).loc main_v17) = rscale (m ((c.tc : Thread nD τ).loc main_arg1))
      ∧ r.2.mem ((c.tc : Thread nD τ).loc main_v57) = rcode (m ((c.tc : Thread nD τ).loc main_arg2))
      ∧ r.2.mem ((c.tc : Thread nD τ).loc main_v46) = rscale (m ((c.tc : Thread nD τ).loc main_arg2))) := by
  refine (θ_run defs _ _).mono (fun r h c => ?_) (run_main m ρ)
  refine ⟨?_, ?_, ?_, ?_, ?_⟩
  · exact (h.rest_eq c main_v158 (by decide)).trans (rest_v158 m c)
  · exact (h.in_eq c 0 rfl).trans ((A_eq m c 0).trans (V_v28 m c))
  · exact (h.rest_eq c main_v17 (by decide)).trans ((rest_v17 m c).trans (V_v17 m c))
  · exact (h.in_eq c 1 rfl).trans ((A_eq m c 1).trans (V_v57 m c))
  · exact (h.rest_eq c main_v46 (by decide)).trans ((rest_v46 m c).trans (V_v46 m c))

end Cert.ReferenceIdeal.Val

end
-- ==== Proof.AttnEq.lean ====
module

public import proofs.«01_k».proof.Proof.QuantEq
public import proofs.«01_k».proof.Proof.SeenTokens
public import proofs.«01_k».proof.Proof.RefValue

/-!
# The two attentions agree

Both are one softmax over the tokens a new token sees, the kernel's over its 1280 lanes with powers of two, the reference's
over its window and the new tokens with powers of `e`.
-/

set_option maxRecDepth 16384

@[expose] public section

noncomputable section

namespace Cert.AttnEq

open Idealize.ShloMosaic Cert.Quant Cert.Words Cert.KernelIdeal.Run Cert.KernelIdeal.Val Cert.ReferenceIdeal.Val Cert.QuantEq Cert.Seen Cert.Soft
open Cert.ReferenceIdeal (S4x3x16x64 S4x3x1x64 S4x131072x1x64 S4x131072x1 S4 S4x3x1x16x64 S4x3x1024)

/-! ## What a token brings -/

/-- A token's code. -/
def codeT (x : Vec Ideal S4x3x1x64 .bf16) (cx : FVec Ideal S4x131072x1x64 .fp8e4m3) (b : Fin 4) (d : Fin 64) : Tok → EReal
  | .inl t => cx (ix4 b t 0 d)
  | .inr j => rcode x (ix4 b j 0 d)

/-- A token's scale. -/
def sclT (x : Vec Ideal S4x3x1x64 .bf16) (cs : FVec Ideal S4x131072x1 .f32) (b : Fin 4) : Tok → EReal
  | .inl t => cs (ix3 b t 0)
  | .inr j => rscale x (ix3 b j 0)

/-- A token's score. -/
def scoreT (q : Vec Ideal S4x3x16x64 .bf16) (k : Vec Ideal S4x3x1x64 .bf16) (ck : FVec Ideal S4x131072x1x64 .fp8e4m3) (cks : FVec Ideal S4x131072x1 .f32)
    (b : Fin 4) (s : Fin 3) (h : Fin 16) (t : Tok) : EReal :=
  (∑ d : Fin 64, codeT k ck b d t * (q (ix4 b s h d) : EReal)) * (sclT k cks b t * Ideal.ofBits .f32 0x3E000000#32)

theorem neg_inf : Ideal.ofBits .f32 0xFF800000#32 = ⊥ := by
  simp [Ideal.ofBits, Ideal.ieee]

theorem eighth : Ideal.ofBits .f32 0x3E000000#32 = ((0.125 : ℝ) : EReal) := by
  simp [Ideal.ofBits, Ideal.ieee, -EReal.coe_mul]; norm_num

/-- The kernel's factor is the reference's times that between the two kinds of score. -/
theorem factor : (Named.named (F := Ideal) Cert.KernelIdeal.κ "score_scale_log2e" (φ := .f32) 0x3E38AA3B#32 : EReal)
    = Ideal.ofBits .f32 0x3E000000#32 * (lg : EReal) := by
  have h : (Named.named (F := Ideal) Cert.KernelIdeal.κ "score_scale_log2e" (φ := .f32) 0x3E38AA3B#32 : EReal) = (((Real.sqrt 64)⁻¹ * (Real.log 2)⁻¹ : ℝ) : EReal) :=
    IdealRules.named_const.ideal_named_scalar _ _ _ _ rfl
  rw [h, eighth, ← EReal.coe_mul]
  have h8 : Real.sqrt 64 = 8 := by
    rw [show (64 : ℝ) = 8 ^ 2 by norm_num]
    exact Real.sqrt_sq (by norm_num)
  rw [h8, lg]
  norm_num

theorem fold_sup {n : Nat} (f : Fin n → EReal) : Finset.univ.fold max (Ideal.ofBits .f32 0xFF800000#32) f = Finset.univ.sup f := by
  rw [neg_inf]; rfl

/-! ## The kernel's side -/

section
variable (n : IVec S4 32) (q : Vec Ideal S4x3x16x64 .bf16) (x k v : Vec Ideal S4x3x1x64 .bf16) (cx ck cv : FVec Ideal S4x131072x1x64 .fp8e4m3) (cs cks cvs : FVec Ideal S4x131072x1 .f32)

theorem new_lane (w : BitVec 32) (s : Fin 3) (b : Fin 4) (l : Fin 1280) (hl : ¬ l.val < 1152) (h : laneSeen w s b l = true) (f : Fin 3 → Fin 4 → EReal) :
    lanes f (l.val - 1152) = f ⟨(l.val - 1152) / 8 % 3, Nat.mod_lt _ (by decide)⟩ b := by
  unfold laneSeen at h
  rw [if_neg hl] at h
  have h := of_decide_eq_true h
  have hs := s.isLt
  have hb := b.isLt
  unfold lanes
  rw [dif_pos ⟨by omega, by omega⟩]
  have e1 : (⟨(l.val - 1152) / 8, by omega⟩ : Fin 3) = ⟨(l.val - 1152) / 8 % 3, Nat.mod_lt _ (by decide)⟩ := Fin.ext (by dsimp only; omega)
  have e2 : (⟨(l.val - 1152) % 8, by omega⟩ : Fin 4) = b := Fin.ext h.2
  rw [e1, e2]

theorem codeL_at (hx : Rows x) (s : Fin 3) (b : Fin 4) (d : Fin 64) (l : Fin 1280) (h : laneSeen (n (ix1 b)) s b l = true) :
    codeL n (newOf x) (cacheOf cx) b d l = codeT x cx b d (laneTok (n (ix1 b)) l) := by
  unfold codeL laneTok
  by_cases hl : l.val < 1152
  · rw [dif_pos hl, dif_pos hl]
    exact cacheOf_at cx b d _
  · rw [dif_neg hl, dif_neg hl, new_lane _ s b l hl h]
    exact code_eq x hx _ b d

theorem sclL_at (hx : Rows x) (s : Fin 3) (b : Fin 4) (l : Fin 1280) (h : laneSeen (n (ix1 b)) s b l = true) :
    sclL n (newOf x) (scalesOf cs) b l = sclT x cs b (laneTok (n (ix1 b)) l) := by
  unfold sclL laneTok
  by_cases hl : l.val < 1152
  · rw [dif_pos hl, dif_pos hl]
    exact scalesOf_at cs b _
  · rw [dif_neg hl, dif_neg hl, new_lane _ s b l hl h]
    exact scl_eq x hx _ b

theorem maskL_at (s : Fin 3) (b : Fin 4) (l : Fin 1280) : maskL n s b l = if laneSeen (n (ix1 b)) s b l then 0 else ⊥ := by
  unfold maskL laneSeen
  rw [neg_inf]
  by_cases hl : l.val < 1152
  · rw [if_pos hl, if_pos hl]
  · rw [if_neg hl, if_neg hl]
    by_cases h : (l.val - 1152) / 8 ≤ s.val ∧ (l.val - 1152) % 8 = b.val
    · rw [if_pos h, if_pos (decide_eq_true h)]
    · rw [if_neg h, if_neg (by rw [decide_eq_false h]; decide)]

theorem scoreL_at (hk : Rows k) (s : Fin 3) (b : Fin 4) (h : Fin 16) (l : Fin 1280) :
    scoreL n (rowsOf q) (newOf k) (cacheOf ck) (scalesOf cks) s b h l
      = if laneSeen (n (ix1 b)) s b l then scoreT q k ck cks b s h (laneTok (n (ix1 b)) l) * (lg : EReal) else ⊥ := by
  unfold scoreL
  rw [maskL_at]
  by_cases hl : laneSeen (n (ix1 b)) s b l = true
  · rw [if_pos hl, if_pos hl, add_zero, factor, sclL_at n k cks hk s b l hl, ← mul_assoc, ← mul_assoc]
    unfold scoreT
    rw [← mul_assoc]
    refine congrArg (fun y : EReal => y * sclT k cks b (laneTok (n (ix1 b)) l) * Ideal.ofBits .f32 0x3E000000#32 * (lg : EReal)) (Finset.sum_congr rfl fun d _ => ?_)
    rw [codeL_at n k ck hk s b d l hl, mul_comm]
    exact congrArg (fun y : EReal => codeT k ck b d (laneTok (n (ix1 b)) l) * y) (rowsOf_at q b s h d)
  · rw [if_neg hl, if_neg hl, EReal.add_bot]

theorem kernel_at (hk : Rows k) (hv : Rows v) (s : Fin 3) (b : Fin 4) (j : Fin 1024) :
    outL n (rowsOf q) (newOf k) (newOf v) (cacheOf ck) (cacheOf cv) (scalesOf cks) (scalesOf cvs) s b j
      = Ideal.div (num (tokSeen (n (ix1 b)) s) (scoreT q k ck cks b s ⟨j.val / 64, by omega⟩) (sclT v cvs b) (codeT v cv b ⟨j.val % 64, by omega⟩))
          (den (tokSeen (n (ix1 b)) s) (scoreT q k ck cks b s ⟨j.val / 64, by omega⟩)) := by
  have hf := scoreL_at n q k ck cks hk s b ⟨j.val / 64, by omega⟩
  have hw : ∀ l, wgt (scoreL n (rowsOf q) (newOf k) (cacheOf ck) (scalesOf cks) s b ⟨j.val / 64, by omega⟩) l
      = Ideal.exp2 (scoreL n (rowsOf q) (newOf k) (cacheOf ck) (scalesOf cks) s b ⟨j.val / 64, by omega⟩ l
        - Finset.univ.sup (scoreL n (rowsOf q) (newOf k) (cacheOf ck) (scalesOf cks) s b ⟨j.val / 64, by omega⟩)) := by
    intro l
    unfold wgt top
    rw [fold_sup]
  unfold outL
  refine congrArg₂ Ideal.div ?_ ?_
  · rw [← two_num _ _ _ _ (lanes_cover (n (ix1 b)) s b) _ hf (sclL n (newOf v) (scalesOf cvs) b) (codeL n (newOf v) (cacheOf cv) b ⟨j.val % 64, by omega⟩)
      (fun l hl => sclL_at n v cvs hv s b l hl) (fun l hl => codeL_at n v cv hv s b _ l hl)]
    exact Finset.sum_congr rfl fun l _ => congrArg (fun y : EReal => y * sclL n (newOf v) (scalesOf cvs) b l * codeL n (newOf v) (cacheOf cv) b ⟨j.val % 64, by omega⟩ l) (hw l)
  · rw [← two_den _ _ (lanes_cover (n (ix1 b)) s b) _ hf]
    exact Finset.sum_congr rfl fun l _ => hw l

/-! ## The reference's side -/

theorem query_at (b : Fin 4) (s : Fin 3) (h : Fin 16) (d : Fin 64) :
    shapeCast S4x3x1x16x64 q Cert.ReferenceIdeal.Gen.shapeCasts_S4x3x16x64_S4x3x1x16x64 (ix5 b s 0 h d) = q (ix4 b s h d) := by
  pointwise

theorem rsc_eq (b : Fin 4) (h : Fin 16) (s : Fin 3) (t : Fin 1024) :
    rsc n (rpos n) (shapeCast S4x3x1x16x64 q Cert.ReferenceIdeal.Gen.shapeCasts_S4x3x16x64_S4x3x1x16x64) (rwin n ck) (rwins n cks) (ix5 b 0 h s t)
      = if refSeen (n (ix1 b)) s (.inl t) then scoreT q k ck cks b s h (refTok (n (ix1 b)) (.inl t)) else ⊥ := by
  refine (rsc_at _ _ _ _ _ b h s t).trans ?_
  rw [rseen_eq, select_ofBool, neg_inf]
  refine congrArg (fun y : EReal => if refSeen (n (ix1 b)) s (.inl t) then y else ⊥) ?_
  refine congrArg₂ (fun x y : EReal => x * (y * Ideal.ofBits .f32 0x3E000000#32)) (Finset.sum_congr rfl fun d _ => ?_) (rwins_at n cks b t)
  exact congrArg₂ (fun x y : EReal => x * y) (rwin_at n ck b t d) (query_at q b s h d)

theorem rsn_eq (b : Fin 4) (h : Fin 16) (s j : Fin 3) :
    rsn (shapeCast S4x3x1x16x64 q Cert.ReferenceIdeal.Gen.shapeCasts_S4x3x16x64_S4x3x1x16x64) (rcode k) (rscale k) (ix5 b 0 h s j)
      = if refSeen (n (ix1 b)) s (.inr j) then scoreT q k ck cks b s h (refTok (n (ix1 b)) (.inr j)) else ⊥ := by
  refine (rsn_at _ _ _ b h s j).trans ?_
  have hle : IntOp.cmpi .sle (BitVec.ofNat 32 j.val) (BitVec.ofNat 32 s.val) = BitVec.ofBool (refSeen (n (ix1 b)) s (.inr j)) := by
    show _ = BitVec.ofBool (decide (j ≤ s))
    revert j s
    decide
  rw [hle, select_ofBool, neg_inf]
  refine congrArg (fun y : EReal => if refSeen (n (ix1 b)) s (.inr j) then y else ⊥) ?_
  refine congrArg (fun x : EReal => x * (rscale k (ix3 b j 0) * Ideal.ofBits .f32 0x3E000000#32)) (Finset.sum_congr rfl fun d _ => ?_)
  exact congrArg (fun y : EReal => rcode k (ix4 b j 0 d) * y) (query_at q b s h d)

theorem ref_at (b : Fin 4) (s : Fin 3) (j : Fin 1024) :
    attnOf q k v ck cv cks cvs n (ix3 b s j)
      = Ideal.div (num (tokSeen (n (ix1 b)) s) (scoreT q k ck cks b s ⟨j.val / 64, by omega⟩) (sclT v cvs b) (codeT v cv b ⟨j.val % 64, by omega⟩))
          (den (tokSeen (n (ix1 b)) s) (scoreT q k ck cks b s ⟨j.val / 64, by omega⟩)) := by
  unfold attnOf rattn
  have hf := rsc_eq n q k ck cks b ⟨j.val / 64, by omega⟩ s
  have hg := rsn_eq n q k ck cks b ⟨j.val / 64, by omega⟩ s
  generalize rsc n (rpos n) (shapeCast S4x3x1x16x64 q Cert.ReferenceIdeal.Gen.shapeCasts_S4x3x16x64_S4x3x1x16x64) (rwin n ck) (rwins n cks) = sc at hf ⊢
  generalize rsn (shapeCast S4x3x1x16x64 q Cert.ReferenceIdeal.Gen.shapeCasts_S4x3x16x64_S4x3x1x16x64) (rcode k) (rscale k) = sn at hg ⊢
  have hm : rtop sc sn (ix5 b 0 ⟨j.val / 64, by omega⟩ s 0) = best (tokSeen (n (ix1 b)) s) (scoreT q k ck cks b s ⟨j.val / 64, by omega⟩) := by
    refine (rtop_at sc sn b _ s).trans ?_
    rw [fold_sup, fold_sup]
    exact e_top _ _ (ref_cover (n (ix1 b)) s) _ _ hf hg
  unfold rfin
  refine (rquo_at _ _ b s j).trans (congrArg₂ Ideal.div ?_ ?_)
  · refine (rnum_at _ _ _ _ _ _ b _ s _).trans ?_
    rw [← e_num _ _ _ _ (ref_cover (n (ix1 b)) s) _ _ hf hg _ hm (fun t => rwins n cvs (ix3 b t 0)) (fun t => rwin n cv (ix4 b t 0 ⟨j.val % 64, by omega⟩))
      (fun i => rscale v (ix3 b i 0)) (fun i => rcode v (ix4 b i 0 ⟨j.val % 64, by omega⟩)) (fun t => rwins_at n cvs b t) (fun t => rwin_at n cv b t _) (fun _ => rfl) (fun _ => rfl)]
    refine congrArg₂ (fun x y : EReal => x + y) (Finset.sum_congr rfl fun t _ => ?_) (Finset.sum_congr rfl fun i _ => ?_)
    · exact congrArg (fun y : EReal => rwin n cv (ix4 b t 0 ⟨j.val % 64, by omega⟩) * (y * rwins n cvs (ix3 b t 0))) (rec_at sc sn b _ s t)
    · exact congrArg (fun y : EReal => rcode v (ix4 b i 0 ⟨j.val % 64, by omega⟩) * (y * rscale v (ix3 b i 0))) (ren_at sc sn b _ s i)
  · refine (rden_at _ _ b _ s).trans ?_
    rw [← e_den _ _ (ref_cover (n (ix1 b)) s) _ _ hf hg _ hm]
    exact congrArg₂ (fun x y : EReal => x + y) (Finset.sum_congr rfl fun t _ => rec_at sc sn b _ s t) (Finset.sum_congr rfl fun i _ => ren_at sc sn b _ s i)

/-- The attention results are one array. -/
theorem attn_eq (hk : Rows k) (hv : Rows v) :
    transpose Cert.KernelIdeal.S4x3x1024 [1, 0, 2] (outArr q k v ck cv cks cvs n) Cert.KernelIdeal.Gen.transposes_S3x4x1024_S4x3x1024_1_0_2
      = attnOf q k v ck cv cks cvs n := by
  funext i
  obtain ⟨b, s, j, rfl⟩ : ∃ (b : Fin 4) (s : Fin 3) (j : Fin 1024), i = ix3 b s j := ⟨i 0, i 1, i 2, by funext a; fin_cases a <;> rfl⟩
  rw [outT_at, ref_at]
  exact kernel_at n q k v ck cv cks cvs hk hv s b j

end

end Cert.AttnEq

end
-- ==== Proof.PreRange.lean ====
module

public import proofs.«01_k».proof.Proof.RefQuantAt
public import proofs.«01_k».proof.Proof.Gen.Pre_pre
public import Idealize.ShloMosaic.Lib.ReduceAll

/-!
# What the precondition says of a row of the new keys and of the new values
-/

set_option maxRecDepth 16384

@[expose] public section

noncomputable section

namespace Cert.PreRange

open Cert.Quant Cert.ReferenceIdeal.Val
open Idealize.ShloMosaic Idealize.SL.Sem

variable [Cert.Pre_pre.Facts]

open Cert.Pre_pre Cert.Pre_pre.Facts

/-- One bit per row: the row is zero, or its magnitude is in range. -/
def rowOk (x : Vec Ideal S4x3x1x64 .bf16) : IVec S4x3x1 1 :=
  let a : FVec Ideal S4x3x1 .f32 := Host.reduce FloatOps.maximumf (Host.absf (extf .f32 x bitsLt_bf16_f32)) (constant (F := Ideal) S_ .f32 0xFF800000#32) reducesTo_S4x3x1x64_S4x3x1_d3 h_S_
  ori (cmpf .oeq a (broadcastInDim S4x3x1 ![] bcast_S_S4x3x1 (constant (F := Ideal) S_ .f32 0x00000000#32)))
    (andi (cmpf .oge (mulf a (broadcastInDim S4x3x1 ![] bcast_S_S4x3x1 (constant (F := Ideal) S_ .f32 0x3B124925#32))) (broadcastInDim S4x3x1 ![] bcast_S_S4x3x1 (constant (F := Ideal) S_ .f32 0x00800000#32)))
      (cmpf .ole a (broadcastInDim S4x3x1 ![] bcast_S_S4x3x1 (constant (F := Ideal) S_ .f32 0x7F7F0000#32))))

theorem rowOk_at (x : Vec Ideal S4x3x1x64 .bf16) (b : Fin 4) (s : Fin 3) : rowOk x (ix3 b s 0)
    = IntOp.ori (FloatOps.cmpf (φ := .f32) .oeq (rowMax x b s : Ideal .f32) (Ideal.ofBits .f32 0x00000000#32))
      (IntOp.andi (FloatOps.cmpf (φ := .f32) .oge (rowMax x b s * Ideal.ofBits .f32 0x3B124925#32 : EReal) (Ideal.ofBits .f32 0x00800000#32))
        (FloatOps.cmpf (φ := .f32) .ole (rowMax x b s : Ideal .f32) (Ideal.ofBits .f32 0x7F7F0000#32))) := by
  rw [← rmax_at]
  rfl

theorem inRange_of (x : Vec Ideal S4x3x1x64 .bf16) (b : Fin 4) (s : Fin 3) (h : rowOk x (ix3 b s 0) = 1#1) : InRange (rowMax x b s) := by
  rw [rowOk_at] at h
  unfold InRange
  generalize rowMax x b s = a at h ⊢
  have h' : (BitVec.ofBool (decide (a = Ideal.ofBits .f32 0x00000000#32))) ||| ((BitVec.ofBool (decide (Ideal.ofBits .f32 0x00800000#32 ≤ a * Ideal.ofBits .f32 0x3B124925#32))) &&& BitVec.ofBool (decide (a ≤ Ideal.ofBits .f32 0x7F7F0000#32))) = 1#1 := h
  rw [Ideal.ofBits_zero .f32] at h'
  by_cases h0 : a = 0
  · exact Or.inl h0
  · by_cases h1 : Ideal.ofBits .f32 0x00800000#32 ≤ a * Ideal.ofBits .f32 0x3B124925#32 <;> by_cases h2 : a ≤ Ideal.ofBits .f32 0x7F7F0000#32
    · exact Or.inr ⟨h1, h2⟩
    all_goals (exfalso; simp [h0, h1, h2] at h')

/-- The precondition, row by row. -/
theorem of_fn (x0 : FVec Ideal S4x3x16x64 .bf16) (x1 x2 : FVec Ideal S4x3x1x64 .bf16) (x3 x4 : FVec Ideal S4x131072x1x64 .fp8e4m3) (x5 x6 : FVec Ideal S4x131072x1 .f32) (x7 : IVec S4 32)
    (i : S_.Idx) (h : Cert.Pre_pre.fn (F := Ideal) x0 x1 x2 x3 x4 x5 x6 x7 i = 1#1) (b : Fin 4) (s : Fin 3) :
    InRange (rowMax x1 b s) ∧ InRange (rowMax x2 b s) := by
  have hr : Cert.Pre_pre.fn (F := Ideal) x0 x1 x2 x3 x4 x5 x6 x7 i
      = IntOp.andi (Host.reduce IntOp.andi (rowOk x1) (constantI S_ 1 1#1) reducesTo_S4x3x1_S_d0_1_2 h_S_ i)
        (Host.reduce IntOp.andi (rowOk x2) (constantI S_ 1 1#1) reducesTo_S4x3x1_S_d0_1_2 h_S_ i) := rfl
  rw [hr] at h
  have e : ∀ i : S_.Idx, i = i := fun _ => rfl
  have h12 : Host.reduce IntOp.andi (rowOk x1) (constantI S_ 1 1#1) reducesTo_S4x3x1_S_d0_1_2 h_S_ i = 1#1 ∧ Host.reduce IntOp.andi (rowOk x2) (constantI S_ 1 1#1) reducesTo_S4x3x1_S_d0_1_2 h_S_ i = 1#1 := by
    revert h
    generalize Host.reduce IntOp.andi (rowOk x1) (constantI S_ 1 1#1) reducesTo_S4x3x1_S_d0_1_2 h_S_ i = y
    generalize Host.reduce IntOp.andi (rowOk x2) (constantI S_ 1 1#1) reducesTo_S4x3x1_S_d0_1_2 h_S_ i = z
    revert y z
    decide
  refine ⟨inRange_of _ _ _ ?_, inRange_of _ _ _ ?_⟩
  · exact Host.reduce_andi_all (rowOk x1) (constantI S_ 1 1#1) reducesTo_S4x3x1_S_d0_1_2 h_S_ i h12.1 (ix3 b s 0)
  · exact Host.reduce_andi_all (rowOk x2) (constantI S_ 1 1#1) reducesTo_S4x3x1_S_d0_1_2 h_S_ i h12.2 (ix3 b s 0)

end Cert.PreRange

end
-- ==== Proof.Algebraic.lean ====
module

public import proofs.«01_k».proof.Defs
public import proofs.«01_k».proof.Proof.AttnEq
public import proofs.«01_k».proof.Proof.PreRange

/-!
# The kernel's idealization computes what the reference does
-/

set_option maxRecDepth 16384

@[expose] public section

noncomputable section

namespace Cert.Claims

open Idealize.ShloMosaic Idealize.SL.Sem Cert.QuantEq

/-- What the precondition says of a device's new keys and new values. -/
theorem rows_of (m : (l : Loc Cert.KernelIdeal.nD Cert.KernelIdeal.τ Cert.KernelIdeal.sig) → Buf (Elt Ideal) l)
    (h : Cert.Pre_KernelIdeal_pre (hPre_pre := Cert.Pre_pre.Gen.facts) m) (c : Dev Cert.KernelIdeal.nD) :
    Rows (m ((c.tc : Thread Cert.KernelIdeal.nD Cert.KernelIdeal.τ).loc Cert.KernelIdeal.main_arg1)) ∧ Rows (m ((c.tc : Thread Cert.KernelIdeal.nD Cert.KernelIdeal.τ).loc Cert.KernelIdeal.main_arg2)) := by
  have hi := congrFun (h c) (fun a => a.elim0)
  have := fun b s => @Cert.PreRange.of_fn Cert.Pre_pre.Gen.facts _ _ _ _ _ _ _ _ _ hi b s
  exact ⟨fun b s => (this b s).1, fun b s => (this b s).2⟩

/-- All five results agree. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := by
  intro m g m' g' hpre hargs
  refine ⟨fun c => Cert.ReferenceIdeal.Val.attnOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Val.rcode (m ((c.tc : Thread Cert.KernelIdeal.nD Cert.KernelIdeal.τ).loc Cert.KernelIdeal.main_arg1)), fun c => Cert.ReferenceIdeal.Val.rscale (m ((c.tc : Thread Cert.KernelIdeal.nD Cert.KernelIdeal.τ).loc Cert.KernelIdeal.main_arg1)),
    fun c => Cert.ReferenceIdeal.Val.rcode (m ((c.tc : Thread Cert.KernelIdeal.nD Cert.KernelIdeal.τ).loc Cert.KernelIdeal.main_arg2)), fun c => Cert.ReferenceIdeal.Val.rscale (m ((c.tc : Thread Cert.KernelIdeal.nD Cert.KernelIdeal.τ).loc Cert.KernelIdeal.main_arg2)), ?_, ?_⟩
  · refine (θ_run (Cert.KernelIdeal.defs (F := Ideal)) _ _).mono (fun r h c => ?_) (θ_run_and (Cert.KernelIdeal.Run.run_results m g) (Cert.KernelIdeal.Run.frame m g))
    obtain ⟨hv, hf, -⟩ := h
    obtain ⟨h0, h1, h2, h3, h4⟩ := hv c
    obtain ⟨hk, hw⟩ := rows_of m hpre c
    exact ⟨h0.trans (Cert.AttnEq.attn_eq _ _ _ _ _ _ _ _ hk hw), h1.trans (codes_eq _ hk), h2.trans (scales_eq _ hk), h3.trans (codes_eq _ hw), h4.trans (scales_eq _ hw), hf c⟩
  · refine (θ_run (Cert.ReferenceIdeal.defs (F := Ideal)) _ _).mono (fun r h c => ?_) (θ_run_and (Cert.ReferenceIdeal.Val.run_value m' g') (Cert.ReferenceIdeal.Gen.unchanged m' g'))
    obtain ⟨hv, hf⟩ := h
    obtain ⟨h0, h1, h2, h3, h4⟩ := hv c
    obtain ⟨a0, a1, a2, a3, a4, a5, a6, a7⟩ := hargs c
    rw [a0, a1, a2, a3, a4, a5, a6, a7] at h0
    rw [a1] at h1 h2
    rw [a2] at h3 h4
    exact ⟨h0, h1, h2, h3, h4, hf c⟩

end Cert.Claims

end
-- ==== Proof.lean ====
module

public import proofs.«01_k».proof.Defs
public import proofs.«01_k».proof.Proof.Claims
public import proofs.«01_k».proof.Proof.Algebraic
public import proofs.«01_k».proof.Proof.Gen.Pre_pre

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pre.Gen.facts,
  Cert.Claims.frame_p, Cert.Claims.frame_pi, Cert.Claims.frame_pi_pre, Cert.Claims.frame_ri, Cert.Claims.frame_ri_pre,
  Cert.Claims.preserves, Cert.Claims.algebraic⟩

end Cert.Proof

end
